-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnRefIdeal (m : (ℓ : Loc Cert.SampleFfnRefIdeal.nD Cert.SampleFfnRefIdeal.τ Cert.SampleFfnRefIdeal.sig) → Buf (Elt Ideal) ℓ) : Prop :=
  True

def Pre_S5 (m : (ℓ : Loc Cert.S5.nD Cert.S5.τ Cert.S5.sig) → Buf (Elt Bits) ℓ) : Prop :=
  True

def Pre_S5Ideal (m : (ℓ : Loc Cert.S5Ideal.nD Cert.S5Ideal.τ Cert.S5Ideal.sig) → Buf (Elt Ideal) ℓ) : Prop :=
  True

def Pre_S5RefIdeal (m : (ℓ : Loc Cert.S5RefIdeal.nD Cert.S5RefIdeal.τ Cert.S5RefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4)
      ∧ r.2.mem ((c.tc : Thread Cert.SampleFfn.nD Cert.SampleFfn.τ).loc Cert.SampleFfn.main_arg5) = m ((c.tc : Thread Cert.SampleFfn.nD Cert.SampleFfn.τ).loc Cert.SampleFfn.main_arg5)
      ∧ r.2.mem ((c.tc : Thread Cert.SampleFfn.nD Cert.SampleFfn.τ).loc Cert.SampleFfn.main_arg6) = m ((c.tc : Thread Cert.SampleFfn.nD Cert.SampleFfn.τ).loc Cert.SampleFfn.main_arg6)
      ∧ r.2.mem ((c.tc : Thread Cert.SampleFfn.nD Cert.SampleFfn.τ).loc Cert.SampleFfn.main_arg7) = m ((c.tc : Thread Cert.SampleFfn.nD Cert.SampleFfn.τ).loc Cert.SampleFfn.main_arg7))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
      ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
      ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
      ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ r.2.sem = fun _ => 0)

def quiescent_SampleFfnRefIdeal [hSampleFfnRefIdeal : Cert.SampleFfnRefIdeal.Facts] : Prop :=
  ∀ (m : (ℓ : Loc Cert.SampleFfnRefIdeal.nD Cert.SampleFfnRefIdeal.τ Cert.SampleFfnRefIdeal.sig) → Buf (Elt Ideal) ℓ) (g : Dev Cert.SampleFfnRefIdeal.nD → PrngReg), Pre_SampleFfnRefIdeal m →
    θ_run (Cert.SampleFfnRefIdeal.defs (F := Ideal)) (onTc (τ := Cert.SampleFfnRefIdeal.τ) (Cert.SampleFfnRefIdeal.main (F := Ideal))) ⟨m, fun _ => 0, g⟩ (fun r => (∀ c : Dev Cert.SampleFfnRefIdeal.nD,
      r.2.mem ((c.tc : Thread Cert.SampleFfnRefIdeal.nD Cert.SampleFfnRefIdeal.τ).loc Cert.SampleFfnRefIdeal.main_arg0) = m ((c.tc : Thread Cert.SampleFfnRefIdeal.nD Cert.SampleFfnRefIdeal.τ).loc Cert.SampleFfnRefIdeal.main_arg0)
      ∧ r.2.mem ((c.tc : Thread Cert.SampleFfnRefIdeal.nD Cert.SampleFfnRefIdeal.τ).loc Cert.SampleFfnRefIdeal.main_arg1) = m ((c.tc : Thread Cert.SampleFfnRefIdeal.nD Cert.SampleFfnRefIdeal.τ).loc Cert.SampleFfnRefIdeal.main_arg1)
      ∧ r.2.mem ((c.tc : Thread Cert.SampleFfnRefIdeal.nD Cert.SampleFfnRefIdeal.τ).loc Cert.SampleFfnRefIdeal.main_arg2) = m ((c.tc : Thread Cert.SampleFfnRefIdeal.nD Cert.SampleFfnRefIdeal.τ).loc Cert.SampleFfnRefIdeal.main_arg2)
      ∧ r.2.mem ((c.tc : Thread Cert.SampleFfnRefIdeal.nD Cert.SampleFfnRefIdeal.τ).loc Cert.SampleFfnRefIdeal.main_arg3) = m ((c.tc : Thread Cert.SampleFfnRefIdeal.nD Cert.SampleFfnRefIdeal.τ).loc Cert.SampleFfnRefIdeal.main_arg3)
      ∧ r.2.mem ((c.tc : Thread Cert.SampleFfnRefIdeal.nD Cert.SampleFfnRefIdeal.τ).loc Cert.SampleFfnRefIdeal.main_arg4) = m ((c.tc : Thread Cert.SampleFfnRefIdeal.nD Cert.SampleFfnRefIdeal.τ).loc Cert.SampleFfnRefIdeal.main_arg4)
      ∧ r.2.mem ((c.tc : Thread Cert.SampleFfnRefIdeal.nD Cert.SampleFfnRefIdeal.τ).loc Cert.SampleFfnRefIdeal.main_arg5) = m ((c.tc : Thread Cert.SampleFfnRefIdeal.nD Cert.SampleFfnRefIdeal.τ).loc Cert.SampleFfnRefIdeal.main_arg5)
      ∧ r.2.mem ((c.tc : Thread Cert.SampleFfnRefIdeal.nD Cert.SampleFfnRefIdeal.τ).loc Cert.SampleFfnRefIdeal.main_arg6) = m ((c.tc : Thread Cert.SampleFfnRefIdeal.nD Cert.SampleFfnRefIdeal.τ).loc Cert.SampleFfnRefIdeal.main_arg6)
      ∧ r.2.mem ((c.tc : Thread Cert.SampleFfnRefIdeal.nD Cert.SampleFfnRefIdeal.τ).loc Cert.SampleFfnRefIdeal.main_arg7) = m ((c.tc : Thread Cert.SampleFfnRefIdeal.nD Cert.SampleFfnRefIdeal.τ).loc Cert.SampleFfnRefIdeal.main_arg7))
      ∧ r.2.sem = fun _ => 0)

def quiescent_S5 [hS5 : Cert.S5.Facts] : Prop :=
  ∀ (m : (ℓ : Loc Cert.S5.nD Cert.S5.τ Cert.S5.sig) → Buf (Elt Bits) ℓ) (g : Dev Cert.S5.nD → PrngReg), Pre_S5 m →
    θ_run (Cert.S5.defs (F := Bits)) (onTc (τ := Cert.S5.τ) (Cert.S5.main (F := Bits))) ⟨m, fun _ => 0, g⟩ (fun r => (∀ c : Dev Cert.S5.nD,
      r.2.mem ((c.tc : Thread Cert.S5.nD Cert.S5.τ).loc Cert.S5.main_arg0) = m ((c.tc : Thread Cert.S5.nD Cert.S5.τ).loc Cert.S5.main_arg0)
      ∧ r.2.mem ((c.tc : Thread Cert.S5.nD Cert.S5.τ).loc Cert.S5.main_arg1) = m ((c.tc : Thread Cert.S5.nD Cert.S5.τ).loc Cert.S5.main_arg1)
      ∧ r.2.mem ((c.tc : Thread Cert.S5.nD Cert.S5.τ).loc Cert.S5.main_arg2) = m ((c.tc : Thread Cert.S5.nD Cert.S5.τ).loc Cert.S5.main_arg2)
      ∧ r.2.mem ((c.tc : Thread Cert.S5.nD Cert.S5.τ).loc Cert.S5.main_arg3) = m ((c.tc : Thread Cert.S5.nD Cert.S5.τ).loc Cert.S5.main_arg3)
      ∧ r.2.mem ((c.tc : Thread Cert.S5.nD Cert.S5.τ).loc Cert.S5.main_arg4) = m ((c.tc : Thread Cert.S5.nD Cert.S5.τ).loc Cert.S5.main_arg4)
      ∧ r.2.mem ((c.tc : Thread Cert.S5.nD Cert.S5.τ).loc Cert.S5.main_arg5) = m ((c.tc : Thread Cert.S5.nD Cert.S5.τ).loc Cert.S5.main_arg5)
      ∧ r.2.mem ((c.tc : Thread Cert.S5.nD Cert.S5.τ).loc Cert.S5.main_arg6) = m ((c.tc : Thread Cert.S5.nD Cert.S5.τ).loc Cert.S5.main_arg6)
      ∧ r.2.mem ((c.tc : Thread Cert.S5.nD Cert.S5.τ).loc Cert.S5.main_arg7) = m ((c.tc : Thread Cert.S5.nD Cert.S5.τ).loc Cert.S5.main_arg7)
      ∧ r.2.mem ((c.tc : Thread Cert.S5.nD Cert.S5.τ).loc Cert.S5.main_arg8) = m ((c.tc : Thread Cert.S5.nD Cert.S5.τ).loc Cert.S5.main_arg8)
      ∧ r.2.mem ((c.tc : Thread Cert.S5.nD Cert.S5.τ).loc Cert.S5.main_arg9) = m ((c.tc : Thread Cert.S5.nD Cert.S5.τ).loc Cert.S5.main_arg9)
      ∧ r.2.mem ((c.tc : Thread Cert.S5.nD Cert.S5.τ).loc Cert.S5.main_arg10) = m ((c.tc : Thread Cert.S5.nD Cert.S5.τ).loc Cert.S5.main_arg10)
      ∧ r.2.mem ((c.tc : Thread Cert.S5.nD Cert.S5.τ).loc Cert.S5.main_arg11) = m ((c.tc : Thread Cert.S5.nD Cert.S5.τ).loc Cert.S5.main_arg11)
      ∧ r.2.mem ((c.tc : Thread Cert.S5.nD Cert.S5.τ).loc Cert.S5.main_arg12) = m ((c.tc : Thread Cert.S5.nD Cert.S5.τ).loc Cert.S5.main_arg12)
      ∧ r.2.mem ((c.tc : Thread Cert.S5.nD Cert.S5.τ).loc Cert.S5.main_arg13) = m ((c.tc : Thread Cert.S5.nD Cert.S5.τ).loc Cert.S5.main_arg13)
      ∧ r.2.mem ((c.tc : Thread Cert.S5.nD Cert.S5.τ).loc Cert.S5.main_arg14) = m ((c.tc : Thread Cert.S5.nD Cert.S5.τ).loc Cert.S5.main_arg14)
      ∧ r.2.mem ((c.tc : Thread Cert.S5.nD Cert.S5.τ).loc Cert.S5.main_arg15) = m ((c.tc : Thread Cert.S5.nD Cert.S5.τ).loc Cert.S5.main_arg15))
      ∧ r.2.sem = fun _ => 0)

def quiescent_S5Ideal [hS5Ideal : Cert.S5Ideal.Facts] : Prop :=
  ∀ (m : (ℓ : Loc Cert.S5Ideal.nD Cert.S5Ideal.τ Cert.S5Ideal.sig) → Buf (Elt Ideal) ℓ) (g : Dev Cert.S5Ideal.nD → PrngReg), Pre_S5Ideal m →
    θ_run (Cert.S5Ideal.defs (F := Ideal)) (onTc (τ := Cert.S5Ideal.τ) (Cert.S5Ideal.main (F := Ideal))) ⟨m, fun _ => 0, g⟩ (fun r => (∀ c : Dev Cert.S5Ideal.nD,
      r.2.mem ((c.tc : Thread Cert.S5Ideal.nD Cert.S5Ideal.τ).loc Cert.S5Ideal.main_arg0) = m ((c.tc : Thread Cert.S5Ideal.nD Cert.S5Ideal.τ).loc Cert.S5Ideal.main_arg0)
      ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
      ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
      ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
      ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
      ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
      ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
      ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
      ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
      ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
      ∧ r.2.mem ((c.tc : Thread Cert.S5Ideal.nD Cert.S5Ideal.τ).loc Cert.S5Ideal.main_arg10) = m ((c.tc : Thread Cert.S5Ideal.nD Cert.S5Ideal.τ).loc Cert.S5Ideal.main_arg10)
      ∧ r.2.mem ((c.tc : Thread Cert.S5Ideal.nD Cert.S5Ideal.τ).loc Cert.S5Ideal.main_arg11) = m ((c.tc : Thread Cert.S5Ideal.nD Cert.S5Ideal.τ).loc Cert.S5Ideal.main_arg11)
      ∧ r.2.mem ((c.tc : Thread Cert.S5Ideal.nD Cert.S5Ideal.τ).loc Cert.S5Ideal.main_arg12) = m ((c.tc : Thread Cert.S5Ideal.nD Cert.S5Ideal.τ).loc Cert.S5Ideal.main_arg12)
      ∧ r.2.mem ((c.tc : Thread Cert.S5Ideal.nD Cert.S5Ideal.τ).loc Cert.S5Ideal.main_arg13) = m ((c.tc : Thread Cert.S5Ideal.nD Cert.S5Ideal.τ).loc Cert.S5Ideal.main_arg13)
      ∧ r.2.mem ((c.tc : Thread Cert.S5Ideal.nD Cert.S5Ideal.τ).loc Cert.S5Ideal.main_arg14) = m ((c.tc : Thread Cert.S5Ideal.nD Cert.S5Ideal.τ).loc Cert.S5Ideal.main_arg14)
      ∧ r.2.mem ((c.tc : Thread Cert.S5Ideal.nD Cert.S5Ideal.τ).loc Cert.S5Ideal.main_arg15) = m ((c.tc : Thread Cert.S5Ideal.nD Cert.S5Ideal.τ).loc Cert.S5Ideal.main_arg15))
      ∧ r.2.sem = fun _ => 0)

def quiescent_S5RefIdeal [hS5RefIdeal : Cert.S5RefIdeal.Facts] : Prop :=
  ∀ (m : (ℓ : Loc Cert.S5RefIdeal.nD Cert.S5RefIdeal.τ Cert.S5RefIdeal.sig) → Buf (Elt Ideal) ℓ) (g : Dev Cert.S5RefIdeal.nD → PrngReg), Pre_S5RefIdeal m →
    θ_run (Cert.S5RefIdeal.defs (F := Ideal)) (onTc (τ := Cert.S5RefIdeal.τ) (Cert.S5RefIdeal.main (F := Ideal))) ⟨m, fun _ => 0, g⟩ (fun r => (∀ c : Dev Cert.S5RefIdeal.nD,
      r.2.mem ((c.tc : Thread Cert.S5RefIdeal.nD Cert.S5RefIdeal.τ).loc Cert.S5RefIdeal.main_arg0) = m ((c.tc : Thread Cert.S5RefIdeal.nD Cert.S5RefIdeal.τ).loc Cert.S5RefIdeal.main_arg0)
      ∧ r.2.mem ((c.tc : Thread Cert.S5RefIdeal.nD Cert.S5RefIdeal.τ).loc Cert.S5RefIdeal.main_arg1) = m ((c.tc : Thread Cert.S5RefIdeal.nD Cert.S5RefIdeal.τ).loc Cert.S5RefIdeal.main_arg1)
      ∧ r.2.mem ((c.tc : Thread Cert.S5RefIdeal.nD Cert.S5RefIdeal.τ).loc Cert.S5RefIdeal.main_arg2) = m ((c.tc : Thread Cert.S5RefIdeal.nD Cert.S5RefIdeal.τ).loc Cert.S5RefIdeal.main_arg2)
      ∧ r.2.mem ((c.tc : Thread Cert.S5RefIdeal.nD Cert.S5RefIdeal.τ).loc Cert.S5RefIdeal.main_arg3) = m ((c.tc : Thread Cert.S5RefIdeal.nD Cert.S5RefIdeal.τ).loc Cert.S5RefIdeal.main_arg3)
      ∧ r.2.mem ((c.tc : Thread Cert.S5RefIdeal.nD Cert.S5RefIdeal.τ).loc Cert.S5RefIdeal.main_arg4) = m ((c.tc : Thread Cert.S5RefIdeal.nD Cert.S5RefIdeal.τ).loc Cert.S5RefIdeal.main_arg4)
      ∧ r.2.mem ((c.tc : Thread Cert.S5RefIdeal.nD Cert.S5RefIdeal.τ).loc Cert.S5RefIdeal.main_arg5) = m ((c.tc : Thread Cert.S5RefIdeal.nD Cert.S5RefIdeal.τ).loc Cert.S5RefIdeal.main_arg5)
      ∧ r.2.mem ((c.tc : Thread Cert.S5RefIdeal.nD Cert.S5RefIdeal.τ).loc Cert.S5RefIdeal.main_arg6) = m ((c.tc : Thread Cert.S5RefIdeal.nD Cert.S5RefIdeal.τ).loc Cert.S5RefIdeal.main_arg6)
      ∧ r.2.mem ((c.tc : Thread Cert.S5RefIdeal.nD Cert.S5RefIdeal.τ).loc Cert.S5RefIdeal.main_arg7) = m ((c.tc : Thread Cert.S5RefIdeal.nD Cert.S5RefIdeal.τ).loc Cert.S5RefIdeal.main_arg7)
      ∧ r.2.mem ((c.tc : Thread Cert.S5RefIdeal.nD Cert.S5RefIdeal.τ).loc Cert.S5RefIdeal.main_arg8) = m ((c.tc : Thread Cert.S5RefIdeal.nD Cert.S5RefIdeal.τ).loc Cert.S5RefIdeal.main_arg8)
      ∧ r.2.mem ((c.tc : Thread Cert.S5RefIdeal.nD Cert.S5RefIdeal.τ).loc Cert.S5RefIdeal.main_arg9) = m ((c.tc : Thread Cert.S5RefIdeal.nD Cert.S5RefIdeal.τ).loc Cert.S5RefIdeal.main_arg9)
      ∧ r.2.mem ((c.tc : Thread Cert.S5RefIdeal.nD Cert.S5RefIdeal.τ).loc Cert.S5RefIdeal.main_arg10) = m ((c.tc : Thread Cert.S5RefIdeal.nD Cert.S5RefIdeal.τ).loc Cert.S5RefIdeal.main_arg10)
      ∧ r.2.mem ((c.tc : Thread Cert.S5RefIdeal.nD Cert.S5RefIdeal.τ).loc Cert.S5RefIdeal.main_arg11) = m ((c.tc : Thread Cert.S5RefIdeal.nD Cert.S5RefIdeal.τ).loc Cert.S5RefIdeal.main_arg11)
      ∧ r.2.mem ((c.tc : Thread Cert.S5RefIdeal.nD Cert.S5RefIdeal.τ).loc Cert.S5RefIdeal.main_arg12) = m ((c.tc : Thread Cert.S5RefIdeal.nD Cert.S5RefIdeal.τ).loc Cert.S5RefIdeal.main_arg12)
      ∧ r.2.mem ((c.tc : Thread Cert.S5RefIdeal.nD Cert.S5RefIdeal.τ).loc Cert.S5RefIdeal.main_arg13) = m ((c.tc : Thread Cert.S5RefIdeal.nD Cert.S5RefIdeal.τ).loc Cert.S5RefIdeal.main_arg13)
      ∧ r.2.mem ((c.tc : Thread Cert.S5RefIdeal.nD Cert.S5RefIdeal.τ).loc Cert.S5RefIdeal.main_arg14) = m ((c.tc : Thread Cert.S5RefIdeal.nD Cert.S5RefIdeal.τ).loc Cert.S5RefIdeal.main_arg14)
      ∧ r.2.mem ((c.tc : Thread Cert.S5RefIdeal.nD Cert.S5RefIdeal.τ).loc Cert.S5RefIdeal.main_arg15) = m ((c.tc : Thread Cert.S5RefIdeal.nD Cert.S5RefIdeal.τ).loc Cert.S5RefIdeal.main_arg15))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v9_0)) (v1 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9_0) = v0 c
          ∧ r.2.mem ((c.tc : Thread Cert.FfnIdeal.nD Cert.FfnIdeal.τ).loc Cert.FfnIdeal.main_v9_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v61) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v9)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v9) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v45) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v5) = v0 c
          ∧ r.2.mem ((c.tc : Thread Cert.MemKvRefIdeal.nD Cert.MemKvRefIdeal.τ).loc Cert.MemKvRefIdeal.main_v7) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v3)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v3) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v14) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_SampleFfn_SampleFfnIdeal : Prop :=
  True

def algebraic_SampleFfnIdeal_SampleFfnRefIdeal [hSampleFfnIdeal : Cert.SampleFfnIdeal.Facts] [hSampleFfnRefIdeal : Cert.SampleFfnRefIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnRefIdeal.nD Cert.SampleFfnRefIdeal.τ Cert.SampleFfnRefIdeal.sig) → Buf (Elt Ideal) ℓ) (g' : Dev Cert.SampleFfnRefIdeal.nD → PrngReg), Pre_SampleFfnIdeal m →
    (∀ c : Dev Cert.SampleFfnIdeal.nD,
      m' ((c.tc : Thread Cert.SampleFfnRefIdeal.nD Cert.SampleFfnRefIdeal.τ).loc Cert.SampleFfnRefIdeal.main_arg0) = m ((c.tc : Thread Cert.SampleFfnIdeal.nD Cert.SampleFfnIdeal.τ).loc Cert.SampleFfnIdeal.main_arg0)
      ∧ m' ((c.tc : Thread Cert.SampleFfnRefIdeal.nD Cert.SampleFfnRefIdeal.τ).loc Cert.SampleFfnRefIdeal.main_arg1) = m ((c.tc : Thread Cert.SampleFfnIdeal.nD Cert.SampleFfnIdeal.τ).loc Cert.SampleFfnIdeal.main_arg1)
      ∧ m' ((c.tc : Thread Cert.SampleFfnRefIdeal.nD Cert.SampleFfnRefIdeal.τ).loc Cert.SampleFfnRefIdeal.main_arg2) = m ((c.tc : Thread Cert.SampleFfnIdeal.nD Cert.SampleFfnIdeal.τ).loc Cert.SampleFfnIdeal.main_arg2)
      ∧ m' ((c.tc : Thread Cert.SampleFfnRefIdeal.nD Cert.SampleFfnRefIdeal.τ).loc Cert.SampleFfnRefIdeal.main_arg3) = m ((c.tc : Thread Cert.SampleFfnIdeal.nD Cert.SampleFfnIdeal.τ).loc Cert.SampleFfnIdeal.main_arg3)
      ∧ m' ((c.tc : Thread Cert.SampleFfnRefIdeal.nD Cert.SampleFfnRefIdeal.τ).loc Cert.SampleFfnRefIdeal.main_arg4) = m ((c.tc : Thread Cert.SampleFfnIdeal.nD Cert.SampleFfnIdeal.τ).loc Cert.SampleFfnIdeal.main_arg4)
      ∧ m' ((c.tc : Thread Cert.SampleFfnRefIdeal.nD Cert.SampleFfnRefIdeal.τ).loc Cert.SampleFfnRefIdeal.main_arg5) = m ((c.tc : Thread Cert.SampleFfnIdeal.nD Cert.SampleFfnIdeal.τ).loc Cert.SampleFfnIdeal.main_arg5)
      ∧ m' ((c.tc : Thread Cert.SampleFfnRefIdeal.nD Cert.SampleFfnRefIdeal.τ).loc Cert.SampleFfnRefIdeal.main_arg6) = m ((c.tc : Thread Cert.SampleFfnIdeal.nD Cert.SampleFfnIdeal.τ).loc Cert.SampleFfnIdeal.main_arg6)
      ∧ m' ((c.tc : Thread Cert.SampleFfnRefIdeal.nD Cert.SampleFfnRefIdeal.τ).loc Cert.SampleFfnRefIdeal.main_arg7) = m ((c.tc : Thread Cert.SampleFfnIdeal.nD Cert.SampleFfnIdeal.τ).loc Cert.SampleFfnIdeal.main_arg7)) →
    ∃ (v0 : (c : Dev Cert.SampleFfnIdeal.nD) → Buf (Elt Ideal) ((c.tc : Thread Cert.SampleFfnIdeal.nD Cert.SampleFfnIdeal.τ).loc Cert.SampleFfnIdeal.main_v9_0)) (v1 : (c : Dev Cert.SampleFfnIdeal.nD) → Buf (Elt Ideal) ((c.tc : Thread Cert.SampleFfnIdeal.nD Cert.SampleFfnIdeal.τ).loc Cert.SampleFfnIdeal.main_v9_1)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v9_0) = v0 c
          ∧ r.2.mem ((c.tc : Thread Cert.SampleFfnIdeal.nD Cert.SampleFfnIdeal.τ).loc Cert.SampleFfnIdeal.main_v9_1) = v1 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4)
          ∧ r.2.mem ((c.tc : Thread Cert.SampleFfnIdeal.nD Cert.SampleFfnIdeal.τ).loc Cert.SampleFfnIdeal.main_arg5) = m ((c.tc : Thread Cert.SampleFfnIdeal.nD Cert.SampleFfnIdeal.τ).loc Cert.SampleFfnIdeal.main_arg5)
          ∧ r.2.mem ((c.tc : Thread Cert.SampleFfnIdeal.nD Cert.SampleFfnIdeal.τ).loc Cert.SampleFfnIdeal.main_arg6) = m ((c.tc : Thread Cert.SampleFfnIdeal.nD Cert.SampleFfnIdeal.τ).loc Cert.SampleFfnIdeal.main_arg6)
          ∧ r.2.mem ((c.tc : Thread Cert.SampleFfnIdeal.nD Cert.SampleFfnIdeal.τ).loc Cert.SampleFfnIdeal.main_arg7) = m ((c.tc : Thread Cert.SampleFfnIdeal.nD Cert.SampleFfnIdeal.τ).loc Cert.SampleFfnIdeal.main_arg7))
      ∧ θ_run (Cert.SampleFfnRefIdeal.defs (F := Ideal)) (onTc (τ := Cert.SampleFfnRefIdeal.τ) (Cert.SampleFfnRefIdeal.main (F := Ideal))) ⟨m', fun _ => 0, g'⟩ (fun r => ∀ c : Dev Cert.SampleFfnRefIdeal.nD,
          r.2.mem ((c.tc : Thread Cert.SampleFfnRefIdeal.nD Cert.SampleFfnRefIdeal.τ).loc Cert.SampleFfnRefIdeal.main_v58) = v0 c
          ∧ r.2.mem ((c.tc : Thread Cert.SampleFfnRefIdeal.nD Cert.SampleFfnRefIdeal.τ).loc Cert.SampleFfnRefIdeal.main_v61) = v1 c
          ∧ r.2.mem ((c.tc : Thread Cert.SampleFfnRefIdeal.nD Cert.SampleFfnRefIdeal.τ).loc Cert.SampleFfnRefIdeal.main_arg0) = m' ((c.tc : Thread Cert.SampleFfnRefIdeal.nD Cert.SampleFfnRefIdeal.τ).loc Cert.SampleFfnRefIdeal.main_arg0)
          ∧ r.2.mem ((c.tc : Thread Cert.SampleFfnRefIdeal.nD Cert.SampleFfnRefIdeal.τ).loc Cert.SampleFfnRefIdeal.main_arg1) = m' ((c.tc : Thread Cert.SampleFfnRefIdeal.nD Cert.SampleFfnRefIdeal.τ).loc Cert.SampleFfnRefIdeal.main_arg1)
          ∧ r.2.mem ((c.tc : Thread Cert.SampleFfnRefIdeal.nD Cert.SampleFfnRefIdeal.τ).loc Cert.SampleFfnRefIdeal.main_arg2) = m' ((c.tc : Thread Cert.SampleFfnRefIdeal.nD Cert.SampleFfnRefIdeal.τ).loc Cert.SampleFfnRefIdeal.main_arg2)
          ∧ r.2.mem ((c.tc : Thread Cert.SampleFfnRefIdeal.nD Cert.SampleFfnRefIdeal.τ).loc Cert.SampleFfnRefIdeal.main_arg3) = m' ((c.tc : Thread Cert.SampleFfnRefIdeal.nD Cert.SampleFfnRefIdeal.τ).loc Cert.SampleFfnRefIdeal.main_arg3)
          ∧ r.2.mem ((c.tc : Thread Cert.SampleFfnRefIdeal.nD Cert.SampleFfnRefIdeal.τ).loc Cert.SampleFfnRefIdeal.main_arg4) = m' ((c.tc : Thread Cert.SampleFfnRefIdeal.nD Cert.SampleFfnRefIdeal.τ).loc Cert.SampleFfnRefIdeal.main_arg4)
          ∧ r.2.mem ((c.tc : Thread Cert.SampleFfnRefIdeal.nD Cert.SampleFfnRefIdeal.τ).loc Cert.SampleFfnRefIdeal.main_arg5) = m' ((c.tc : Thread Cert.SampleFfnRefIdeal.nD Cert.SampleFfnRefIdeal.τ).loc Cert.SampleFfnRefIdeal.main_arg5)
          ∧ r.2.mem ((c.tc : Thread Cert.SampleFfnRefIdeal.nD Cert.SampleFfnRefIdeal.τ).loc Cert.SampleFfnRefIdeal.main_arg6) = m' ((c.tc : Thread Cert.SampleFfnRefIdeal.nD Cert.SampleFfnRefIdeal.τ).loc Cert.SampleFfnRefIdeal.main_arg6)
          ∧ r.2.mem ((c.tc : Thread Cert.SampleFfnRefIdeal.nD Cert.SampleFfnRefIdeal.τ).loc Cert.SampleFfnRefIdeal.main_arg7) = m' ((c.tc : Thread Cert.SampleFfnRefIdeal.nD Cert.SampleFfnRefIdeal.τ).loc Cert.SampleFfnRefIdeal.main_arg7))

def preserves_S5_S5Ideal : Prop :=
  True

def algebraic_S5Ideal_S5RefIdeal [hS5Ideal : Cert.S5Ideal.Facts] [hS5RefIdeal : Cert.S5RefIdeal.Facts] : Prop :=
  ∀ (m : (ℓ : Loc Cert.S5Ideal.nD Cert.S5Ideal.τ Cert.S5Ideal.sig) → Buf (Elt Ideal) ℓ) (g : Dev Cert.S5Ideal.nD → PrngReg)
    (m' : (ℓ : Loc Cert.S5RefIdeal.nD Cert.S5RefIdeal.τ Cert.S5RefIdeal.sig) → Buf (Elt Ideal) ℓ) (g' : Dev Cert.S5RefIdeal.nD → PrngReg), Pre_S5Ideal m →
    (∀ c : Dev Cert.S5Ideal.nD,
      m' ((c.tc : Thread Cert.S5RefIdeal.nD Cert.S5RefIdeal.τ).loc Cert.S5RefIdeal.main_arg0) = m ((c.tc : Thread Cert.S5Ideal.nD Cert.S5Ideal.τ).loc Cert.S5Ideal.main_arg0)
      ∧ m' ((c.tc : Thread Cert.S5RefIdeal.nD Cert.S5RefIdeal.τ).loc Cert.S5RefIdeal.main_arg1) = m ((c.tc : Thread Cert.S5Ideal.nD Cert.S5Ideal.τ).loc Cert.S5Ideal.main_arg1)
      ∧ m' ((c.tc : Thread Cert.S5RefIdeal.nD Cert.S5RefIdeal.τ).loc Cert.S5RefIdeal.main_arg2) = m ((c.tc : Thread Cert.S5Ideal.nD Cert.S5Ideal.τ).loc Cert.S5Ideal.main_arg2)
      ∧ m' ((c.tc : Thread Cert.S5RefIdeal.nD Cert.S5RefIdeal.τ).loc Cert.S5RefIdeal.main_arg3) = m ((c.tc : Thread Cert.S5Ideal.nD Cert.S5Ideal.τ).loc Cert.S5Ideal.main_arg3)
      ∧ m' ((c.tc : Thread Cert.S5RefIdeal.nD Cert.S5RefIdeal.τ).loc Cert.S5RefIdeal.main_arg4) = m ((c.tc : Thread Cert.S5Ideal.nD Cert.S5Ideal.τ).loc Cert.S5Ideal.main_arg4)
      ∧ m' ((c.tc : Thread Cert.S5RefIdeal.nD Cert.S5RefIdeal.τ).loc Cert.S5RefIdeal.main_arg5) = m ((c.tc : Thread Cert.S5Ideal.nD Cert.S5Ideal.τ).loc Cert.S5Ideal.main_arg5)
      ∧ m' ((c.tc : Thread Cert.S5RefIdeal.nD Cert.S5RefIdeal.τ).loc Cert.S5RefIdeal.main_arg6) = m ((c.tc : Thread Cert.S5Ideal.nD Cert.S5Ideal.τ).loc Cert.S5Ideal.main_arg6)
      ∧ m' ((c.tc : Thread Cert.S5RefIdeal.nD Cert.S5RefIdeal.τ).loc Cert.S5RefIdeal.main_arg7) = m ((c.tc : Thread Cert.S5Ideal.nD Cert.S5Ideal.τ).loc Cert.S5Ideal.main_arg7)
      ∧ m' ((c.tc : Thread Cert.S5RefIdeal.nD Cert.S5RefIdeal.τ).loc Cert.S5RefIdeal.main_arg8) = m ((c.tc : Thread Cert.S5Ideal.nD Cert.S5Ideal.τ).loc Cert.S5Ideal.main_arg8)
      ∧ m' ((c.tc : Thread Cert.S5RefIdeal.nD Cert.S5RefIdeal.τ).loc Cert.S5RefIdeal.main_arg9) = m ((c.tc : Thread Cert.S5Ideal.nD Cert.S5Ideal.τ).loc Cert.S5Ideal.main_arg9)
      ∧ m' ((c.tc : Thread Cert.S5RefIdeal.nD Cert.S5RefIdeal.τ).loc Cert.S5RefIdeal.main_arg10) = m ((c.tc : Thread Cert.S5Ideal.nD Cert.S5Ideal.τ).loc Cert.S5Ideal.main_arg10)
      ∧ m' ((c.tc : Thread Cert.S5RefIdeal.nD Cert.S5RefIdeal.τ).loc Cert.S5RefIdeal.main_arg11) = m ((c.tc : Thread Cert.S5Ideal.nD Cert.S5Ideal.τ).loc Cert.S5Ideal.main_arg11)
      ∧ m' ((c.tc : Thread Cert.S5RefIdeal.nD Cert.S5RefIdeal.τ).loc Cert.S5RefIdeal.main_arg12) = m ((c.tc : Thread Cert.S5Ideal.nD Cert.S5Ideal.τ).loc Cert.S5Ideal.main_arg12)
      ∧ m' ((c.tc : Thread Cert.S5RefIdeal.nD Cert.S5RefIdeal.τ).loc Cert.S5RefIdeal.main_arg13) = m ((c.tc : Thread Cert.S5Ideal.nD Cert.S5Ideal.τ).loc Cert.S5Ideal.main_arg13)
      ∧ m' ((c.tc : Thread Cert.S5RefIdeal.nD Cert.S5RefIdeal.τ).loc Cert.S5RefIdeal.main_arg14) = m ((c.tc : Thread Cert.S5Ideal.nD Cert.S5Ideal.τ).loc Cert.S5Ideal.main_arg14)
      ∧ m' ((c.tc : Thread Cert.S5RefIdeal.nD Cert.S5RefIdeal.τ).loc Cert.S5RefIdeal.main_arg15) = m ((c.tc : Thread Cert.S5Ideal.nD Cert.S5Ideal.τ).loc Cert.S5Ideal.main_arg15)) →
    ∃ (v0 : (c : Dev Cert.S5Ideal.nD) → Buf (Elt Ideal) ((c.tc : Thread Cert.S5Ideal.nD Cert.S5Ideal.τ).loc Cert.S5Ideal.main_v81_0)) (v1 : (c : Dev Cert.S5Ideal.nD) → Buf (Elt Ideal) ((c.tc : Thread Cert.S5Ideal.nD Cert.S5Ideal.τ).loc Cert.S5Ideal.main_v81_1)) (v2 : (c : Dev Cert.S5Ideal.nD) → Buf (Elt Ideal) ((c.tc : Thread Cert.S5Ideal.nD Cert.S5Ideal.τ).loc Cert.S5Ideal.main_v81_2)),
      θ_run (Cert.S5Ideal.defs (F := Ideal)) (onTc (τ := Cert.S5Ideal.τ) (Cert.S5Ideal.main (F := Ideal))) ⟨m, fun _ => 0, g⟩ (fun r => ∀ c : Dev Cert.S5Ideal.nD,
          r.2.mem ((c.tc : Thread Cert.S5Ideal.nD Cert.S5Ideal.τ).loc Cert.S5Ideal.main_v81_0) = v0 c
          ∧ r.2.mem ((c.tc : Thread Cert.S5Ideal.nD Cert.S5Ideal.τ).loc Cert.S5Ideal.main_v81_1) = v1 c
          ∧ r.2.mem ((c.tc : Thread Cert.S5Ideal.nD Cert.S5Ideal.τ).loc Cert.S5Ideal.main_v81_2) = v2 c
          ∧ r.2.mem ((c.tc : Thread Cert.S5Ideal.nD Cert.S5Ideal.τ).loc Cert.S5Ideal.main_arg0) = m ((c.tc : Thread Cert.S5Ideal.nD Cert.S5Ideal.τ).loc Cert.S5Ideal.main_arg0)
          ∧ r.2.mem ((c.tc : Thread Cert.S5Ideal.nD Cert.S5Ideal.τ).loc Cert.S5Ideal.main_arg1) = m ((c.tc : Thread Cert.S5Ideal.nD Cert.S5Ideal.τ).loc Cert.S5Ideal.main_arg1)
          ∧ r.2.mem ((c.tc : Thread Cert.S5Ideal.nD Cert.S5Ideal.τ).loc Cert.S5Ideal.main_arg2) = m ((c.tc : Thread Cert.S5Ideal.nD Cert.S5Ideal.τ).loc Cert.S5Ideal.main_arg2)
          ∧ r.2.mem ((c.tc : Thread Cert.S5Ideal.nD Cert.S5Ideal.τ).loc Cert.S5Ideal.main_arg3) = m ((c.tc : Thread Cert.S5Ideal.nD Cert.S5Ideal.τ).loc Cert.S5Ideal.main_arg3)
          ∧ r.2.mem ((c.tc : Thread Cert.S5Ideal.nD Cert.S5Ideal.τ).loc Cert.S5Ideal.main_arg4) = m ((c.tc : Thread Cert.S5Ideal.nD Cert.S5Ideal.τ).loc Cert.S5Ideal.main_arg4)
          ∧ r.2.mem ((c.tc : Thread Cert.S5Ideal.nD Cert.S5Ideal.τ).loc Cert.S5Ideal.main_arg5) = m ((c.tc : Thread Cert.S5Ideal.nD Cert.S5Ideal.τ).loc Cert.S5Ideal.main_arg5)
          ∧ r.2.mem ((c.tc : Thread Cert.S5Ideal.nD Cert.S5Ideal.τ).loc Cert.S5Ideal.main_arg6) = m ((c.tc : Thread Cert.S5Ideal.nD Cert.S5Ideal.τ).loc Cert.S5Ideal.main_arg6)
          ∧ r.2.mem ((c.tc : Thread Cert.S5Ideal.nD Cert.S5Ideal.τ).loc Cert.S5Ideal.main_arg7) = m ((c.tc : Thread Cert.S5Ideal.nD Cert.S5Ideal.τ).loc Cert.S5Ideal.main_arg7)
          ∧ r.2.mem ((c.tc : Thread Cert.S5Ideal.nD Cert.S5Ideal.τ).loc Cert.S5Ideal.main_arg8) = m ((c.tc : Thread Cert.S5Ideal.nD Cert.S5Ideal.τ).loc Cert.S5Ideal.main_arg8)
          ∧ r.2.mem ((c.tc : Thread Cert.S5Ideal.nD Cert.S5Ideal.τ).loc Cert.S5Ideal.main_arg9) = m ((c.tc : Thread Cert.S5Ideal.nD Cert.S5Ideal.τ).loc Cert.S5Ideal.main_arg9)
          ∧ r.2.mem ((c.tc : Thread Cert.S5Ideal.nD Cert.S5Ideal.τ).loc Cert.S5Ideal.main_arg10) = m ((c.tc : Thread Cert.S5Ideal.nD Cert.S5Ideal.τ).loc Cert.S5Ideal.main_arg10)
          ∧ r.2.mem ((c.tc : Thread Cert.S5Ideal.nD Cert.S5Ideal.τ).loc Cert.S5Ideal.main_arg11) = m ((c.tc : Thread Cert.S5Ideal.nD Cert.S5Ideal.τ).loc Cert.S5Ideal.main_arg11)
          ∧ r.2.mem ((c.tc : Thread Cert.S5Ideal.nD Cert.S5Ideal.τ).loc Cert.S5Ideal.main_arg12) = m ((c.tc : Thread Cert.S5Ideal.nD Cert.S5Ideal.τ).loc Cert.S5Ideal.main_arg12)
          ∧ r.2.mem ((c.tc : Thread Cert.S5Ideal.nD Cert.S5Ideal.τ).loc Cert.S5Ideal.main_arg13) = m ((c.tc : Thread Cert.S5Ideal.nD Cert.S5Ideal.τ).loc Cert.S5Ideal.main_arg13)
          ∧ r.2.mem ((c.tc : Thread Cert.S5Ideal.nD Cert.S5Ideal.τ).loc Cert.S5Ideal.main_arg14) = m ((c.tc : Thread Cert.S5Ideal.nD Cert.S5Ideal.τ).loc Cert.S5Ideal.main_arg14)
          ∧ r.2.mem ((c.tc : Thread Cert.S5Ideal.nD Cert.S5Ideal.τ).loc Cert.S5Ideal.main_arg15) = m ((c.tc : Thread Cert.S5Ideal.nD Cert.S5Ideal.τ).loc Cert.S5Ideal.main_arg15))
      ∧ θ_run (Cert.S5RefIdeal.defs (F := Ideal)) (onTc (τ := Cert.S5RefIdeal.τ) (Cert.S5RefIdeal.main (F := Ideal))) ⟨m', fun _ => 0, g'⟩ (fun r => ∀ c : Dev Cert.S5RefIdeal.nD,
          r.2.mem ((c.tc : Thread Cert.S5RefIdeal.nD Cert.S5RefIdeal.τ).loc Cert.S5RefIdeal.main_v204) = v0 c
          ∧ r.2.mem ((c.tc : Thread Cert.S5RefIdeal.nD Cert.S5RefIdeal.τ).loc Cert.S5RefIdeal.main_v205) = v1 c
          ∧ r.2.mem ((c.tc : Thread Cert.S5RefIdeal.nD Cert.S5RefIdeal.τ).loc Cert.S5RefIdeal.main_v206) = v2 c
          ∧ r.2.mem ((c.tc : Thread Cert.S5RefIdeal.nD Cert.S5RefIdeal.τ).loc Cert.S5RefIdeal.main_arg0) = m' ((c.tc : Thread Cert.S5RefIdeal.nD Cert.S5RefIdeal.τ).loc Cert.S5RefIdeal.main_arg0)
          ∧ r.2.mem ((c.tc : Thread Cert.S5RefIdeal.nD Cert.S5RefIdeal.τ).loc Cert.S5RefIdeal.main_arg1) = m' ((c.tc : Thread Cert.S5RefIdeal.nD Cert.S5RefIdeal.τ).loc Cert.S5RefIdeal.main_arg1)
          ∧ r.2.mem ((c.tc : Thread Cert.S5RefIdeal.nD Cert.S5RefIdeal.τ).loc Cert.S5RefIdeal.main_arg2) = m' ((c.tc : Thread Cert.S5RefIdeal.nD Cert.S5RefIdeal.τ).loc Cert.S5RefIdeal.main_arg2)
          ∧ r.2.mem ((c.tc : Thread Cert.S5RefIdeal.nD Cert.S5RefIdeal.τ).loc Cert.S5RefIdeal.main_arg3) = m' ((c.tc : Thread Cert.S5RefIdeal.nD Cert.S5RefIdeal.τ).loc Cert.S5RefIdeal.main_arg3)
          ∧ r.2.mem ((c.tc : Thread Cert.S5RefIdeal.nD Cert.S5RefIdeal.τ).loc Cert.S5RefIdeal.main_arg4) = m' ((c.tc : Thread Cert.S5RefIdeal.nD Cert.S5RefIdeal.τ).loc Cert.S5RefIdeal.main_arg4)
          ∧ r.2.mem ((c.tc : Thread Cert.S5RefIdeal.nD Cert.S5RefIdeal.τ).loc Cert.S5RefIdeal.main_arg5) = m' ((c.tc : Thread Cert.S5RefIdeal.nD Cert.S5RefIdeal.τ).loc Cert.S5RefIdeal.main_arg5)
          ∧ r.2.mem ((c.tc : Thread Cert.S5RefIdeal.nD Cert.S5RefIdeal.τ).loc Cert.S5RefIdeal.main_arg6) = m' ((c.tc : Thread Cert.S5RefIdeal.nD Cert.S5RefIdeal.τ).loc Cert.S5RefIdeal.main_arg6)
          ∧ r.2.mem ((c.tc : Thread Cert.S5RefIdeal.nD Cert.S5RefIdeal.τ).loc Cert.S5RefIdeal.main_arg7) = m' ((c.tc : Thread Cert.S5RefIdeal.nD Cert.S5RefIdeal.τ).loc Cert.S5RefIdeal.main_arg7)
          ∧ r.2.mem ((c.tc : Thread Cert.S5RefIdeal.nD Cert.S5RefIdeal.τ).loc Cert.S5RefIdeal.main_arg8) = m' ((c.tc : Thread Cert.S5RefIdeal.nD Cert.S5RefIdeal.τ).loc Cert.S5RefIdeal.main_arg8)
          ∧ r.2.mem ((c.tc : Thread Cert.S5RefIdeal.nD Cert.S5RefIdeal.τ).loc Cert.S5RefIdeal.main_arg9) = m' ((c.tc : Thread Cert.S5RefIdeal.nD Cert.S5RefIdeal.τ).loc Cert.S5RefIdeal.main_arg9)
          ∧ r.2.mem ((c.tc : Thread Cert.S5RefIdeal.nD Cert.S5RefIdeal.τ).loc Cert.S5RefIdeal.main_arg10) = m' ((c.tc : Thread Cert.S5RefIdeal.nD Cert.S5RefIdeal.τ).loc Cert.S5RefIdeal.main_arg10)
          ∧ r.2.mem ((c.tc : Thread Cert.S5RefIdeal.nD Cert.S5RefIdeal.τ).loc Cert.S5RefIdeal.main_arg11) = m' ((c.tc : Thread Cert.S5RefIdeal.nD Cert.S5RefIdeal.τ).loc Cert.S5RefIdeal.main_arg11)
          ∧ r.2.mem ((c.tc : Thread Cert.S5RefIdeal.nD Cert.S5RefIdeal.τ).loc Cert.S5RefIdeal.main_arg12) = m' ((c.tc : Thread Cert.S5RefIdeal.nD Cert.S5RefIdeal.τ).loc Cert.S5RefIdeal.main_arg12)
          ∧ r.2.mem ((c.tc : Thread Cert.S5RefIdeal.nD Cert.S5RefIdeal.τ).loc Cert.S5RefIdeal.main_arg13) = m' ((c.tc : Thread Cert.S5RefIdeal.nD Cert.S5RefIdeal.τ).loc Cert.S5RefIdeal.main_arg13)
          ∧ r.2.mem ((c.tc : Thread Cert.S5RefIdeal.nD Cert.S5RefIdeal.τ).loc Cert.S5RefIdeal.main_arg14) = m' ((c.tc : Thread Cert.S5RefIdeal.nD Cert.S5RefIdeal.τ).loc Cert.S5RefIdeal.main_arg14)
          ∧ r.2.mem ((c.tc : Thread Cert.S5RefIdeal.nD Cert.S5RefIdeal.τ).loc Cert.S5RefIdeal.main_arg15) = m' ((c.tc : Thread Cert.S5RefIdeal.nD Cert.S5RefIdeal.τ).loc Cert.S5RefIdeal.main_arg15))

def Claim : Prop :=
  ∃ (hFfn : Cert.Ffn.Facts) (hFfnIdeal : Cert.FfnIdeal.Facts) (hFfnRefIdeal : Cert.FfnRefIdeal.Facts) (hCross : Cert.Cross.Facts) (hCrossIdeal : Cert.CrossIdeal.Facts) (hCrossRefIdeal : Cert.CrossRefIdeal.Facts) (hMemKv : Cert.MemKv.Facts) (hMemKvIdeal : Cert.MemKvIdeal.Facts) (hMemKvRefIdeal : Cert.MemKvRefIdeal.Facts) (hProj : Cert.Proj.Facts) (hProjIdeal : Cert.ProjIdeal.Facts) (hProjRefIdeal : Cert.ProjRefIdeal.Facts) (hNorm : Cert.Norm.Facts) (hNormIdeal : Cert.NormIdeal.Facts) (hNormRefIdeal : Cert.NormRefIdeal.Facts) (hRowNorm : Cert.RowNorm.Facts) (hRowNormIdeal : Cert.RowNormIdeal.Facts) (hRowNormRefIdeal : Cert.RowNormRefIdeal.Facts) (hSampleFfn : Cert.SampleFfn.Facts) (hSampleFfnIdeal : Cert.SampleFfnIdeal.Facts) (hSampleFfnRefIdeal : Cert.SampleFfnRefIdeal.Facts) (hS5 : Cert.S5.Facts) (hS5Ideal : Cert.S5Ideal.Facts) (hS5RefIdeal : Cert.S5RefIdeal.Facts),
    quiescent_Ffn (hFfn := hFfn)
    ∧ quiescent_FfnIdeal (hFfnIdeal := hFfnIdeal)
    ∧ quiescent_FfnRefIdeal (hFfnRefIdeal := hFfnRefIdeal)
    ∧ quiescent_Cross (hCross := hCross)
    ∧ quiescent_CrossIdeal (hCrossIdeal := hCrossIdeal)
    ∧ quiescent_CrossRefIdeal (hCrossRefIdeal := hCrossRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Proj (hProj := hProj)
    ∧ quiescent_ProjIdeal (hProjIdeal := hProjIdeal)
    ∧ quiescent_ProjRefIdeal (hProjRefIdeal := hProjRefIdeal)
    ∧ quiescent_Norm (hNorm := hNorm)
    ∧ quiescent_NormIdeal (hNormIdeal := hNormIdeal)
    ∧ quiescent_NormRefIdeal (hNormRefIdeal := hNormRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_SampleFfn (hSampleFfn := hSampleFfn)
    ∧ quiescent_SampleFfnIdeal (hSampleFfnIdeal := hSampleFfnIdeal)
    ∧ quiescent_SampleFfnRefIdeal (hSampleFfnRefIdeal := hSampleFfnRefIdeal)
    ∧ quiescent_S5 (hS5 := hS5)
    ∧ quiescent_S5Ideal (hS5Ideal := hS5Ideal)
    ∧ quiescent_S5RefIdeal (hS5RefIdeal := hS5RefIdeal)
    ∧ preserves_Ffn_FfnIdeal
    ∧ algebraic_FfnIdeal_FfnRefIdeal (hFfnIdeal := hFfnIdeal) (hFfnRefIdeal := hFfnRefIdeal)
    ∧ preserves_Cross_CrossIdeal
    ∧ algebraic_CrossIdeal_CrossRefIdeal (hCrossIdeal := hCrossIdeal) (hCrossRefIdeal := hCrossRefIdeal)
    ∧ preserves_MemKv_MemKvIdeal
    ∧ algebraic_MemKvIdeal_MemKvRefIdeal (hMemKvIdeal := hMemKvIdeal) (hMemKvRefIdeal := hMemKvRefIdeal)
    ∧ preserves_Proj_ProjIdeal
    ∧ algebraic_ProjIdeal_ProjRefIdeal (hProjIdeal := hProjIdeal) (hProjRefIdeal := hProjRefIdeal)
    ∧ preserves_Norm_NormIdeal
    ∧ algebraic_NormIdeal_NormRefIdeal (hNormIdeal := hNormIdeal) (hNormRefIdeal := hNormRefIdeal)
    ∧ preserves_RowNorm_RowNormIdeal
    ∧ algebraic_RowNormIdeal_RowNormRefIdeal (hRowNormIdeal := hRowNormIdeal) (hRowNormRefIdeal := hRowNormRefIdeal)
    ∧ preserves_SampleFfn_SampleFfnIdeal
    ∧ algebraic_SampleFfnIdeal_SampleFfnRefIdeal (hSampleFfnIdeal := hSampleFfnIdeal) (hSampleFfnRefIdeal := hSampleFfnRefIdeal)
    ∧ preserves_S5_S5Ideal
    ∧ algebraic_S5Ideal_S5RefIdeal (hS5Ideal := hS5Ideal) (hS5RefIdeal := hS5RefIdeal)
-- ==== Ffn.lean ====
abbrev S8x2048x1024 : Shape := ⟨3, ![8, 2048, 1024]⟩
abbrev S4x8x2x2816 : Shape := ⟨4, ![4, 8, 2, 2816]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S2048x8x1024 : Shape := ⟨3, ![2048, 8, 1024]⟩
abbrev S16384x1024 : Shape := ⟨2, ![16384, 1024]⟩
abbrev S4x2x8x2816 : Shape := ⟨4, ![4, 2, 8, 2816]⟩
abbrev S4x16x2816 : Shape := ⟨3, ![4, 16, 2816]⟩
abbrev S4x1x1024 : Shape := ⟨3, ![4, 1, 1024]⟩
abbrev S4x1x2816 : Shape := ⟨3, ![4, 1, 2816]⟩
abbrev S16x2816 : Shape := ⟨2, ![16, 2816]⟩
abbrev S512x1024 : Shape := ⟨2, ![512, 1024]⟩
abbrev S1x16x2816 : Shape := ⟨3, ![1, 16, 2816]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S528x2816 : Shape := ⟨2, ![528, 2816]⟩
abbrev S1x2816 : Shape := ⟨2, ![1, 2816]⟩
abbrev S2816x1024 : Shape := ⟨2, ![2816, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x8x2x2816, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S2048x8x1024, .f32⟩
  | .hbm, ⟨9, _⟩ => ⟨S16384x1024, .f32⟩
  | .hbm, ⟨10, _⟩ => ⟨S4x2x8x2816, .f32⟩
  | .hbm, ⟨11, _⟩ => ⟨S4x16x2816, .f32⟩
  | .hbm, ⟨12, _⟩ => ⟨S4x1x1024, .f32⟩
  | .hbm, ⟨13, _⟩ => ⟨S4x1024x2816, .bf16⟩
  | .hbm, ⟨14, _⟩ => ⟨S4x1024x2816, .bf16⟩
  | .hbm, ⟨15, _⟩ => ⟨S4x1x2816, .f32⟩
  | .hbm, ⟨16, _⟩ => ⟨S4x2816x1024, .bf16⟩
  | .hbm, ⟨17, _⟩ => ⟨S16384x1024, .f32⟩
  | .hbm, ⟨18, _⟩ => ⟨S16x2816, .f32⟩
  | .local _ .vmem, ⟨0, _⟩ => ⟨S512x1024, .f32⟩
  | .local _ .vmem, ⟨1, _⟩ => ⟨S512x1024, .f32⟩
  | .local _ .vmem, ⟨2, _⟩ => ⟨S1x16x2816, .f32⟩
  | .local _ .vmem, ⟨3, _⟩ => ⟨S1x1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x3x2816, .f32⟩
  | .local _ .vmem, ⟨7, _⟩ => ⟨S1x1x2816, .f32⟩
  | .local _ .vmem, ⟨8, _⟩ => ⟨S1x2816x1024, .bf16⟩
  | .local _ .vmem, ⟨9, _⟩ => ⟨S512x1024, .f32⟩
  | .local _ .vmem, ⟨10, _⟩ => ⟨S512x1024, .f32⟩
  | .local _ .vmem, ⟨11, _⟩ => ⟨S16x2816, .f32⟩
  | .local _ .vmem, ⟨12, _⟩ => ⟨S16x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnIdeal.lean ====
abbrev S8x2048x1024 : Shape := ⟨3, ![8, 2048, 1024]⟩
abbrev S4x8x2x2816 : Shape := ⟨4, ![4, 8, 2, 2816]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S2048x8x1024 : Shape := ⟨3, ![2048, 8, 1024]⟩
abbrev S16384x1024 : Shape := ⟨2, ![16384, 1024]⟩
abbrev S4x2x8x2816 : Shape := ⟨4, ![4, 2, 8, 2816]⟩
abbrev S4x16x2816 : Shape := ⟨3, ![4, 16, 2816]⟩
abbrev S4x1x1024 : Shape := ⟨3, ![4, 1, 1024]⟩
abbrev S4x1x2816 : Shape := ⟨3, ![4, 1, 2816]⟩
abbrev S16x2816 : Shape := ⟨2, ![16, 2816]⟩
abbrev S512x1024 : Shape := ⟨2, ![512, 1024]⟩
abbrev S1x16x2816 : Shape := ⟨3, ![1, 16, 2816]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S528x2816 : Shape := ⟨2, ![528, 2816]⟩
abbrev S1x2816 : Shape := ⟨2, ![1, 2816]⟩
abbrev S2816x1024 : Shape := ⟨2, ![2816, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x8x2x2816, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S2048x8x1024, .f32⟩
  | .hbm, ⟨9, _⟩ => ⟨S16384x1024, .f32⟩
  | .hbm, ⟨10, _⟩ => ⟨S4x2x8x2816, .f32⟩
  | .hbm, ⟨11, _⟩ => ⟨S4x16x2816, .f32⟩
  | .hbm, ⟨12, _⟩ => ⟨S4x1x1024, .f32⟩
  | .hbm, ⟨13, _⟩ => ⟨S4x1024x2816, .bf16⟩
  | .hbm, ⟨14, _⟩ => ⟨S4x1024x2816, .bf16⟩
  | .hbm, ⟨15, _⟩ => ⟨S4x1x2816, .f32⟩
  | .hbm, ⟨16, _⟩ => ⟨S4x2816x1024, .bf16⟩
  | .hbm, ⟨17, _⟩ => ⟨S16384x1024, .f32⟩
  | .hbm, ⟨18, _⟩ => ⟨S16x2816, .f32⟩
  | .local _ .vmem, ⟨0, _⟩ => ⟨S512x1024, .f32⟩
  | .local _ .vmem, ⟨1, _⟩ => ⟨S512x1024, .f32⟩
  | .local _ .vmem, ⟨2, _⟩ => ⟨S1x16x2816, .f32⟩
  | .local _ .vmem, ⟨3, _⟩ => ⟨S1x1x1024, .f32⟩
  | .local _ .vmem, ⟨4, _⟩ => ⟨S1x1024x2816, .bf16⟩
  | .local _ .vmem, ⟨5, _⟩ => ⟨S1x1024x2816, .bf16⟩
  | .local _ .vmem, ⟨6, _⟩ => ⟨S1x3x2816, .f32⟩
  | .local _ .vmem, ⟨7, _⟩ => ⟨S1x1x2816, .f32⟩
  | .local _ .vmem, ⟨8, _⟩ => ⟨S1x2816x1024, .bf16⟩
  | .local _ .vmem, ⟨9, _⟩ => ⟨S512x1024, .f32⟩
  | .local _ .vmem, ⟨10, _⟩ => ⟨S512x1024, .f32⟩
  | .local _ .vmem, ⟨11, _⟩ => ⟨S16x2816, .f32⟩
  | .local _ .vmem, ⟨12, _⟩ => ⟨S16x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnRefIdeal.lean ====
abbrev S8x2048x1024 : Shape := ⟨3, ![8, 2048, 1024]⟩
abbrev S4x8x2x2816 : Shape := ⟨4, ![4, 8, 2, 2816]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S1x8x2x2816 : Shape := ⟨4, ![1, 8, 2, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S2048x8x1024 : Shape := ⟨3, ![2048, 8, 1024]⟩
abbrev S16384x1024 : Shape := ⟨2, ![16384, 1024]⟩
abbrev S2x8x2816 : Shape := ⟨3, ![2, 8, 2816]⟩
abbrev S16x2816 : Shape := ⟨2, ![16, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x8x2x2816, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1x1024, .f32⟩
  | .hbm, ⟨9, _⟩ => ⟨S1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1x1024x2816, .f32⟩
  | .hbm, ⟨27, _⟩ => ⟨S1024x2816, .f32⟩
  | .hbm, ⟨28, _⟩ => ⟨S8x2048x2816, .f32⟩
  | .hbm, ⟨29, _⟩ => ⟨S1x8x2x2816, .f32⟩
  | .hbm, ⟨30, _⟩ => ⟨S8x2x2816, .f32⟩
  | .hbm, ⟨31, _⟩ => ⟨S8x2050x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S2816, .f32⟩
  | .hbm, ⟨36, _⟩ => ⟨S8x2048x2816, .f32⟩
  | .hbm, ⟨37, _⟩ => ⟨S1x1x2816, .f32⟩
  | .hbm, ⟨38, _⟩ => ⟨S8x2048x2816, .f32⟩
  | .hbm, ⟨39, _⟩ => ⟨S8x2048x2816, .f32⟩
  | .hbm, ⟨40, _⟩ => ⟨S_, .f32⟩
  | .hbm, ⟨41, _⟩ => ⟨S8x2048x2816, .f32⟩
  | .hbm, ⟨42, _⟩ => ⟨S8x2048x2816, .f32⟩
  | .hbm, ⟨43, _⟩ => ⟨S1x1x2816, .f32⟩
  | .hbm, ⟨44, _⟩ => ⟨S2816, .f32⟩
  | .hbm, ⟨45, _⟩ => ⟨S8x2048x2816, .f32⟩
  | .hbm, ⟨46, _⟩ => ⟨S1x1x2816, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S1x1x2816, .f32⟩
  | .hbm, ⟨51, _⟩ => ⟨S2816, .f32⟩
  | .hbm, ⟨52, _⟩ => ⟨S8x2048x2816, .f32⟩
  | .hbm, ⟨53, _⟩ => ⟨S1x1x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S1x1x2816, .f32⟩
  | .hbm, ⟨58, _⟩ => ⟨S8x2048x2816, .f32⟩
  | .hbm, ⟨59, _⟩ => ⟨S8x2048x2816, .f32⟩
  | .hbm, ⟨60, _⟩ => ⟨S8x2048x2816, .f32⟩
  | .hbm, ⟨61, _⟩ => ⟨S8x2048x2816, .f32⟩
  | .hbm, ⟨62, _⟩ => ⟨S_, .f32⟩
  | .hbm, ⟨63, _⟩ => ⟨S8x2048x2816, .f32⟩
  | .hbm, ⟨64, _⟩ => ⟨S8x2048x2816, .f32⟩
  | .hbm, ⟨65, _⟩ => ⟨S_, .f32⟩
  | .hbm, ⟨66, _⟩ => ⟨S8x2048x2816, .f32⟩
  | .hbm, ⟨67, _⟩ => ⟨S8x2048x2816, .f32⟩
  | .hbm, ⟨68, _⟩ => ⟨S8x2048x2816, .f32⟩
  | .hbm, ⟨69, _⟩ => ⟨S1x1024x2816, .f32⟩
  | .hbm, ⟨70, _⟩ => ⟨S1024x2816, .f32⟩
  | .hbm, ⟨71, _⟩ => ⟨S8x2048x2816, .f32⟩
  | .hbm, ⟨72, _⟩ => ⟨S8x2048x2816, .f32⟩
  | .hbm, ⟨73, _⟩ => ⟨S1x2816x1024, .f32⟩
  | .hbm, ⟨74, _⟩ => ⟨S2816x1024, .f32⟩
  | .hbm, ⟨75, _⟩ => ⟨S8x2048x1024, .f32⟩
  | .hbm, ⟨76, _⟩ => ⟨S8x2048x1024, .f32⟩
  | .hbm, ⟨77, _⟩ => ⟨S2048x8x1024, .f32⟩
  | .hbm, ⟨78, _⟩ => ⟨S16384x1024, .f32⟩
  | .hbm, ⟨79, _⟩ => ⟨S8x2x2816, .f32⟩
  | .hbm, ⟨80, _⟩ => ⟨S2x8x2816, .f32⟩
  | .hbm, ⟨81, _⟩ => ⟨S16x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Cross.lean ====
abbrev S8x2048x1024 : Shape := ⟨3, ![8, 2048, 1024]⟩
abbrev S4x8x256x4x256 : Shape := ⟨5, ![4, 8, 256, 4, 256]⟩
abbrev S4x1024 : Shape := ⟨2, ![4, 1024]⟩
abbrev S4x1024x1024 : Shape := ⟨3, ![4, 1024, 1024]⟩
abbrev S2048x8x1024 : Shape := ⟨3, ![2048, 8, 1024]⟩
abbrev S16384x1024 : Shape := ⟨2, ![16384, 1024]⟩
abbrev S4x1x1024 : Shape := ⟨3, ![4, 1, 1024]⟩
abbrev S4x8x256x1024 : Shape := ⟨4, ![4, 8, 256, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1x8x256x1024 : Shape := ⟨4, ![1, 8, 256, 1024]⟩
abbrev S8x1024x128 : Shape := ⟨3, ![8, 1024, 128]⟩
abbrev S32x128x256 : Shape := ⟨3, ![32, 128, 256]⟩
abbrev S1x1024 : Shape := ⟨2, ![1, 1024]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S1x128x128 : Shape := ⟨3, ![1, 128, 128]⟩
abbrev S128x128 : Shape := ⟨2, ![128, 128]⟩
abbrev S128x256 : Shape := ⟨2, ![128, 256]⟩
abbrev S1x1x256x256 : Shape := ⟨4, ![1, 1, 256, 256]⟩
abbrev S256x256 : Shape := ⟨2, ![256, 256]⟩
abbrev S1x128x256 : Shape := ⟨3, ![1, 128, 256]⟩
abbrev S32x128 : Shape := ⟨2, ![32, 128]⟩
abbrev S32x128x1 : Shape := ⟨3, ![32, 128, 1]⟩

abbrev nBuf : Space → Nat
  | .hbm => 16
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S4x8x256x4x256, .f32⟩
  | .hbm, ⟨2, _⟩ => ⟨S4x8x256x4x256, .f32⟩
  | .hbm, ⟨3, _⟩ => ⟨S4x1024, .f32⟩
  | .hbm, ⟨4, _⟩ => ⟨S4x1024x1024, .f32⟩
  | .hbm, ⟨5, _⟩ => ⟨S4x1024x1024, .f32⟩
  | .hbm, ⟨6, _⟩ => ⟨S2048x8x1024, .f32⟩
  | .hbm, ⟨7, _⟩ => ⟨S16384x1024, .f32⟩
  | .hbm, ⟨8, _⟩ => ⟨S4x1x1024, .f32⟩
  | .hbm, ⟨9, _⟩ => ⟨S4x1024x1024, .bf16⟩
  | .hbm, ⟨10, _⟩ => ⟨S4x1024x1024, .bf16⟩
  | .hbm, ⟨11, _⟩ => ⟨S4x8x256x4x256, .bf16⟩
  | .hbm, ⟨12, _⟩ => ⟨S4x8x256x1024, .bf16⟩
  | .hbm, ⟨13, _⟩ => ⟨S4x8x256x4x256, .bf16⟩
  | .hbm, ⟨14, _⟩ => ⟨S4x8x256x1024, .bf16⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x8x256x1024, .bf16⟩
  | .local _ .vmem, ⟨5, _⟩ => ⟨S1x8x256x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S8x1024x128, .f32⟩
  | .local _ .vmem, ⟨10, _⟩ => ⟨S8x1024x128, .f32⟩
  | .local _ .vmem, ⟨11, _⟩ => ⟨S32x128x256, .f32⟩
  | .local _ .vmem, ⟨12, _⟩ => ⟨S32x128x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CrossRefIdeal.lean ====
abbrev S8x2048x1024 : Shape := ⟨3, ![8, 2048, 1024]⟩
abbrev S4x8x256x4x256 : Shape := ⟨5, ![4, 8, 256, 4, 256]⟩
abbrev S4x1024 : Shape := ⟨2, ![4, 1024]⟩
abbrev S4x1024x1024 : Shape := ⟨3, ![4, 1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x2048x4x256 : Shape := ⟨4, ![8, 2048, 4, 256]⟩
abbrev S1x8x256x4x256 : Shape := ⟨5, ![1, 8, 256, 4, 256]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S2048x8x1024 : Shape := ⟨3, ![2048, 8, 1024]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x8x256x4x256, .f32⟩
  | .hbm, ⟨2, _⟩ => ⟨S4x8x256x4x256, .f32⟩
  | .hbm, ⟨3, _⟩ => ⟨S4x1024, .f32⟩
  | .hbm, ⟨4, _⟩ => ⟨S4x1024x1024, .f32⟩
  | .hbm, ⟨5, _⟩ => ⟨S4x1024x1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S1x1024x1024, .f32⟩
  | .hbm, ⟨25, _⟩ => ⟨S1024x1024, .f32⟩
  | .hbm, ⟨26, _⟩ => ⟨S8x2048x1024, .f32⟩
  | .hbm, ⟨27, _⟩ => ⟨S8x2048x4x256, .f32⟩
  | .hbm, ⟨28, _⟩ => ⟨S1x8x256x4x256, .f32⟩
  | .hbm, ⟨29, _⟩ => ⟨S8x256x4x256, .f32⟩
  | .hbm, ⟨30, _⟩ => ⟨S8x4x2048x256, .f32⟩
  | .hbm, ⟨31, _⟩ => ⟨S_, .f32⟩
  | .hbm, ⟨32, _⟩ => ⟨S8x4x2048x256, .f32⟩
  | .hbm, ⟨33, _⟩ => ⟨S8x4x2048x256, .f32⟩
  | .hbm, ⟨34, _⟩ => ⟨S_, .f32⟩
  | .hbm, ⟨35, _⟩ => ⟨S8x4x2048, .f32⟩
  | .hbm, ⟨36, _⟩ => ⟨S_, .f32⟩
  | .hbm, ⟨37, _⟩ => ⟨S8x4x2048, .f32⟩
  | .hbm, ⟨38, _⟩ => ⟨S8x4x2048, .f32⟩
  | .hbm, ⟨39, _⟩ => ⟨S8x4x2048x1, .f32⟩
  | .hbm, ⟨40, _⟩ => ⟨S8x4x2048x256, .f32⟩
  | .hbm, ⟨41, _⟩ => ⟨S8x4x2048x256, .f32⟩
  | .hbm, ⟨42, _⟩ => ⟨S8x4x2048x256, .f32⟩
  | .hbm, ⟨43, _⟩ => ⟨S_, .f32⟩
  | .hbm, ⟨44, _⟩ => ⟨S8x4x2048, .f32⟩
  | .hbm, ⟨45, _⟩ => ⟨S8x4x2048x1, .f32⟩
  | .hbm, ⟨46, _⟩ => ⟨S8x4x2048x256, .f32⟩
  | .hbm, ⟨47, _⟩ => ⟨S8x4x2048x256, .f32⟩
  | .hbm, ⟨48, _⟩ => ⟨S1x8x256x4x256, .f32⟩
  | .hbm, ⟨49, _⟩ => ⟨S8x256x4x256, .f32⟩
  | .hbm, ⟨50, _⟩ => ⟨S8x4x256x2048, .f32⟩
  | .hbm, ⟨51, _⟩ => ⟨S8x2048x4x256, .f32⟩
  | .hbm, ⟨52, _⟩ => ⟨S8x2048x1024, .f32⟩
  | .hbm, ⟨53, _⟩ => ⟨S1x1024x1024, .f32⟩
  | .hbm, ⟨54, _⟩ => ⟨S1024x1024, .f32⟩
  | .hbm, ⟨55, _⟩ => ⟨S8x2048x1024, .f32⟩
  | .hbm, ⟨56, _⟩ => ⟨S8x2048x1024, .f32⟩
  | .hbm, ⟨57, _⟩ => ⟨S2048x8x1024, .f32⟩
  | .hbm, ⟨58, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== MemKv.lean ====
abbrev S8x256x1024 : Shape := ⟨3, ![8, 256, 1024]⟩
abbrev S4x1024x1024 : Shape := ⟨3, ![4, 1024, 1024]⟩
abbrev S2048x1024 : Shape := ⟨2, ![2048, 1024]⟩
abbrev S4x16384x128 : Shape := ⟨3, ![4, 16384, 128]⟩
abbrev S4x2048x1024 : Shape := ⟨3, ![4, 2048, 1024]⟩
abbrev S512x1024 : Shape := ⟨2, ![512, 1024]⟩
abbrev S1x1024x1024 : Shape := ⟨3, ![1, 1024, 1024]⟩
abbrev S1x4096x128 : Shape := ⟨3, ![1, 4096, 128]⟩
abbrev S1x512x1024 : Shape := ⟨3, ![1, 512, 1024]⟩
abbrev S4096x128 : Shape := ⟨2, ![4096, 128]⟩
abbrev S1024x1024 : Shape := ⟨2, ![1024, 1024]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S4x1024x1024, .f32⟩
  | .hbm, ⟨2, _⟩ => ⟨S2048x1024, .f32⟩
  | .hbm, ⟨3, _⟩ => ⟨S4x1024x1024, .bf16⟩
  | .hbm, ⟨4, _⟩ => ⟨S4x16384x128, .f32⟩
  | .hbm, ⟨5, _⟩ => ⟨S4x2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x4096x128, .f32⟩
  | .local _ .vmem, ⟨5, _⟩ => ⟨S1x4096x128, .f32⟩
  | .local _ .vmem, ⟨6, _⟩ => ⟨S1x512x1024, .bf16⟩
  | .local _ .vmem, ⟨7, _⟩ => ⟨S1x512x1024, .bf16⟩
  | .local _ .vmem, ⟨8, _⟩ => ⟨S4096x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S4x1024x1024 : Shape := ⟨3, ![4, 1024, 1024]⟩
abbrev S4x1024x8x256 : Shape := ⟨4, ![4, 1024, 8, 256]⟩
abbrev S4x8x256x1024 : Shape := ⟨4, ![4, 8, 256, 1024]⟩
abbrev S4x8x256x4x256 : Shape := ⟨5, ![4, 8, 256, 4, 256]⟩
abbrev S4x8x256x4x2x128 : Shape := ⟨6, ![4, 8, 256, 4, 2, 128]⟩
abbrev S4x8x256x2x4x128 : Shape := ⟨6, ![4, 8, 256, 2, 4, 128]⟩
abbrev S4x16384x128 : Shape := ⟨3, ![4, 16384, 128]⟩
abbrev S4x2048x1024 : Shape := ⟨3, ![4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024x1024, .f32⟩
  | .hbm, ⟨2, _⟩ => ⟨S4x1024x8x256, .f32⟩
  | .hbm, ⟨3, _⟩ => ⟨S4x8x256x1024, .f32⟩
  | .hbm, ⟨4, _⟩ => ⟨S4x8x256x4x256, .f32⟩
  | .hbm, ⟨5, _⟩ => ⟨S4x8x256x4x2x128, .f32⟩
  | .hbm, ⟨6, _⟩ => ⟨S4x8x256x2x4x128, .f32⟩
  | .hbm, ⟨7, _⟩ => ⟨S4x16384x128, .f32⟩
  | .hbm, ⟨8, _⟩ => ⟨S4x2048x1024, .f32⟩
  | .hbm, ⟨9, _⟩ => ⟨S4x2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proj.lean ====
abbrev S8x2048x1024 : Shape := ⟨3, ![8, 2048, 1024]⟩
abbrev S4x1024 : Shape := ⟨2, ![4, 1024]⟩
abbrev S4x1024x2304 : Shape := ⟨3, ![4, 1024, 2304]⟩
abbrev S2048x8x1024 : Shape := ⟨3, ![2048, 8, 1024]⟩
abbrev S16384x1024 : Shape := ⟨2, ![16384, 1024]⟩
abbrev S4x1x1024 : Shape := ⟨3, ![4, 1, 1024]⟩
abbrev S16384x2304 : Shape := ⟨2, ![16384, 2304]⟩
abbrev S1024x1024 : Shape := ⟨2, ![1024, 1024]⟩
abbrev S1x1024x2304 : Shape := ⟨3, ![1, 1024, 2304]⟩
abbrev S1x1x1024 : Shape := ⟨3, ![1, 1, 1024]⟩
abbrev S1024x2304 : Shape := ⟨2, ![1024, 2304]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2304, .f32⟩
  | .hbm, ⟨3, _⟩ => ⟨S2048x8x1024, .f32⟩
  | .hbm, ⟨4, _⟩ => ⟨S16384x1024, .f32⟩
  | .hbm, ⟨5, _⟩ => ⟨S4x1024x2304, .bf16⟩
  | .hbm, ⟨6, _⟩ => ⟨S4x1x1024, .f32⟩
  | .hbm, ⟨7, _⟩ => ⟨S16384x2304, .f32⟩
  | .local _ .vmem, ⟨0, _⟩ => ⟨S1024x1024, .f32⟩
  | .local _ .vmem, ⟨1, _⟩ => ⟨S1024x1024, .f32⟩
  | .local _ .vmem, ⟨2, _⟩ => ⟨S1x1024x2304, .bf16⟩
  | .local _ .vmem, ⟨3, _⟩ => ⟨S1x1x1024, .f32⟩
  | .local _ .vmem, ⟨4, _⟩ => ⟨S1024x2304, .f32⟩
  | .local _ .vmem, ⟨5, _⟩ => ⟨S1024x2304, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S8x2048x1024 : Shape := ⟨3, ![8, 2048, 1024]⟩
abbrev S4x1024 : Shape := ⟨2, ![4, 1024]⟩
abbrev S4x1024x2304 : Shape := ⟨3, ![4, 1024, 2304]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2304 : Shape := ⟨3, ![1, 1024, 2304]⟩
abbrev S1024x2304 : Shape := ⟨2, ![1024, 2304]⟩
abbrev S8x2048x2304 : Shape := ⟨3, ![8, 2048, 2304]⟩
abbrev S2048x8x2304 : Shape := ⟨3, ![2048, 8, 2304]⟩
abbrev S16384x2304 : Shape := ⟨2, ![16384, 2304]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2304, .f32⟩
  | .hbm, ⟨3, _⟩ => ⟨S1x1024, .f32⟩
  | .hbm, ⟨4, _⟩ => ⟨S1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1x1024x2304, .f32⟩
  | .hbm, ⟨22, _⟩ => ⟨S1024x2304, .f32⟩
  | .hbm, ⟨23, _⟩ => ⟨S8x2048x2304, .f32⟩
  | .hbm, ⟨24, _⟩ => ⟨S2048x8x2304, .f32⟩
  | .hbm, ⟨25, _⟩ => ⟨S16384x2304, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Norm.lean ====
abbrev S8x2048x1024 : Shape := ⟨3, ![8, 2048, 1024]⟩
abbrev S1024 : Shape := ⟨1, ![1024]⟩
abbrev S2048x8x1024 : Shape := ⟨3, ![2048, 8, 1024]⟩
abbrev S16384x1024 : Shape := ⟨2, ![16384, 1024]⟩
abbrev S1x1024 : Shape := ⟨2, ![1, 1024]⟩
abbrev S512x1024 : Shape := ⟨2, ![512, 1024]⟩
abbrev S8x64x1024 : Shape := ⟨3, ![8, 64, 1024]⟩
abbrev S8x512x128 : Shape := ⟨3, ![8, 512, 128]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2048x8x1024, .f32⟩
  | .hbm, ⟨3, _⟩ => ⟨S16384x1024, .f32⟩
  | .hbm, ⟨4, _⟩ => ⟨S1x1024, .f32⟩
  | .hbm, ⟨5, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x64x1024, .f32⟩
  | .local _ .vmem, ⟨4, _⟩ => ⟨S8x64x1024, .f32⟩
  | .local _ .vmem, ⟨5, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8x2048x1024 : Shape := ⟨3, ![8, 2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S1x1x1024, .f32⟩
  | .hbm, ⟨16, _⟩ => ⟨S8x2048x1024, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== RowNorm.lean ====
abbrev S128x4x1024 : Shape := ⟨3, ![128, 4, 1024]⟩
abbrev S1024 : Shape := ⟨1, ![1024]⟩
abbrev S4x128x1024 : Shape := ⟨3, ![4, 128, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 6
  | .vmem => 3
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S4x128x1024, .f32⟩
  | .hbm, ⟨3, _⟩ => ⟨S512x1024, .f32⟩
  | .hbm, ⟨4, _⟩ => ⟨S1x1024, .f32⟩
  | .hbm, ⟨5, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RowNormRefIdeal.lean ====
abbrev S128x4x1024 : Shape := ⟨3, ![128, 4, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S4x128x1024 : Shape := ⟨3, ![4, 128, 1024]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S128x4x1024, .f32⟩
  | .hbm, ⟨3, _⟩ => ⟨S_, .f32⟩
  | .hbm, ⟨4, _⟩ => ⟨S128x4, .f32⟩
  | .hbm, ⟨5, _⟩ => ⟨S128x4x1, .f32⟩
  | .hbm, ⟨6, _⟩ => ⟨S_, .f32⟩
  | .hbm, ⟨7, _⟩ => ⟨S128x4x1, .f32⟩
  | .hbm, ⟨8, _⟩ => ⟨S128x4x1, .f32⟩
  | .hbm, ⟨9, _⟩ => ⟨S_, .f32⟩
  | .hbm, ⟨10, _⟩ => ⟨S128x4x1, .f32⟩
  | .hbm, ⟨11, _⟩ => ⟨S128x4x1, .f32⟩
  | .hbm, ⟨12, _⟩ => ⟨S128x4x1, .f32⟩
  | .hbm, ⟨13, _⟩ => ⟨S128x4x1024, .f32⟩
  | .hbm, ⟨14, _⟩ => ⟨S128x4x1024, .f32⟩
  | .hbm, ⟨15, _⟩ => ⟨S1x1x1024, .f32⟩
  | .hbm, ⟨16, _⟩ => ⟨S128x4x1024, .f32⟩
  | .hbm, ⟨17, _⟩ => ⟨S128x4x1024, .f32⟩
  | .hbm, ⟨18, _⟩ => ⟨S4x128x1024, .f32⟩
  | .hbm, ⟨19, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== SampleFfn.lean ====
abbrev S128x4x1024 : Shape := ⟨3, ![128, 4, 1024]⟩
abbrev S4x128x2x2816 : Shape := ⟨4, ![4, 128, 2, 2816]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S4x128x1024 : Shape := ⟨3, ![4, 128, 1024]⟩
abbrev S512x1024 : Shape := ⟨2, ![512, 1024]⟩
abbrev S4x2x128x2816 : Shape := ⟨4, ![4, 2, 128, 2816]⟩
abbrev S4x256x2816 : Shape := ⟨3, ![4, 256, 2816]⟩
abbrev S4x1x1024 : Shape := ⟨3, ![4, 1, 1024]⟩
abbrev S4x1x2816 : Shape := ⟨3, ![4, 1, 2816]⟩
abbrev S256x2816 : Shape := ⟨2, ![256, 2816]⟩
abbrev S1x256x2816 : Shape := ⟨3, ![1, 256, 2816]⟩
abbrev S1x1x1024 : Shape := ⟨3, ![1, 1, 1024]⟩
abbrev S1x1024x2816 : Shape := ⟨3, ![1, 1024, 2816]⟩
abbrev S1x3x2816 : Shape := ⟨3, ![1, 3, 2816]⟩
abbrev S1x1x2816 : Shape := ⟨3, ![1, 1, 2816]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S768x2816 : Shape := ⟨2, ![768, 2816]⟩
abbrev S1x2816 : Shape := ⟨2, ![1, 2816]⟩
abbrev S2816x1024 : Shape := ⟨2, ![2816, 1024]⟩

abbrev nBuf : Space → Nat
  | .hbm => 19
  | .vmem => 11
  | .smem => 0
  | _ => 0

abbrev bufTy : (tb : Table) → Fin (tcTables nBuf tb) → BufTy
  | .hbm, ⟨0, _⟩ => ⟨S128x4x1024, .f32⟩
  | .hbm, ⟨1, _⟩ => ⟨S4x128x2x2816, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S4x128x1024, .f32⟩
  | .hbm, ⟨9, _⟩ => ⟨S512x1024, .f32⟩
  | .hbm, ⟨10, _⟩ => ⟨S4x2x128x2816, .f32⟩
  | .hbm, ⟨11, _⟩ => ⟨S4x256x2816, .f32⟩
  | .hbm, ⟨12, _⟩ => ⟨S4x1x1024, .f32⟩
  | .hbm, ⟨13, _⟩ => ⟨S4x1024x2816, .bf16⟩
  | .hbm, ⟨14, _⟩ => ⟨S4x1024x2816, .bf16⟩
  | .hbm, ⟨15, _⟩ => ⟨S4x1x2816, .f32⟩
  | .hbm, ⟨16, _⟩ => ⟨S4x2816x1024, .bf16⟩
  | .hbm, ⟨17, _⟩ => ⟨S512x1024, .f32⟩
  | .hbm, ⟨18, _⟩ => ⟨S256x2816, .f32⟩
  | .local _ .vmem, ⟨0, _⟩ => ⟨S512x1024, .f32⟩
  | .local _ .vmem, ⟨1, _⟩ => ⟨S1x256x2816, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x3x2816, .f32⟩
  | .local _ .vmem, ⟨6, _⟩ => ⟨S1x1x2816, .f32⟩
  | .local _ .vmem, ⟨7, _⟩ => ⟨S1x2816x1024, .bf16⟩
  | .local _ .vmem, ⟨8, _⟩ => ⟨S512x1024, .f32⟩
  | .local _ .vmem, ⟨9, _⟩ => ⟨S256x2816, .f32⟩
  | .local _ .vmem, ⟨10, _⟩ => ⟨S256x2816, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SampleFfnRefIdeal.lean ====
abbrev S128x4x1024 : Shape := ⟨3, ![128, 4, 1024]⟩
abbrev S4x128x2x2816 : Shape := ⟨4, ![4, 128, 2, 2816]⟩
abbrev S4x1024 : Shape := ⟨2, ![4, 1024]⟩
abbrev S4x1024x2816 : Shape := ⟨3, ![4, 1024, 2816]⟩
abbrev S4x3x2816 : Shape := ⟨3, ![4, 3, 2816]⟩
abbrev S4x2816 : Shape := ⟨2, ![4, 2816]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S128x4x2816 : Shape := ⟨3, ![128, 4, 2816]⟩
abbrev S1x128x2x2816 : Shape := ⟨4, ![1, 128, 2, 2816]⟩
abbrev S128x2x2816 : Shape := ⟨3, ![128, 2, 2816]⟩
abbrev S128x6x2816 : Shape := ⟨3, ![128, 6, 2816]⟩
abbrev S1x2816 : Shape := ⟨2, ![1, 2816]⟩
abbrev S2816 : Shape := ⟨1, ![2816]⟩
abbrev S1x1x2816 : Shape := ⟨3, ![1, 1, 2816]⟩
abbrev S1x2816x1024 : Shape := ⟨3, ![1, 2816, 1024]⟩
abbrev S2816x1024 : Shape := ⟨2, ![2816, 1024]⟩
abbrev S4x128x1024 : Shape := ⟨3, ![4, 128, 1024]⟩
abbrev S512x1024 : Shape := ⟨2, ![512, 1024]⟩
abbrev S2x128x2816 : Shape := ⟨3, ![2, 128, 2816]⟩
abbrev S256x2816 : Shape := ⟨2, ![256, 2816]⟩

abbrev nBuf : Space → Nat
  | .hbm => 82
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S4x128x2x2816, .f32⟩
  | .hbm, ⟨2, _⟩ => ⟨S4x1024, .f32⟩
  | .hbm, ⟨3, _⟩ => ⟨S4x1024x2816, .f32⟩
  | .hbm, ⟨4, _⟩ => ⟨S4x1024x2816, .f32⟩
  | .hbm, ⟨5, _⟩ => ⟨S4x3x2816, .f32⟩
  | .hbm, ⟨6, _⟩ => ⟨S4x2816, .f32⟩
  | .hbm, ⟨7, _⟩ => ⟨S4x2816x1024, .f32⟩
  | .hbm, ⟨8, _⟩ => ⟨S1x1024, .f32⟩
  | .hbm, ⟨9, _⟩ => ⟨S1024, .f32⟩
  | .hbm, ⟨10, _⟩ => ⟨S128x4x1024, .f32⟩
  | .hbm, ⟨11, _⟩ => ⟨S_, .f32⟩
  | .hbm, ⟨12, _⟩ => ⟨S128x4, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S128x4x1, .f32⟩
  | .hbm, ⟨21, _⟩ => ⟨S128x4x1024, .f32⟩
  | .hbm, ⟨22, _⟩ => ⟨S128x4x1024, .f32⟩
  | .hbm, ⟨23, _⟩ => ⟨S1x1x1024, .f32⟩
  | .hbm, ⟨24, _⟩ => ⟨S128x4x1024, .f32⟩
  | .hbm, ⟨25, _⟩ => ⟨S128x4x1024, .f32⟩
  | .hbm, ⟨26, _⟩ => ⟨S1x1024x2816, .f32⟩
  | .hbm, ⟨27, _⟩ => ⟨S1024x2816, .f32⟩
  | .hbm, ⟨28, _⟩ => ⟨S128x4x2816, .f32⟩
  | .hbm, ⟨29, _⟩ => ⟨S1x128x2x2816, .f32⟩
  | .hbm, ⟨30, _⟩ => ⟨S128x2x2816, .f32⟩
  | .hbm, ⟨31, _⟩ => ⟨S128x6x2816, .f32⟩
  | .hbm, ⟨32, _⟩ => ⟨S1x2816, .f32⟩
  | .hbm, ⟨33, _⟩ => ⟨S2816, .f32⟩
  | .hbm, ⟨34, _⟩ => ⟨S1x1x2816, .f32⟩
  | .hbm, ⟨35, _⟩ => ⟨S2816, .f32⟩
  | .hbm, ⟨36, _⟩ => ⟨S128x4x2816, .f32⟩
  | .hbm, ⟨37, _⟩ => ⟨S1x1x2816, .f32⟩
  | .hbm, ⟨38, _⟩ => ⟨S128x4x2816, .f32⟩
  | .hbm, ⟨39, _⟩ => ⟨S128x4x2816, .f32⟩
  | .hbm, ⟨40, _⟩ => ⟨S_, .f32⟩
  | .hbm, ⟨41, _⟩ => ⟨S128x4x2816, .f32⟩
  | .hbm, ⟨42, _⟩ => ⟨S128x4x2816, .f32⟩
  | .hbm, ⟨43, _⟩ => ⟨S1x1x2816, .f32⟩
  | .hbm, ⟨44, _⟩ => ⟨S2816, .f32⟩
  | .hbm, ⟨45, _⟩ => ⟨S128x4x2816, .f32⟩
  | .hbm, ⟨46, _⟩ => ⟨S1x1x2816, .f32⟩
  | .hbm, ⟨47, _⟩ => ⟨S128x4x2816, .f32⟩
  | .hbm, ⟨48, _⟩ => ⟨S128x4x2816, .f32⟩
  | .hbm, ⟨49, _⟩ => ⟨S128x4x2816, .f32⟩
  | .hbm, ⟨50, _⟩ => ⟨S1x1x2816, .f32⟩
  | .hbm, ⟨51, _⟩ => ⟨S2816, .f32⟩
  | .hbm, ⟨52, _⟩ => ⟨S128x4x2816, .f32⟩
  | .hbm, ⟨53, _⟩ => ⟨S1x1x2816, .f32⟩
  | .hbm, ⟨54, _⟩ => ⟨S128x4x2816, .f32⟩
  | .hbm, ⟨55, _⟩ => ⟨S128x4x2816, .f32⟩
  | .hbm, ⟨56, _⟩ => ⟨S128x4x2816, .f32⟩
  | .hbm, ⟨57, _⟩ => ⟨S1x1x2816, .f32⟩
  | .hbm, ⟨58, _⟩ => ⟨S128x4x2816, .f32⟩
  | .hbm, ⟨59, _⟩ => ⟨S128x4x2816, .f32⟩
  | .hbm, ⟨60, _⟩ => ⟨S128x4x2816, .f32⟩
  | .hbm, ⟨61, _⟩ => ⟨S128x4x2816, .f32⟩
  | .hbm, ⟨62, _⟩ => ⟨S_, .f32⟩
  | .hbm, ⟨63, _⟩ => ⟨S128x4x2816, .f32⟩
  | .hbm, ⟨64, _⟩ => ⟨S128x4x2816, .f32⟩
  | .hbm, ⟨65, _⟩ => ⟨S_, .f32⟩
  | .hbm, ⟨66, _⟩ => ⟨S128x4x2816, .f32⟩
  | .hbm, ⟨67, _⟩ => ⟨S128x4x2816, .f32⟩
  | .hbm, ⟨68, _⟩ => ⟨S128x4x2816, .f32⟩
  | .hbm, ⟨69, _⟩ => ⟨S1x1024x2816, .f32⟩
  | .hbm, ⟨70, _⟩ => ⟨S1024x2816, .f32⟩
  | .hbm, ⟨71, _⟩ => ⟨S128x4x2816, .f32⟩
  | .hbm, ⟨72, _⟩ => ⟨S128x4x2816, .f32⟩
  | .hbm, ⟨73, _⟩ => ⟨S1x2816x1024, .f32⟩
  | .hbm, ⟨74, _⟩ => ⟨S2816x1024, .f32⟩
  | .hbm, ⟨75, _⟩ => ⟨S128x4x1024, .f32⟩
  | .hbm, ⟨76, _⟩ => ⟨S128x4x1024, .f32⟩
  | .hbm, ⟨77, _⟩ => ⟨S4x128x1024, .f32⟩
  | .hbm, ⟨78, _⟩ => ⟨S512x1024, .f32⟩
  | .hbm, ⟨79, _⟩ => ⟨S128x2x2816, .f32⟩
  | .hbm, ⟨80, _⟩ => ⟨S2x128x2816, .f32⟩
  | .hbm, ⟨81, _⟩ => ⟨S256x2816, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== S5.lean ====
abbrev S128x4x2304 : Shape := ⟨3, ![128, 4, 2304]⟩
abbrev S128x4x1024 : Shape := ⟨3, ![128, 4, 1024]⟩
abbrev S128x4x512 : Shape := ⟨3, ![128, 4, 512]⟩
abbrev S4x128x32x64 : Shape := ⟨4, ![4, 128, 32, 64]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x512x512 : Shape := ⟨3, ![4, 512, 512]⟩
abbrev S4x512 : Shape := ⟨2, ![4, 512]⟩
abbrev S4x1024x1024 : Shape := ⟨3, ![4, 1024, 1024]⟩
abbrev S4x1x2048 : Shape := ⟨3, ![4, 1, 2048]⟩
abbrev S4x1x512 : Shape := ⟨3, ![4, 1, 512]⟩
abbrev S4x2048 : Shape := ⟨2, ![4, 2048]⟩
abbrev S4x2x16x64x16 : Shape := ⟨5, ![4, 2, 16, 64, 16]⟩
abbrev S16x16 : Shape := ⟨2, ![16, 16]⟩
abbrev S_ : Shape := ⟨0, ![]⟩
abbrev S4x2x16x16x64 : Shape := ⟨5, ![4, 2, 16, 16, 64]⟩
abbrev S4x2x16x16x1x64 : Shape := ⟨6, ![4, 2, 16, 16, 1, 64]⟩
abbrev S16x1x16x1 : Shape := ⟨4, ![16, 1, 16, 1]⟩
abbrev S1x1x16x1x16x1 : Shape := ⟨6, ![1, 1, 16, 1, 16, 1]⟩
abbrev S4x2x16x16x16x64 : Shape := ⟨6, ![4, 2, 16, 16, 16, 64]⟩
abbrev S4x2x256x1024 : Shape := ⟨4, ![4, 2, 256, 1024]⟩
abbrev S4x2x16x64x1x16 : Shape := ⟨6, ![4, 2, 16, 64, 1, 16]⟩
abbrev S4x2x16x64x16x16 : Shape := ⟨6, ![4, 2, 16, 64, 16, 16]⟩
abbrev S4x2x1024x256 : Shape := ⟨4, ![4, 2, 1024, 256]⟩
abbrev S4x512x1024 : Shape := ⟨3, ![4, 512, 1024]⟩
abbrev S4x128x2304 : Shape := ⟨3, ![4, 128, 2304]⟩
abbrev S512x2304 : Shape := ⟨2, ![512, 2304]⟩
abbrev S4x128x1024 : Shape := ⟨3, ![4, 128, 1024]⟩
abbrev S512x1024 : Shape := ⟨2, ![512, 1024]⟩
abbrev S4x128x512 : Shape := ⟨3, ![4, 128, 512]⟩
abbrev S512x512 : Shape := ⟨2, ![512, 512]⟩
abbrev S4x128x2048 : Shape := ⟨3, ![4, 128, 2048]⟩
abbrev S128x2048 : Shape := ⟨2, ![128, 2048]⟩
abbrev S512x256 : Shape := ⟨2, ![512, 256]⟩
abbrev S1x128x2048 : Shape := ⟨3, ![1, 128, 2048]⟩
abbrev S1x1x2048 : Shape := ⟨3, ![1, 1, 2048]⟩
abbrev S1x2x256x1024 : Shape := ⟨4, ![1, 2, 256, 1024]⟩
abbrev S1x2x1024x256 : Shape := ⟨4, ![1, 2, 1024, 256]⟩
abbrev S1x1x512 : Shape := ⟨3, ![1, 1, 512]⟩
abbrev S1x512x512 : Shape := ⟨3, ![1, 512, 512]⟩
abbrev S1x512x1024 : Shape := ⟨3, ![1, 512, 1024]⟩
abbrev S512x2048 : Shape := ⟨2, ![512, 2048]⟩
abbrev S2x256x1024 : Shape := ⟨3, ![2, 256, 1024]⟩
abbrev S1x2048 : Shape := ⟨2, ![1, 2048]⟩
abbrev S1x1x256x1024 : Shape := ⟨4, ![1, 1, 256, 1024]⟩
abbrev S256x1024 : Shape := ⟨2, ![256, 1024]⟩
abbrev S1x1024 : Shape := ⟨2, ![1, 1024]⟩
abbrev S1x256x1024 : Shape := ⟨3, ![1, 256, 1024]⟩
abbrev S1x1x1024x256 : Shape := ⟨4, ![1, 1, 1024, 256]⟩
abbrev S1024x256 : Shape := ⟨2, ![1024, 256]⟩
abbrev S1x1x256 : Shape := ⟨3, ![1, 1, 256]⟩
abbrev S1x256 : Shape := ⟨2, ![1, 256]⟩
abbrev S1x512 : Shape := ⟨2, ![1, 512]⟩

abbrev nBuf : Space → Nat
  | .hbm => 104
  | .vmem => 27
  | .smem => 0
  | _ => 0

abbrev bufTy : (tb : Table) → Fin (tcTables nBuf tb) → BufTy
  | .hbm, ⟨0, _⟩ => ⟨S128x4x2304, .f32⟩
  | .hbm, ⟨1, _⟩ => ⟨S128x4x1024, .f32⟩
  | .hbm, ⟨2, _⟩ => ⟨S128x4x512, .f32⟩
  | .hbm, ⟨3, _⟩ => ⟨S4x128x32x64, .f32⟩
  | .hbm, ⟨4, _⟩ => ⟨S4x128x32x64, .f32⟩
  | .hbm, ⟨5, _⟩ => ⟨S4x32x64, .f32⟩
  | .hbm, ⟨6, _⟩ => ⟨S4x32x64, .f32⟩
  | .hbm, ⟨7, _⟩ => ⟨S4x32, .f32⟩
  | .hbm, ⟨8, _⟩ => ⟨S4x32x64x16, .f32⟩
  | .hbm, ⟨9, _⟩ => ⟨S4x32x64x16, .f32⟩
  | .hbm, ⟨10, _⟩ => ⟨S4x32x16x64, .f32⟩
  | .hbm, ⟨11, _⟩ => ⟨S4x32x16x64, .f32⟩
  | .hbm, ⟨12, _⟩ => ⟨S4x32x16, .f32⟩
  | .hbm, ⟨13, _⟩ => ⟨S4x512x512, .f32⟩
  | .hbm, ⟨14, _⟩ => ⟨S4x512, .f32⟩
  | .hbm, ⟨15, _⟩ => ⟨S4x1024x1024, .f32⟩
  | .hbm, ⟨16, _⟩ => ⟨S4x1024x1024, .bf16⟩
  | .hbm, ⟨17, _⟩ => ⟨S4x1x2048, .f32⟩
  | .hbm, ⟨18, _⟩ => ⟨S4x1x2048, .f32⟩
  | .hbm, ⟨19, _⟩ => ⟨S4x1x512, .f32⟩
  | .hbm, ⟨20, _⟩ => ⟨S4x1x512, .f32⟩
  | .hbm, ⟨21, _⟩ => ⟨S4x32x64, .f32⟩
  | .hbm, ⟨22, _⟩ => ⟨S4x2048, .f32⟩
  | .hbm, ⟨23, _⟩ => ⟨S4x1x2048, .f32⟩
  | .hbm, ⟨24, _⟩ => ⟨S4x512x512, .bf16⟩
  | .hbm, ⟨25, _⟩ => ⟨S4x2x16x64x16, .f32⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .f32⟩
  | .hbm, ⟨33, _⟩ => ⟨S4x2x16x16x64, .f32⟩
  | .hbm, ⟨34, _⟩ => ⟨S4x2x16x16x1x64, .f32⟩
  | .hbm, ⟨35, _⟩ => ⟨S16x1x16x1, .f32⟩
  | .hbm, ⟨36, _⟩ => ⟨S1x1x16x1x16x1, .f32⟩
  | .hbm, ⟨37, _⟩ => ⟨S4x2x16x16x16x64, .f32⟩
  | .hbm, ⟨38, _⟩ => ⟨S4x2x16x16x16x64, .f32⟩
  | .hbm, ⟨39, _⟩ => ⟨S4x2x16x16x16x64, .f32⟩
  | .hbm, ⟨40, _⟩ => ⟨S4x2x256x1024, .f32⟩
  | .hbm, ⟨41, _⟩ => ⟨S4x2x16x64x16, .f32⟩
  | .hbm, ⟨42, _⟩ => ⟨S16x16, .i32⟩
  | .hbm, ⟨43, _⟩ => ⟨S16x16, .i32⟩
  | .hbm, ⟨44, _⟩ => ⟨S_, .i32⟩
  | .hbm, ⟨45, _⟩ => ⟨S16x16, .i32⟩
  | .hbm, ⟨46, _⟩ => ⟨S16x16, .i32⟩
  | .hbm, ⟨47, _⟩ => ⟨S16x16, .i1⟩
  | .hbm, ⟨48, _⟩ => ⟨S16x16, .f32⟩
  | .hbm, ⟨49, _⟩ => ⟨S4x2x16x16x64, .f32⟩
  | .hbm, ⟨50, _⟩ => ⟨S4x2x16x16x1x64, .f32⟩
  | .hbm, ⟨51, _⟩ => ⟨S16x1x16x1, .f32⟩
  | .hbm, ⟨52, _⟩ => ⟨S1x1x16x1x16x1, .f32⟩
  | .hbm, ⟨53, _⟩ => ⟨S4x2x16x16x16x64, .f32⟩
  | .hbm, ⟨54, _⟩ => ⟨S4x2x16x16x16x64, .f32⟩
  | .hbm, ⟨55, _⟩ => ⟨S4x2x16x16x16x64, .f32⟩
  | .hbm, ⟨56, _⟩ => ⟨S4x2x256x1024, .f32⟩
  | .hbm, ⟨57, _⟩ => ⟨S4x2x16x16x64, .f32⟩
  | .hbm, ⟨58, _⟩ => ⟨S16x16, .i32⟩
  | .hbm, ⟨59, _⟩ => ⟨S16x16, .i32⟩
  | .hbm, ⟨60, _⟩ => ⟨S_, .i32⟩
  | .hbm, ⟨61, _⟩ => ⟨S16x16, .i32⟩
  | .hbm, ⟨62, _⟩ => ⟨S16x16, .i32⟩
  | .hbm, ⟨63, _⟩ => ⟨S16x16, .i1⟩
  | .hbm, ⟨64, _⟩ => ⟨S16x16, .f32⟩
  | .hbm, ⟨65, _⟩ => ⟨S4x2x16x64x16, .f32⟩
  | .hbm, ⟨66, _⟩ => ⟨S4x2x16x64x1x16, .f32⟩
  | .hbm, ⟨67, _⟩ => ⟨S16x1x16x1, .f32⟩
  | .hbm, ⟨68, _⟩ => ⟨S1x1x16x1x16x1, .f32⟩
  | .hbm, ⟨69, _⟩ => ⟨S4x2x16x64x16x16, .f32⟩
  | .hbm, ⟨70, _⟩ => ⟨S4x2x16x64x16x16, .f32⟩
  | .hbm, ⟨71, _⟩ => ⟨S4x2x16x64x16x16, .f32⟩
  | .hbm, ⟨72, _⟩ => ⟨S4x2x1024x256, .f32⟩
  | .hbm, ⟨73, _⟩ => ⟨S4x2x1024x256, .bf16⟩
  | .hbm, ⟨74, _⟩ => ⟨S4x2x16x16x64, .f32⟩
  | .hbm, ⟨75, _⟩ => ⟨S16x16, .i32⟩
  | .hbm, ⟨76, _⟩ => ⟨S16x16, .i32⟩
  | .hbm, ⟨77, _⟩ => ⟨S_, .i32⟩
  | .hbm, ⟨78, _⟩ => ⟨S16x16, .i32⟩
  | .hbm, ⟨79, _⟩ => ⟨S16x16, .i32⟩
  | .hbm, ⟨80, _⟩ => ⟨S16x16, .i1⟩
  | .hbm, ⟨81, _⟩ => ⟨S16x16, .f32⟩
  | .hbm, ⟨82, _⟩ => ⟨S4x2x16x64x16, .f32⟩
  | .hbm, ⟨83, _⟩ => ⟨S4x2x16x64x1x16, .f32⟩
  | .hbm, ⟨84, _⟩ => ⟨S16x1x16x1, .f32⟩
  | .hbm, ⟨85, _⟩ => ⟨S1x1x16x1x16x1, .f32⟩
  | .hbm, ⟨86, _⟩ => ⟨S4x2x16x64x16x16, .f32⟩
  | .hbm, ⟨87, _⟩ => ⟨S4x2x16x64x16x16, .f32⟩
  | .hbm, ⟨88, _⟩ => ⟨S4x2x16x64x16x16, .f32⟩
  | .hbm, ⟨89, _⟩ => ⟨S4x2x1024x256, .f32⟩
  | .hbm, ⟨90, _⟩ => ⟨S4x2x1024x256, .bf16⟩
  | .hbm, ⟨91, _⟩ => ⟨S4x512x1024, .bf16⟩
  | .hbm, ⟨92, _⟩ => ⟨S4x512x1024, .bf16⟩
  | .hbm, ⟨93, _⟩ => ⟨S4x128x2304, .f32⟩
  | .hbm, ⟨94, _⟩ => ⟨S512x2304, .f32⟩
  | .hbm, ⟨95, _⟩ => ⟨S4x128x1024, .f32⟩
  | .hbm, ⟨96, _⟩ => ⟨S512x1024, .f32⟩
  | .hbm, ⟨97, _⟩ => ⟨S4x128x512, .f32⟩
  | .hbm, ⟨98, _⟩ => ⟨S512x512, .f32⟩
  | .hbm, ⟨99, _⟩ => ⟨S4x128x2048, .f32⟩
  | .hbm, ⟨100, _⟩ => ⟨S4x128x2048, .f32⟩
  | .hbm, ⟨101, _⟩ => ⟨S512x1024, .f32⟩
  | .hbm, ⟨102, _⟩ => ⟨S128x2048, .f32⟩
  | .hbm, ⟨103, _⟩ => ⟨S128x2048, .f32⟩
  | .local _ .vmem, ⟨0, _⟩ => ⟨S512x256, .f32⟩
  | .local _ .vmem, ⟨1, _⟩ => ⟨S512x256, .f32⟩
  | .local _ .vmem, ⟨2, _⟩ => ⟨S512x1024, .f32⟩
  | .local _ .vmem, ⟨3, _⟩ => ⟨S512x512, .f32⟩
  | .local _ .vmem, ⟨4, _⟩ => ⟨S1x128x2048, .f32⟩
  | .local _ .vmem, ⟨5, _⟩ => ⟨S1x128x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2x256x1024, .f32⟩
  | .local _ .vmem, ⟨10, _⟩ => ⟨S1x2x256x1024, .f32⟩
  | .local _ .vmem, ⟨11, _⟩ => ⟨S1x2x1024x256, .bf16⟩
  | .local _ .vmem, ⟨12, _⟩ => ⟨S1x2x1024x256, .bf16⟩
  | .local _ .vmem, ⟨13, _⟩ => ⟨S1x1x512, .f32⟩
  | .local _ .vmem, ⟨14, _⟩ => ⟨S1x512x512, .bf16⟩
  | .local _ .vmem, ⟨15, _⟩ => ⟨S1x1x512, .f32⟩
  | .local _ .vmem, ⟨16, _⟩ => ⟨S1x512x1024, .bf16⟩
  | .local _ .vmem, ⟨17, _⟩ => ⟨S1x512x1024, .bf16⟩
  | .local _ .vmem, ⟨18, _⟩ => ⟨S512x1024, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S512x2048, .f32⟩
  | .local _ .vmem, ⟨24, _⟩ => ⟨S512x2048, .f32⟩
  | .local _ .vmem, ⟨25, _⟩ => ⟨S2x256x1024, .bf16⟩
  | .local _ .vmem, ⟨26, _⟩ => ⟨S2x256x1024, .bf16⟩
  | _, _ => ⟨S128x4x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_1 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81_0 : Ref sig .tc := ⟨.hbm, 101, rfl⟩
abbrev main_v81_1 : Ref sig .tc := ⟨.hbm, 102, rfl⟩
abbrev main_v81_2 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_11 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_12 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2x1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2x1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S128x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== S5RefIdeal.lean ====
abbrev S128x4x2304 : Shape := ⟨3, ![128, 4, 2304]⟩
abbrev S128x4x1024 : Shape := ⟨3, ![128, 4, 1024]⟩
abbrev S128x4x512 : Shape := ⟨3, ![128, 4, 512]⟩
abbrev S4x128x32x64 : Shape := ⟨4, ![4, 128, 32, 64]⟩
abbrev S4x32x64 : Shape := ⟨3, ![4, 32, 64]⟩
abbrev S4x32 : Shape := ⟨2, ![4, 32]⟩
abbrev S4x32x64x16 : Shape := ⟨4, ![4, 32, 64, 16]⟩
abbrev S4x32x16x64 : Shape := ⟨4, ![4, 32, 16, 64]⟩
abbrev S4x32x16 : Shape := ⟨3, ![4, 32, 16]⟩
abbrev S4x512x512 : Shape := ⟨3, ![4, 512, 512]⟩
abbrev S4x512 : Shape := ⟨2, ![4, 512]⟩
abbrev S4x1024x1024 : Shape := ⟨3, ![4, 1024, 1024]⟩
abbrev S128x4x32x16 : Shape := ⟨4, ![128, 4, 32, 16]⟩
abbrev S1x32x64 : Shape := ⟨3, ![1, 32, 64]⟩
abbrev S32x64 : Shape := ⟨2, ![32, 64]⟩
abbrev S1x32 : Shape := ⟨2, ![1, 32]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S1x32x64x16 : Shape := ⟨4, ![1, 32, 64, 16]⟩
abbrev S32x64x16 : Shape := ⟨3, ![32, 64, 16]⟩
abbrev S32x128x4x64 : Shape := ⟨4, ![32, 128, 4, 64]⟩
abbrev S128x4x32x64 : Shape := ⟨4, ![128, 4, 32, 64]⟩
abbrev S1x128x32x64 : Shape := ⟨4, ![1, 128, 32, 64]⟩
abbrev S128x32x64 : Shape := ⟨3, ![128, 32, 64]⟩
abbrev S128x1x32x64 : Shape := ⟨4, ![128, 1, 32, 64]⟩
abbrev S1x32x16x64 : Shape := ⟨4, ![1, 32, 16, 64]⟩
abbrev S32x16x64 : Shape := ⟨3, ![32, 16, 64]⟩
abbrev S32x128x4x16 : Shape := ⟨4, ![32, 128, 4, 16]⟩
abbrev S1x32x16 : Shape := ⟨3, ![1, 32, 16]⟩
abbrev S32x16 : Shape := ⟨2, ![32, 16]⟩
abbrev S1x1x32x16 : Shape := ⟨4, ![1, 1, 32, 16]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S4x128x1024 : Shape := ⟨3, ![4, 128, 1024]⟩
abbrev S512x1024 : Shape := ⟨2, ![512, 1024]⟩
abbrev S128x2048 : Shape := ⟨2, ![128, 2048]⟩

abbrev nBuf : Space → Nat
  | .hbm => 230
  | .vmem => 0
  | .smem => 0
  | _ => 0

abbrev hbmTy0_0 (i : Nat) : BufTy := match i % 128 with
  | 0 => ⟨S128x4x2304, .f32⟩
  | 1 => ⟨S128x4x1024, .f32⟩
  | 2 => ⟨S128x4x512, .f32⟩
  | 3 => ⟨S4x128x32x64, .f32⟩
  | 4 => ⟨S4x128x32x64, .f32⟩
  | 5 => ⟨S4x32x64, .f32⟩
  | 6 => ⟨S4x32x64, .f32⟩
  | 7 => ⟨S4x32, .f32⟩
  | 8 => ⟨S4x32x64x16, .f32⟩
  | 9 => ⟨S4x32x64x16, .f32⟩
  | 10 => ⟨S4x32x16x64, .f32⟩
  | 11 => ⟨S4x32x16x64, .f32⟩
  | 12 => ⟨S4x32x16, .f32⟩
  | 13 => ⟨S4x512x512, .f32⟩
  | 14 => ⟨S4x512, .f32⟩
  | 15 => ⟨S4x1024x1024, .f32⟩
  | 16 => ⟨S128x4x512, .f32⟩
  | 17 => ⟨S128x4x32x16, .f32⟩
  | 18 => ⟨S1x32x64, .f32⟩
  | 19 => ⟨S32x64, .f32⟩
  | 20 => ⟨S1x32x64, .f32⟩
  | 21 => ⟨S32x64, .f32⟩
  | 22 => ⟨S1x32, .f32⟩
  | 23 => ⟨S32, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64x1, .f32⟩
  | 52 => ⟨S1x32x64x16, .f32⟩
  | 53 => ⟨S32x64x16, .f32⟩
  | 54 => ⟨S32x64x16, .f32⟩
  | 55 => ⟨S32x64x16, .f32⟩
  | 56 => ⟨S32x64x1, .f32⟩
  | 57 => ⟨S1x32x64x16, .f32⟩
  | 58 => ⟨S32x64x16, .f32⟩
  | 59 => ⟨S32x64x16, .f32⟩
  | 60 => ⟨S32x64x16, .f32⟩
  | 61 => ⟨S32x64x16, .f32⟩
  | 62 => ⟨S32x64x1, .f32⟩
  | 63 => ⟨S1x32x64x16, .f32⟩
  | 64 => ⟨S32x64x16, .f32⟩
  | 65 => ⟨S32x64x16, .f32⟩
  | 66 => ⟨S32x64x16, .f32⟩
  | 67 => ⟨S32x64x1, .f32⟩
  | 68 => ⟨S1x32x64x16, .f32⟩
  | 69 => ⟨S32x64x16, .f32⟩
  | 70 => ⟨S32x64x16, .f32⟩
  | 71 => ⟨S32x64x16, .f32⟩
  | 72 => ⟨S32x64x16, .f32⟩
  | 73 => ⟨S32x128x4x64, .f32⟩
  | 74 => ⟨S128x4x32x64, .f32⟩
  | 75 => ⟨S32x128x4x64, .f32⟩
  | 76 => ⟨S128x4x32x64, .f32⟩
  | 77 => ⟨S1x128x32x64, .f32⟩
  | 78 => ⟨S128x32x64, .f32⟩
  | 79 => ⟨S1x128x32x64, .f32⟩
  | 80 => ⟨S128x32x64, .f32⟩
  | 81 => ⟨S1x32x64, .f32⟩
  | 82 => ⟨S128x32x64, .f32⟩
  | 83 => ⟨S128x32x64, .f32⟩
  | 84 => ⟨S1x32x64, .f32⟩
  | 85 => ⟨S128x32x64, .f32⟩
  | 86 => ⟨S128x32x64, .f32⟩
  | 87 => ⟨S128x32x64, .f32⟩
  | 88 => ⟨S128x1x32x64, .f32⟩
  | 89 => ⟨S128x32x64, .f32⟩
  | 90 => ⟨S128x32x64, .f32⟩
  | 91 => ⟨S1x32x64, .f32⟩
  | 92 => ⟨S128x32x64, .f32⟩
  | 93 => ⟨S128x32x64, .f32⟩
  | 94 => ⟨S1x32x64, .f32⟩
  | 95 => ⟨S128x32x64, .f32⟩
  | 96 => ⟨S128x32x64, .f32⟩
  | 97 => ⟨S128x32x64, .f32⟩
  | 98 => ⟨S128x1x32x64, .f32⟩
  | 99 => ⟨S128x32x64, .f32⟩
  | 100 => ⟨S128x32x64, .f32⟩
  | 101 => ⟨S1x32x64, .f32⟩
  | 102 => ⟨S128x32x64, .f32⟩
  | 103 => ⟨S128x32x64, .f32⟩
  | 104 => ⟨S1x32x64, .f32⟩
  | 105 => ⟨S128x32x64, .f32⟩
  | 106 => ⟨S128x32x64, .f32⟩
  | 107 => ⟨S128x32x64, .f32⟩
  | 108 => ⟨S128x1x32x64, .f32⟩
  | 109 => ⟨S128x32x64, .f32⟩
  | 110 => ⟨S128x32x64, .f32⟩
  | 111 => ⟨S1x32x64, .f32⟩
  | 112 => ⟨S128x32x64, .f32⟩
  | 113 => ⟨S128x32x64, .f32⟩
  | 114 => ⟨S1x32x64, .f32⟩
  | 115 => ⟨S128x32x64, .f32⟩
  | 116 => ⟨S128x32x64, .f32⟩
  | 117 => ⟨S128x32x64, .f32⟩
  | 118 => ⟨S128x1x32x64, .f32⟩
  | 119 => ⟨S128x32x64, .f32⟩
  | 120 => ⟨S128x32x64, .f32⟩
  | 121 => ⟨S1x32x64, .f32⟩
  | 122 => ⟨S128x32x64, .f32⟩
  | 123 => ⟨S128x32x64, .f32⟩
  | 124 => ⟨S1x32x64, .f32⟩
  | 125 => ⟨S128x32x64, .f32⟩
  | 126 => ⟨S128x32x64, .f32⟩
  | 127 => ⟨S128x32x64, .f32⟩
  | _ => ⟨S128x4x2304, .f32⟩

abbrev hbmTy0_1 (i : Nat) : BufTy := match i % 128 with
  | 0 => ⟨S128x1x32x64, .f32⟩
  | 1 => ⟨S128x32x64, .f32⟩
  | 2 => ⟨S128x32x64, .f32⟩
  | 3 => ⟨S1x32x64, .f32⟩
  | 4 => ⟨S128x32x64, .f32⟩
  | 5 => ⟨S128x32x64, .f32⟩
  | 6 => ⟨S1x32x64, .f32⟩
  | 7 => ⟨S128x32x64, .f32⟩
  | 8 => ⟨S128x32x64, .f32⟩
  | 9 => ⟨S128x32x64, .f32⟩
  | 10 => ⟨S128x1x32x64, .f32⟩
  | 11 => ⟨S128x32x64, .f32⟩
  | 12 => ⟨S128x32x64, .f32⟩
  | 13 => ⟨S1x32x64, .f32⟩
  | 14 => ⟨S128x32x64, .f32⟩
  | 15 => ⟨S128x32x64, .f32⟩
  | 16 => ⟨S1x32x64, .f32⟩
  | 17 => ⟨S128x32x64, .f32⟩
  | 18 => ⟨S128x32x64, .f32⟩
  | 19 => ⟨S128x32x64, .f32⟩
  | 20 => ⟨S128x1x32x64, .f32⟩
  | 21 => ⟨S128x32x64, .f32⟩
  | 22 => ⟨S128x32x64, .f32⟩
  | 23 => ⟨S1x32x64, .f32⟩
  | 24 => ⟨S128x32x64, .f32⟩
  | 25 => ⟨S128x32x64, .f32⟩
  | 26 => ⟨S1x32x64, .f32⟩
  | 27 => ⟨S128x32x64, .f32⟩
  | 28 => ⟨S128x32x64, .f32⟩
  | 29 => ⟨S128x32x64, .f32⟩
  | 30 => ⟨S128x1x32x64, .f32⟩
  | 31 => ⟨S128x32x64, .f32⟩
  | 32 => ⟨S128x32x64, .f32⟩
  | 33 => ⟨S1x32x16x64, .f32⟩
  | 34 => ⟨S32x16x64, .f32⟩
  | 35 => ⟨S128x1x32x64, .f32⟩
  | 36 => ⟨S128x1x32x64, .f32⟩
  | 37 => ⟨S128x1x32x64, .f32⟩
  | 38 => ⟨S128x1x32x64, .f32⟩
  | 39 => ⟨S128x4x32x64, .f32⟩
  | 40 => ⟨S32x128x4x16, .f32⟩
  | 41 => ⟨S128x4x32x16, .f32⟩
  | 42 => ⟨S1x32x16x64, .f32⟩
  | 43 => ⟨S32x16x64, .f32⟩
  | 44 => ⟨S128x1x32x64, .f32⟩
  | 45 => ⟨S128x1x32x64, .f32⟩
  | 46 => ⟨S128x1x32x64, .f32⟩
  | 47 => ⟨S128x1x32x64, .f32⟩
  | 48 => ⟨S128x4x32x64, .f32⟩
  | 49 => ⟨S32x128x4x16, .f32⟩
  | 50 => ⟨S128x4x32x16, .f32⟩
  | 51 => ⟨S128x4x32x16, .f32⟩
  | 52 => ⟨S1x32x16, .f32⟩
  | 53 => ⟨S32x16, .f32⟩
  | 54 => ⟨S1x1x32x16, .f32⟩
  | 55 => ⟨S128x4x32x16, .f32⟩
  | 56 => ⟨S128x4x32x16, .f32⟩
  | 57 => ⟨S128x4x32x16, .f32⟩
  | 58 => ⟨S128x4x512, .f32⟩
  | 59 => ⟨S128x4x512, .f32⟩
  | 60 => ⟨S128x4x512, .f32⟩
  | 61 => ⟨S_, .f32⟩
  | 62 => ⟨S128x4x512, .f32⟩
  | 63 => ⟨S128x4x512, .f32⟩
  | 64 => ⟨S128x4x512, .f32⟩
  | 65 => ⟨S_, .f32⟩
  | 66 => ⟨S128x4x512, .f32⟩
  | 67 => ⟨S128x4x512, .f32⟩
  | 68 => ⟨S128x4x512, .f32⟩
  | 69 => ⟨S_, .f32⟩
  | 70 => ⟨S128x4x512, .f32⟩
  | 71 => ⟨S128x4x512, .f32⟩
  | 72 => ⟨S_, .f32⟩
  | 73 => ⟨S128x4x512, .f32⟩
  | 74 => ⟨S128x4x512, .f32⟩
  | 75 => ⟨S128x4x512, .f32⟩
  | 76 => ⟨S1x512x512, .f32⟩
  | 77 => ⟨S512x512, .f32⟩
  | 78 => ⟨S128x4x512, .f32⟩
  | 79 => ⟨S1x512, .f32⟩
  | 80 => ⟨S512, .f32⟩
  | 81 => ⟨S1x1x512, .f32⟩
  | 82 => ⟨S128x4x512, .f32⟩
  | 83 => ⟨S128x4x512, .f32⟩
  | 84 => ⟨S128x4x512, .f32⟩
  | 85 => ⟨S128x4x512, .f32⟩
  | 86 => ⟨S_, .f32⟩
  | 87 => ⟨S128x4x512, .f32⟩
  | 88 => ⟨S128x4x512, .f32⟩
  | 89 => ⟨S_, .f32⟩
  | 90 => ⟨S128x4x512, .f32⟩
  | 91 => ⟨S128x4x512, .f32⟩
  | 92 => ⟨S128x4x512, .f32⟩
  | 93 => ⟨S128x4x1024, .f32⟩
  | 94 => ⟨S1x1024x1024, .f32⟩
  | 95 => ⟨S1024x1024, .f32⟩
  | 96 => ⟨S128x4x1024, .f32⟩
  | 97 => ⟨S128x4x1024, .f32⟩
  | 98 => ⟨S4x128x1024, .f32⟩
  | 99 => ⟨S512x1024, .f32⟩
  | 100 => ⟨S128x2048, .f32⟩
  | 101 => ⟨S128x2048, .f32⟩
  | _ => ⟨S128x4x2304, .f32⟩

abbrev hbmTy (i : Nat) : BufTy := match i / 128 with
  | 0 => hbmTy0_0 i
  | 1 => hbmTy0_1 i
  | _ => ⟨S128x4x2304, .f32⟩

abbrev bufTy : (tb : Table) → Fin (tcTables nBuf tb) → BufTy
  | .hbm, ⟨i, _⟩ => hbmTy i
  | _, _ => ⟨S128x4x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_cst_0 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_cst_1 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_cst_2 : Ref sig .tc := ⟨.hbm, 197, rfl⟩
abbrev main_v178 : Ref sig .tc := ⟨.hbm, 198, rfl⟩
abbrev main_v179 : Ref sig .tc := ⟨.hbm, 199, rfl⟩
abbrev main_cst_3 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_cst_4 : Ref sig .tc := ⟨.hbm, 214, rfl⟩
abbrev main_v193 : Ref sig .tc := ⟨.hbm, 215, rfl⟩
abbrev main_v194 : Ref sig .tc := ⟨.hbm, 216, rfl⟩
abbrev main_cst_5 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩

abbrev nD : Nat := 1
abbrev τ : Topo := Topo.v7x

variable {F : FTy → Type} [FloatOps F]
-- ==== Proof.FfnMath.lean ====
/- The feed-forward layer as ordinary formulas over the extended reals, read off the eight argument arrays: the normed
   input, the gate projection, the gate rows with the two buffered rows in front, the three-tap convolution along time,
   and the layer's output. Both the kernel and the reference are shown to hold these numbers. -/
module

public import proofs.«01_k».proof.Proof.Gen.FfnIdeal
public import Idealize.ShloMosaic.Lib.Pointwise

@[expose] public section

noncomputable section

namespace Cert.FfnMath

open Cert.FfnIdeal Idealize.ShloMosaic

/-- Element `k` of the root-mean-square normed input row at batch `b` and time `t`, with layer 1's gain. -/
def hid (x : Vec Ideal S8x2048x1024 .f32) (g : Vec Ideal S4x1024 .f32) (b : Fin 8) (t : Fin 2048) (k : Fin 1024) : EReal :=
  x (ix3 b t k) * Ideal.rsqrt (Ideal.div (∑ j : Fin 1024, x (ix3 b t j) * x (ix3 b t j)) (Ideal.ofBits .f32 0x44800000#32)
    + Ideal.ofBits .f32 0x358637BD#32) * g (ix2 1 k)

/-- Column `c` of the normed row's product with layer 1's matrix of `w` (the gate's or the up projection's). -/
def proj (x : Vec Ideal S8x2048x1024 .f32) (g : Vec Ideal S4x1024 .f32) (w : Vec Ideal S4x1024x2816 .f32)
    (b : Fin 8) (t : Fin 2048) (c : Fin 2816) : EReal :=
  ∑ k : Fin 1024, hid x g b t k * w (ix3 1 k c)

/-- Position `p` of the gate rows of batch `b` with the two buffered rows in front. -/
def padded (x : Vec Ideal S8x2048x1024 .f32) (buf : Vec Ideal S4x8x2x2816 .f32) (g : Vec Ideal S4x1024 .f32)
    (wg : Vec Ideal S4x1024x2816 .f32) (b : Fin 8) (p : Fin 2050) (c : Fin 2816) : EReal :=
  if h : (p : ℕ) < 2 then buf (ix4 1 b ⟨p, h⟩ c) else proj x g wg b ⟨(p : ℕ) - 2, by omega⟩ c

/-- The convolution of three taps along time, with its bias, at batch `b`, time `t`, column `c`. -/
def conv (x : Vec Ideal S8x2048x1024 .f32) (buf : Vec Ideal S4x8x2x2816 .f32) (g : Vec Ideal S4x1024 .f32)
    (wg : Vec Ideal S4x1024x2816 .f32) (cw : Vec Ideal S4x3x2816 .f32) (cb : Vec Ideal S4x2816 .f32)
    (b : Fin 8) (t : Fin 2048) (c : Fin 2816) : EReal :=
  cb (ix2 1 c) + cw (ix3 1 0 c) * padded x buf g wg b ⟨t, by omega⟩ c
    + cw (ix3 1 1 c) * padded x buf g wg b ⟨1 + t, by omega⟩ c
    + cw (ix3 1 2 c) * padded x buf g wg b ⟨2 + t, by omega⟩ c

/-- The layer's output at batch `b`, time `t`, column `k`: the input plus the gated product carried down. -/
def out (x : Vec Ideal S8x2048x1024 .f32) (buf : Vec Ideal S4x8x2x2816 .f32) (g : Vec Ideal S4x1024 .f32)
    (wg wu : Vec Ideal S4x1024x2816 .f32) (cw : Vec Ideal S4x3x2816 .f32) (cb : Vec Ideal S4x2816 .f32)
    (wd : Vec Ideal S4x2816x1024 .f32) (b : Fin 8) (t : Fin 2048) (k : Fin 1024) : EReal :=
  x (ix3 b t k) + ∑ c : Fin 2816, conv x buf g wg cw cb b t c * Ideal.logistic (conv x buf g wg cw cb b t c)
    * proj x g wu b t c * wd (ix3 1 c k)

/-- Two positions after time `t` in the padded rows stands the gate row of time `t` itself. -/
theorem padded_two (x : Vec Ideal S8x2048x1024 .f32) (buf : Vec Ideal S4x8x2x2816 .f32) (g : Vec Ideal S4x1024 .f32)
    (wg : Vec Ideal S4x1024x2816 .f32) (b : Fin 8) (t : ℕ) (h : 2 + t < 2050) (c : Fin 2816) :
    padded x buf g wg b ⟨2 + t, h⟩ c = proj x g wg b ⟨t, by omega⟩ c := by
  unfold padded
  rw [dif_neg (by simp only; omega)]
  congr 1
  apply Fin.ext
  simp only
  omega

/-- The arrays both programs return: the layer's output and the convolution's new buffered rows, time-major. -/
def outArr (x : Vec Ideal S8x2048x1024 .f32) (buf : Vec Ideal S4x8x2x2816 .f32) (g : Vec Ideal S4x1024 .f32)
    (wg wu : Vec Ideal S4x1024x2816 .f32) (cw : Vec Ideal S4x3x2816 .f32) (cb : Vec Ideal S4x2816 .f32)
    (wd : Vec Ideal S4x2816x1024 .f32) : Vec Ideal S16384x1024 .f32 :=
  fun i => out x buf g wg wu cw cb wd ⟨(i 0).val % 8, Nat.mod_lt _ (by decide)⟩
    ⟨(i 0).val / 8, by have h : (i 0).val < 16384 := (i 0).isLt; omega⟩ (i 1)

def bufArr (x : Vec Ideal S8x2048x1024 .f32) (buf : Vec Ideal S4x8x2x2816 .f32) (g : Vec Ideal S4x1024 .f32)
    (wg : Vec Ideal S4x1024x2816 .f32) : Vec Ideal S16x2816 .f32 :=
  fun i => padded x buf g wg ⟨(i 0).val % 8, Nat.mod_lt _ (by decide)⟩
    ⟨2048 + (i 0).val / 8, by have h : (i 0).val < 16 := (i 0).isLt; omega⟩ (i 1)

end Cert.FfnMath
-- ==== Proof.FfnRef.lean ====
/- The reference's two results in the formulas of `FfnMath`: the layer's output and the last two padded gate rows, both laid
   out time-major (row `8 t + b`). -/
module

public import proofs.«01_k».proof.Proof.FfnMath
public import proofs.«01_k».proof.Proof.Gen.FfnRefIdeal.Run
public import Idealize.ShloMosaic.Lib.Tactic.CleanTypes

@[expose] public section

set_option maxRecDepth 16384

noncomputable section

namespace Cert.FfnRefIdeal.RefValue

open Cert.FfnRefIdeal Cert.FfnRefIdeal.Gen Cert.FfnRefIdeal.Value Cert.FfnMath Idealize.ShloMosaic Idealize.ShloMosaic.TcCoe Idealize.SL.Sem

variable (m : (ℓ : Loc nD τ sig) → Buf (Elt Ideal) ℓ)

/-- The reference's first result is the layer's output. -/
theorem out_eq (c : Dev nD) : (res_main_v58 m c : Vec Ideal S16384x1024 .f32)
    = outArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  funext i
  idx_vars i
  unfold res_main_v58 outArr
  clean_types
  pointwise
  simp only [out, conv, padded_two]
  simp only [padded, proj, hid, Ideal.logistic, add_assoc]

/-- The reference's run: its two results are the layer's output and the new buffered rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v58)
        = outArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      ∧ r.2.mem ((c.tc : Thread nD τ).loc main_v61)
        = bufArr (m ((c.tc : Thread nD τ).loc main_arg0)) (m ((c.tc : Thread nD τ).loc main_arg1))
      (m ((c.tc : Thread nD τ).loc main_arg2)) (m ((c.tc : Thread nD τ).loc main_arg3))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨(h c).1.trans (out_eq m c), (h c).2.1.trans ?_, (h c).2.2⟩) (run m ρ)
  funext i
  idx_vars i
  unfold bufArr
  clean_types
  pointwise
  simp only [padded, proj, hid]

end Cert.FfnRefIdeal.RefValue
-- ==== Proof.FfnBlock.lean ====
/- What one grid point of the feed-forward kernel computes, in the formulas of `FfnMath`, and, by induction over the grid,
   what the carried buffer holds between points. Row `r` of point `t`'s tile is row `512 t + r` of the time-major input,
   that is time `(512 t + r) / 8` of batch `(512 t + r) % 8`. -/
module

public import proofs.«01_k».proof.Proof.FfnMath
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Block

open Cert.FfnIdeal Cert.FfnIdeal.Gen Cert.FfnMath Idealize.ShloMosaic Idealize.ShloMosaic.TcCoe Idealize.SL.Sem

variable (m : (ℓ : Loc nD τ sig) → Buf (Elt Ideal) ℓ)

/-- The eight argument arrays as the layer's formulas take them. -/
abbrev X (c : Dev nD) : Vec Ideal S8x2048x1024 .f32 := m ((c.tc : Thread nD τ).loc main_arg0)
abbrev BUF (c : Dev nD) : Vec Ideal S4x8x2x2816 .f32 := m ((c.tc : Thread nD τ).loc main_arg1)
abbrev GAIN (c : Dev nD) : Vec Ideal S4x1024 .f32 := m ((c.tc : Thread nD τ).loc main_arg2)
abbrev WG (c : Dev nD) : Vec Ideal S4x1024x2816 .f32 := m ((c.tc : Thread nD τ).loc main_arg3)
abbrev WU (c : Dev nD) : Vec Ideal S4x1024x2816 .f32 := m ((c.tc : Thread nD τ).loc main_arg4)
abbrev CW (c : Dev nD) : Vec Ideal S4x3x2816 .f32 := m ((c.tc : Thread nD τ).loc main_arg5)
abbrev CB (c : Dev nD) : Vec Ideal S4x2816 .f32 := m ((c.tc : Thread nD τ).loc main_arg6)
abbrev WD (c : Dev nD) : Vec Ideal S4x2816x1024 .f32 := m ((c.tc : Thread nD τ).loc main_arg7)

/-- The grid has 32 points. -/
theorem lt32 (t : Fin cfg0.N) : t.val < 32 := lt_of_lt_of_eq t.isLt N_0

/-- The index maps of the eight input windows: the input's tile is the point's, every other block is layer 1's. -/
theorem idx : ∀ t : Fin cfg0.N, win0_0.index t = ![t.val, 0] ∧ win0_1.index t = ![1, 0, 0] ∧ win0_2.index t = ![1, 0, 0]
    ∧ win0_3.index t = ![1, 0, 0] ∧ win0_4.index t = ![1, 0, 0] ∧ win0_5.index t = ![1, 0, 0]
    ∧ win0_6.index t = ![1, 0, 0] ∧ win0_7.index t = ![1, 0, 0] := by decide +kernel

/-- Batch and time of the time-major row `R`. -/
abbrev bat (R : ℕ) : Fin 8 := ⟨R % 8, Nat.mod_lt _ (by decide)⟩
abbrev tim (R : ℕ) (h : R < 16384) : Fin 2048 := ⟨R / 8, by omega⟩
abbrev pos (R : ℕ) (h : R < 16400) : Fin 2050 := ⟨R / 8, by omega⟩

/-- The input's tile at point `t`. -/
theorem blk0 (c : Dev nD) (t : Fin cfg0.N) (r : Fin 512) (k : Fin 1024) :
    iblk m c 0 t (ix2 r k) = X m c (ix3 (bat (512 * t.val + r.val)) (tim (512 * t.val + r.val) (by have := lt32 t; omega)) k) := by
  have := lt32 t
  blk_simp [iblk, idx t]
  entry_read
  pointwise
  blk_ext [idx t]

/-- The buffered rows, time-major. -/
theorem blk1 (c : Dev nD) (t : Fin cfg0.N) (r : Fin 16) (k : Fin 2816) :
    iblk m c 1 t (ix3 0 r k) = BUF m c (ix4 1 (bat r.val) ⟨r.val / 8, by omega⟩ k) := by
  blk_simp [iblk, idx t]
  entry_read
  pointwise
  blk_ext [idx t]

/-- The gain of layer 1. -/
theorem blk2 (c : Dev nD) (t : Fin cfg0.N) (k : Fin 1024) : iblk m c 2 t (ix3 0 0 k) = GAIN m c (ix2 1 k) := by
  blk_simp [iblk, idx t]
  entry_read
  pointwise
  blk_ext [idx t]

/-- The gate matrix of layer 1. -/
theorem blk3 (c : Dev nD) (t : Fin cfg0.N) (k : Fin 1024) (j : Fin 2816) : iblk m c 3 t (ix3 0 k j) = WG m c (ix3 1 k j) := by
  blk_simp [iblk, idx t]
  entry_read
  pointwise
  blk_ext [idx t]

/-- The up matrix of layer 1. -/
theorem blk4 (c : Dev nD) (t : Fin cfg0.N) (k : Fin 1024) (j : Fin 2816) : iblk m c 4 t (ix3 0 k j) = WU m c (ix3 1 k j) := by
  blk_simp [iblk, idx t]
  entry_read
  pointwise
  blk_ext [idx t]

/-- The convolution's taps of layer 1. -/
theorem blk5 (c : Dev nD) (t : Fin cfg0.N) (i : Fin 3) (j : Fin 2816) : iblk m c 5 t (ix3 0 i j) = CW m c (ix3 1 i j) := by
  blk_simp [iblk, idx t]
  rw [V_main_arg5]
  blk_ext [idx t]

/-- The convolution's bias of layer 1. -/
theorem blk6 (c : Dev nD) (t : Fin cfg0.N) (j : Fin 2816) : iblk m c 6 t (ix3 0 0 j) = CB m c (ix2 1 j) := by
  blk_simp [iblk, idx t]
  entry_read
  pointwise
  blk_ext [idx t]

/-- The down matrix of layer 1. -/
theorem blk7 (c : Dev nD) (t : Fin cfg0.N) (j : Fin 2816) (k : Fin 1024) : iblk m c 7 t (ix3 0 j k) = WD m c (ix3 1 j k) := by
  blk_simp [iblk, idx t]
  entry_read
  pointwise
  blk_ext [idx t]

/-- The rows the kernel convolves at point `t`: when the carried buffer `s` holds the sixteen rows before the tile, the
    sixteen carried rows and the tile's gate rows are the padded gate rows from row `512 t` on. -/
theorem pad_block (c : Dev nD) (t : Fin cfg0.N) (s : Vec Ideal S16x2816 .f32)
    (hs : ∀ (r : Fin 16) (k : Fin 2816), s (ix2 r k) = padded (X m c) (BUF m c) (GAIN m c) (WG m c) (bat (512 * t.val + r.val))
      (pos (512 * t.val + r.val) (by have := lt32 t; omega)) k) (r : Fin 528) (k : Fin 2816) :
    k0_pay8 (iblk m c 0 t) (iblk m c 2 t) (iblk m c 3 t) s (ix2 r k)
      = padded (X m c) (BUF m c) (GAIN m c) (WG m c) (bat (512 * t.val + r.val))
        (pos (512 * t.val + r.val) (by have := lt32 t; omega)) k := by
  have ht := lt32 t
  pointwise [k0_pay8, k0_pay6, k0_pay5]
  split
  · rename_i h
    exact hs ⟨r, h⟩ k
  · rename_i h
    unfold padded
    rw [dif_neg (by simp only; omega)]
    unfold proj hid
    simp only [blk0, blk2, blk3]
    have e1 : bat (512 * t.val + (r.val - 16)) = bat (512 * t.val + r.val) := by
      apply Fin.ext; simp only; omega
    have e2 : ∀ h, tim (512 * t.val + (r.val - 16)) h = ⟨(512 * t.val + r.val) / 8 - 2, by omega⟩ := by
      intro h; apply Fin.ext; simp only; omega
    simp only [e1, e2]

/-- The buffer the first point fills: the two buffered rows of each batch are the first sixteen padded rows. -/
theorem first_carry (c : Dev nD) (t : Fin cfg0.N) (h0 : t.val % 32 = 0) (r : Fin 16) (k : Fin 2816) :
    k0_pay4 (iblk m c 1 t) (ix2 r k) = padded (X m c) (BUF m c) (GAIN m c) (WG m c) (bat (512 * t.val + r.val))
      (pos (512 * t.val + r.val) (by have := lt32 t; omega)) k := by
  have ht := lt32 t
  have h0' : t.val = 0 := by omega
  pointwise [k0_pay4]
  rw [blk1]
  unfold padded
  rw [dif_pos (by simp only; omega)]
  blk_ext [h0']

/-- Both buffers receive rows 512 to 527 of the convolved rows. -/
theorem pay1_at (v : FVec Ideal S528x2816 .f32) (r : Fin 16) (k : Fin 2816) : k0_pay1 v (ix2 r k) = v (ix2 ⟨512 + r.val, by omega⟩ k) := by
  pointwise [k0_pay1]

theorem pay2_at (v : FVec Ideal S528x2816 .f32) (r : Fin 16) (k : Fin 2816) : k0_pay2 v (ix2 r k) = v (ix2 ⟨512 + r.val, by omega⟩ k) := by
  pointwise [k0_pay2, k0_pay1]

/-- After point `n` the carried buffer, and the buffer the kernel returns, hold the last sixteen padded rows seen. -/
theorem carry (c : Dev nD) : ∀ (n : ℕ) (hn : n < cfg0.N) (r : Fin 16) (k : Fin 2816),
    (outsAt0 m c n hn).2.1 (ix2 r k) = padded (X m c) (BUF m c) (GAIN m c) (WG m c) (bat (512 * n + (512 + r.val)))
      (pos (512 * n + (512 + r.val)) (by have := lt32 ⟨n, hn⟩; simp only at this; omega)) k
    ∧ (outsAt0 m c n hn).2.2 (ix2 r k) = padded (X m c) (BUF m c) (GAIN m c) (WG m c) (bat (512 * n + (512 + r.val)))
      (pos (512 * n + (512 + r.val)) (by have := lt32 ⟨n, hn⟩; simp only at this; omega)) k := by
  intro n
  induction n with
  | zero =>
    intro hn r k
    have h0 : (⟨0, hn⟩ : Fin cfg0.N).val % 32 = 0 := rfl
    have e := outsAt0_A m c ⟨0, hn⟩ h0
    dsimp only at e
    rw [e]
    constructor
    · dsimp only
      frame_out
      refine (pay1_at _ r k).trans ?_
      exact pad_block m c ⟨0, hn⟩ _ (first_carry m c ⟨0, hn⟩ h0) ⟨512 + r.val, by omega⟩ k
    · dsimp only
      frame_out
      refine (pay2_at _ r k).trans ?_
      exact pad_block m c ⟨0, hn⟩ _ (first_carry m c ⟨0, hn⟩ h0) ⟨512 + r.val, by omega⟩ k
  | succ n ih =>
    intro hn r k
    have hlt : n + 1 < 32 := lt32 ⟨n + 1, hn⟩
    have h0 : ¬ (⟨n + 1, hn⟩ : Fin cfg0.N).val % 32 = 0 := by simp only; omega
    have e := outsAt0_B m c ⟨n + 1, hn⟩ h0
    dsimp only at e
    have hs : ∀ (r : Fin 16) (k : Fin 2816), (outsAt0 m c (n + 1 - 1) (by omega)).2.2 (ix2 r k)
        = padded (X m c) (BUF m c) (GAIN m c) (WG m c) (bat (512 * (n + 1) + r.val))
          (pos (512 * (n + 1) + r.val) (by omega)) k := by
      intro r k
      refine ((ih (by omega) r k).2).trans ?_
      congr 1 <;> (apply Fin.ext; simp only; omega)
    rw [e]
    constructor
    · dsimp only
      frame_out
      simp only [read_unread_whole]
      refine (pay1_at _ r k).trans ?_
      exact pad_block m c ⟨n + 1, hn⟩ _ hs ⟨512 + r.val, by omega⟩ k
    · dsimp only
      frame_out
      simp only [read_unread_whole]
      refine (pay2_at _ r k).trans ?_
      exact pad_block m c ⟨n + 1, hn⟩ _ hs ⟨512 + r.val, by omega⟩ k

/-- The output's tile at a point whose carried buffer holds the sixteen rows before it: the layer's output rows. -/
theorem out_block (c : Dev nD) (t : Fin cfg0.N) (s : Vec Ideal S16x2816 .f32)
    (hs : ∀ (r : Fin 16) (k : Fin 2816), s (ix2 r k) = padded (X m c) (BUF m c) (GAIN m c) (WG m c) (bat (512 * t.val + r.val))
      (pos (512 * t.val + r.val) (by have := lt32 t; omega)) k) (r : Fin 512) (k : Fin 1024) :
    k0_pay3 (k0_pay5 (iblk m c 0 t)) (k0_pay7 (iblk m c 0 t) (iblk m c 2 t) (iblk m c 4 t))
      (k0_pay8 (iblk m c 0 t) (iblk m c 2 t) (iblk m c 3 t) s) (k0_pay9 (iblk m c 6 t))
      (k0_pay10 (View.ld (iblk m c 5 t) (Rect.unit ![0, 0, 0] ![1, 1, 2816] inb_S1x3x2816_S1x1x2816_0_0_0)))
      (View.ld (iblk m c 5 t) (Rect.unit ![0, 1, 0] ![1, 1, 2816] inb_S1x3x2816_S1x1x2816_0_1_0))
      (View.ld (iblk m c 5 t) (Rect.unit ![0, 2, 0] ![1, 1, 2816] inb_S1x3x2816_S1x1x2816_0_2_0)) (iblk m c 7 t) (ix2 r k)
      = out (X m c) (BUF m c) (GAIN m c) (WG m c) (WU m c) (CW m c) (CB m c) (WD m c) (bat (512 * t.val + r.val))
        (tim (512 * t.val + r.val) (by have := lt32 t; omega)) k := by
  have ht := lt32 t
  have hp := pad_block m c t s hs
  generalize k0_pay8 (iblk m c 0 t) (iblk m c 2 t) (iblk m c 3 t) s = P at hp
  pointwise [k0_pay3, k0_pay5, k0_pay6, k0_pay7, k0_pay9, k0_pay10]
  unfold out conv proj hid
  simp only [hp, blk0, blk2, blk4, blk5, blk6, blk7]
  have b1 : bat (512 * t.val + (8 + r.val)) = bat (512 * t.val + r.val) := by apply Fin.ext; simp only; omega
  have b2 : bat (512 * t.val + (16 + r.val)) = bat (512 * t.val + r.val) := by apply Fin.ext; simp only; omega
  have p1 : ∀ h, pos (512 * t.val + (8 + r.val)) h = ⟨1 + (512 * t.val + r.val) / 8, by omega⟩ := by
    intro h; apply Fin.ext; simp only; omega
  have p2 : ∀ h, pos (512 * t.val + (16 + r.val)) h = ⟨2 + (512 * t.val + r.val) / 8, by omega⟩ := by
    intro h; apply Fin.ext; simp only; omega
  simp only [b1, b2, p1, p2]

/-- Every point writes the layer's output rows of its tile. -/
theorem outTile (c : Dev nD) (t : Fin cfg0.N) (r : Fin 512) (k : Fin 1024) :
    (outsAt0 m c t.val t.isLt).1 (ix2 r k)
      = out (X m c) (BUF m c) (GAIN m c) (WG m c) (WU m c) (CW m c) (CB m c) (WD m c) (bat (512 * t.val + r.val))
        (tim (512 * t.val + r.val) (by have := lt32 t; omega)) k := by
  have ht := lt32 t
  by_cases h0 : t.val % 32 = 0
  · rw [outsAt0_A m c t h0]
    dsimp only
    frame_out
    exact out_block m c t _ (first_carry m c t h0) r k
  · rw [outsAt0_B m c t h0]
    dsimp only
    frame_out
    simp only [read_unread_whole]
    refine out_block m c t _ (fun r k => ?_) r k
    refine ((carry m c (t.val - 1) _ r k).2).trans ?_
    congr 1 <;> (apply Fin.ext; simp only; omega)

end Cert.FfnIdeal.Block
-- ==== Proof.FfnArray.lean ====
/- What the feed-forward kernel's two result arrays hold after the run: the layer's output rows, tile by tile, and the new
   buffered rows the last point left. -/
module

public import proofs.«01_k».proof.Proof.FfnBlock

@[expose] public section

set_option maxRecDepth 16384

noncomputable section

namespace Cert.FfnIdeal.Block

open Cert.FfnIdeal Cert.FfnIdeal.Gen Cert.FfnMath Idealize.ShloMosaic Idealize.ShloMosaic.TcCoe Idealize.SL.Sem

variable (m : (ℓ : Loc nD τ sig) → Buf (Elt Ideal) ℓ)

/-- The output array is the layer's output, time-major. -/
theorem G8_eq (c : Dev nD) : Value.G8 m c
    = outArr (X m c) (BUF m c) (GAIN m c) (WG m c) (WU m c) (CW m c) (CB m c) (WD m c) := by
  funext i
  idx_vars i
  unfold Value.G8 outArr
  have hp : Value.pt8Of (ix2 i0 i1) = i0.val / 512 := by
    show 1 * (i0.val / 512 - 0) + 1 * (i1.val / 1024 - 0) = _
    omega
  have hlt : Value.pt8Of (ix2 i0 i1) < cfg0.N := by rw [hp]; exact lt_of_lt_of_eq (by omega) N_0.symm
  have hl : Value.loc8Of (ix2 i0 i1) = ix2 ⟨i0.val % 512, by omega⟩ i1 := by
    funext a
    apply Fin.ext
    match a with
    | ⟨0, _⟩ => rfl
    | ⟨1, _⟩ => show i1.val % 1024 = i1.val; omega
  rw [dif_pos hlt, ← Value.outsAt0_sweep m c _ hlt, hl]
  refine (outTile m c ⟨_, hlt⟩ _ _).trans ?_
  congr 1 <;> (apply Fin.ext; simp only [hp, ix2]; omega)

/-- The buffer array is the last two gate rows of each batch, time-major. -/
theorem G9_eq (c : Dev nD) : Value.G9 m c = bufArr (X m c) (BUF m c) (GAIN m c) (WG m c) := by
  rw [Value.G9_last, ← Value.outsAt0_sweep m c 31 (lt_of_lt_of_eq (by decide) N_0.symm)]
  funext i
  idx_vars i
  unfold bufArr
  refine ((carry m c 31 _ _ _).1).trans ?_
  congr 1 <;> (apply Fin.ext; simp only [ix2]; omega)

end Cert.FfnIdeal.Block
-- ==== Proof.RowMath.lean ====
/- The root-mean-square norm of one row of 1024 numbers, as an ordinary formula over the extended reals. -/
module

public import Idealize.ShloMosaic.Lib.Pointwise

@[expose] public section

noncomputable section

namespace Cert.RowMath

open Idealize.ShloMosaic

/-- Element `k` of the row `x` divided by its root mean square and multiplied by the gain `g`. -/
def normed (x g : Fin 1024 → EReal) (k : Fin 1024) : EReal :=
  x k * Ideal.rsqrt (Ideal.div (∑ j : Fin 1024, x j * x j) (Ideal.ofBits .f32 0x44800000#32)
    + Ideal.ofBits .f32 0x358637BD#32) * g k

end Cert.RowMath
-- ==== Proof.CrossMath.lean ====
/- The cross-attention of one row with its memory, as formulas over the extended reals. -/
module

public import proofs.«01_k».proof.Proof.RowMath

@[expose] public section

noncomputable section

namespace Cert.CrossMath

open Cert.RowMath Idealize.ShloMosaic

/-- Element `e` of the row's query: the normed row times column `e` of the query matrix. -/
def query (x g : Fin 1024 → EReal) (wq : Fin 1024 → Fin 1024 → EReal) (e : Fin 1024) : EReal :=
  ∑ k : Fin 1024, normed x g k * wq k e

/-- The score of a query against a key: their product divided by sixteen. -/
def score (q k : Fin 256 → EReal) : EReal := (∑ d : Fin 256, q d * k d) * Ideal.ofBits .f32 0x3D800000#32

/-- The largest of the scores. -/
def top (s : Fin 256 → EReal) : EReal := Finset.fold max (Ideal.ofBits .f32 0xFF800000#32) s Finset.univ

/-- The softmax weight of memory row `j` among the scores `s`. -/
def weight (s : Fin 256 → EReal) (j : Fin 256) : EReal :=
  Ideal.div (Ideal.exp (s j - top s)) (∑ i : Fin 256, Ideal.exp (s i - top s))

/-- Column `d` of head `h`. -/
def col (h : Fin 4) (d : Fin 256) : Fin 1024 := ⟨h.val * 256 + d.val, by omega⟩

/-- The head that column `e` belongs to. -/
def head (e : Fin 1024) : Fin 4 := ⟨e.val / 256, by omega⟩

/-- The scores of head `h`: the query `q` against every key. -/
def scores (q : Fin 1024 → EReal) (K : Fin 256 → Fin 1024 → EReal) (h : Fin 4) (j : Fin 256) : EReal :=
  score (fun d => q (col h d)) (fun d => K j (col h d))

/-- Column `e` of what the row attends to: its head's weights times the values. -/
def attend (q : Fin 1024 → EReal) (K V : Fin 256 → Fin 1024 → EReal) (e : Fin 1024) : EReal :=
  ∑ j : Fin 256, weight (scores q K (head e)) j * V j e

/-- The row after the layer: itself plus what it attends to times the output matrix. -/
def crossed (x g : Fin 1024 → EReal) (wq : Fin 1024 → Fin 1024 → EReal) (K V : Fin 256 → Fin 1024 → EReal)
    (wo : Fin 1024 → Fin 1024 → EReal) (e : Fin 1024) : EReal :=
  x e + ∑ k : Fin 1024, attend (query x g wq) K V k * wo k e

/-- The maximum with the value the fold starts from is the fold. -/
theorem max_top (s : Fin 256 → EReal) : max (Ideal.ofBits .f32 0xFF800000#32) (top s) = top s :=
  max_eq_right ((Finset.le_fold_max _).mpr (.inl le_rfl))

end Cert.CrossMath
-- ==== Proof.CrossQuery.lean ====
/- The queries of a tile of rows, as the cross-attention kernel stages them by lane block, and what it reads back. -/
module

public import proofs.«01_k».proof.Proof.CrossMath
public import proofs.«01_k».proof.Proof.Gen.CrossIdeal.Value
public import Idealize.ShloMosaic.Lib.Pipeline.ValueKit
public import Idealize.ShloMosaic.Lib.Pipeline.ReadBack

@[expose] public section

set_option maxRecDepth 16384

noncomputable section

namespace Cert.CrossIdeal.Block

open Cert.CrossIdeal Cert.CrossIdeal.Gen Cert.RowMath Cert.CrossMath Idealize.ShloMosaic Idealize.ShloMosaic.TcCoe Idealize.SL.Sem

variable (m : (ℓ : Loc nD τ sig) → Buf (Elt Ideal) ℓ)

/-- The argument arrays. -/
abbrev X (c : Dev nD) : Vec Ideal S8x2048x1024 .f32 := m ((c.tc : Thread nD τ).loc main_arg0)
abbrev MK (c : Dev nD) : Vec Ideal S4x8x256x4x256 .f32 := m ((c.tc : Thread nD τ).loc main_arg1)
abbrev MV (c : Dev nD) : Vec Ideal S4x8x256x4x256 .f32 := m ((c.tc : Thread nD τ).loc main_arg2)
abbrev GAIN (c : Dev nD) : Vec Ideal S4x1024 .f32 := m ((c.tc : Thread nD τ).loc main_arg3)
abbrev WQ (c : Dev nD) : Vec Ideal S4x1024x1024 .f32 := m ((c.tc : Thread nD τ).loc main_arg4)
abbrev WO (c : Dev nD) : Vec Ideal S4x1024x1024 .f32 := m ((c.tc : Thread nD τ).loc main_arg5)

/-- Row `s` of batch `b`. -/
def rowOf (x : Vec Ideal S8x2048x1024 .f32) (b : Fin 8) (s : Fin 2048) (k : Fin 1024) : EReal := x (ix3 b s k)

/-- The layer's row of the gains. -/
def gainOf (g : Vec Ideal S4x1024 .f32) (k : Fin 1024) : EReal := g (ix2 1 k)

/-- The layer's matrix. -/
def matOf (w : Vec Ideal S4x1024x1024 .f32) (k e : Fin 1024) : EReal := w (ix3 1 k e)

/-- The layer's memory of batch `b`: row `j`, the heads side by side. -/
def memOf (y : Vec Ideal S4x8x256x4x256 .f32) (b : Fin 8) (j : Fin 256) (e : Fin 1024) : EReal :=
  y (ix5 1 b j ⟨e.val / 256, by omega⟩ ⟨e.val % 256, by omega⟩)

/-- The result: row `8 s + b` is batch `b`'s row `s` after the layer. -/
def crossArr (x : Vec Ideal S8x2048x1024 .f32) (mk mv : Vec Ideal S4x8x256x4x256 .f32) (g : Vec Ideal S4x1024 .f32)
    (wq wo : Vec Ideal S4x1024x1024 .f32) : Vec Ideal S16384x1024 .f32 := fun i =>
  crossed (rowOf x ⟨(i 0).val % 8, Nat.mod_lt _ (by decide)⟩ ⟨(i 0).val / 8, Nat.div_lt_of_lt_mul (i 0).isLt⟩) (gainOf g) (matOf wq)
    (memOf mk ⟨(i 0).val % 8, Nat.mod_lt _ (by decide)⟩) (memOf mv ⟨(i 0).val % 8, Nat.mod_lt _ (by decide)⟩) (matOf wo)
    ⟨(i 1).val, (i 1).isLt⟩

/-- The grid has sixteen points. -/
theorem lt16 (t : Fin cfg0.N) : t.val < 16 := t.isLt

/-- The index maps. -/
theorem idx : ∀ t : Fin cfg0.N, win0_0.index t = ![t.val, 0] ∧ win0_1.index t = ![1, 0, 0] ∧ win0_2.index t = ![1, 0, 0]
    ∧ win0_3.index t = ![1, 0, 0, 0] ∧ win0_4.index t = ![1, 0, 0, 0] ∧ win0_5.index t = ![1, 0, 0] ∧ win0_6.index t = ![t.val, 0] := by
  decide +kernel

/-- The batch and the time of row `r` of the tile at point `t`. -/
def bat (r : Fin 1024) : Fin 8 := ⟨r.val % 8, by omega⟩
def tim (t : Fin cfg0.N) (r : Fin 1024) : Fin 2048 := ⟨t.val * 128 + r.val / 8, by have := lt16 t; omega⟩

/-! The blocks the kernel reads at point `t`. -/

theorem blk0 (c : Dev nD) (t : Fin cfg0.N) (r : Fin 1024) (k : Fin 1024) : iblk m c 0 t (ix2 r k) = rowOf (X m c) (bat r) (tim t r) k := by
  have := lt16 t
  unfold rowOf bat tim
  blk_simp [iblk, idx t]
  entry_read
  pointwise
  blk_ext [idx t]

theorem blk1 (c : Dev nD) (t : Fin cfg0.N) (k : Fin 1024) : iblk m c 1 t (ix3 0 0 k) = gainOf (GAIN m c) k := by
  unfold gainOf
  blk_simp [iblk, idx t]
  entry_read
  pointwise
  blk_ext [idx t]

theorem blk2 (c : Dev nD) (t : Fin cfg0.N) (k e : Fin 1024) : iblk m c 2 t (ix3 0 k e) = matOf (WQ m c) k e := by
  unfold matOf
  blk_simp [iblk, idx t]
  entry_read
  pointwise
  blk_ext [idx t]

theorem blk3 (c : Dev nD) (t : Fin cfg0.N) (b : Fin 8) (j : Fin 256) (e : Fin 1024) :
    iblk m c 3 t (ix4 0 b j e) = memOf (MK m c) b j e := by
  unfold memOf
  blk_simp [iblk, idx t]
  entry_read
  pointwise
  blk_ext [idx t]

theorem blk4 (c : Dev nD) (t : Fin cfg0.N) (b : Fin 8) (j : Fin 256) (e : Fin 1024) :
    iblk m c 4 t (ix4 0 b j e) = memOf (MV m c) b j e := by
  unfold memOf
  blk_simp [iblk, idx t]
  entry_read
  pointwise
  blk_ext [idx t]

theorem blk5 (c : Dev nD) (t : Fin cfg0.N) (k e : Fin 1024) : iblk m c 5 t (ix3 0 k e) = matOf (WO m c) k e := by
  unfold matOf
  blk_simp [iblk, idx t]
  entry_read
  pointwise
  blk_ext [idx t]

/-- Column `e` of the query of row `r` of the tile. -/
def qAt (c : Dev nD) (t : Fin cfg0.N) (r : Fin 1024) (e : Fin 1024) : EReal :=
  query (rowOf (X m c) (bat r) (tim t r)) (gainOf (GAIN m c)) (matOf (WQ m c)) e

/-- Equal rows and columns give equal elements. -/
theorem qAt_congr (c : Dev nD) (t : Fin cfg0.N) {r r' e e' : Fin 1024} (hr : r.val = r'.val) (he : e.val = e'.val) :
    qAt m c t r e = qAt m c t r' e' := by
  rw [Fin.ext hr, Fin.ext he]

/-- The tile's queries. -/
theorem rows (c : Dev nD) (t : Fin cfg0.N) (r : Fin 1024) (e : Fin 1024) : k0_pay3 (iblk m c 0 t) (iblk m c 1 t) (iblk m c 2 t) (ix2 r e) = qAt m c t r e := by
  pointwise [k0_pay3, k0_pay2]
  simp only [blk0, blk1, blk2, qAt, query, normed]

/-! Each lane block the kernel stages is 128 columns of the queries. -/

theorem lane0 (c : Dev nD) (t : Fin cfg0.N) (u : Fin 1) (r : Fin 1024) (q : Fin 128) :
    k0_pay4 (iblk m c 0 t) (iblk m c 1 t) (iblk m c 2 t) (ix3 u r q) = qAt m c t r ⟨128 * 0 + q.val, by omega⟩ := by
  rw [← rows]
  pointwise [k0_pay4]

theorem lane1 (c : Dev nD) (t : Fin cfg0.N) (u : Fin 1) (r : Fin 1024) (q : Fin 128) :
    k0_pay5 (iblk m c 0 t) (iblk m c 1 t) (iblk m c 2 t) (ix3 u r q) = qAt m c t r ⟨128 * 1 + q.val, by omega⟩ := by
  rw [← rows]
  pointwise [k0_pay5]

theorem lane2 (c : Dev nD) (t : Fin cfg0.N) (u : Fin 1) (r : Fin 1024) (q : Fin 128) :
    k0_pay6 (iblk m c 0 t) (iblk m c 1 t) (iblk m c 2 t) (ix3 u r q) = qAt m c t r ⟨128 * 2 + q.val, by omega⟩ := by
  rw [← rows]
  pointwise [k0_pay6]

theorem lane3 (c : Dev nD) (t : Fin cfg0.N) (u : Fin 1) (r : Fin 1024) (q : Fin 128) :
    k0_pay8 (k0_pay7 (iblk m c 0 t) (iblk m c 1 t) (iblk m c 2 t)) (ix3 u r q) = qAt m c t r ⟨128 * 3 + q.val, by omega⟩ := by
  rw [← rows]
  pointwise [k0_pay8, k0_pay7]

theorem lane4 (c : Dev nD) (t : Fin cfg0.N) (u : Fin 1) (r : Fin 1024) (q : Fin 128) :
    k0_pay9 (k0_pay3 (iblk m c 0 t) (iblk m c 1 t) (iblk m c 2 t)) (ix3 u r q) = qAt m c t r ⟨128 * 4 + q.val, by omega⟩ := by
  rw [← rows]
  pointwise [k0_pay9]

theorem lane5 (c : Dev nD) (t : Fin cfg0.N) (u : Fin 1) (r : Fin 1024) (q : Fin 128) :
    k0_pay10 (k0_pay3 (iblk m c 0 t) (iblk m c 1 t) (iblk m c 2 t)) (ix3 u r q) = qAt m c t r ⟨128 * 5 + q.val, by omega⟩ := by
  rw [← rows]
  pointwise [k0_pay10]

theorem lane6 (c : Dev nD) (t : Fin cfg0.N) (u : Fin 1) (r : Fin 1024) (q : Fin 128) :
    k0_pay11 (k0_pay3 (iblk m c 0 t) (iblk m c 1 t) (iblk m c 2 t)) (ix3 u r q) = qAt m c t r ⟨128 * 6 + q.val, by omega⟩ := by
  rw [← rows]
  pointwise [k0_pay11]

theorem lane7 (c : Dev nD) (t : Fin cfg0.N) (u : Fin 1) (r : Fin 1024) (q : Fin 128) :
    k0_pay12 (k0_pay3 (iblk m c 0 t) (iblk m c 1 t) (iblk m c 2 t)) (ix3 u r q) = qAt m c t r ⟨128 * 7 + q.val, by omega⟩ := by
  rw [← rows]
  pointwise [k0_pay12]

/-- What the query scratch holds when it is read: lane block, row, lane. -/
def queries (c : Dev nD) (t : Fin cfg0.N) : Vec Ideal S8x1024x128 .f32 := fun i =>
  qAt m c t ⟨(i 1).val, (i 1).isLt⟩
    ⟨128 * (i 0).val + (i 2).val, by have h0 : (i 0).val < 8 := (i 0).isLt; have h2 : (i 2).val < 128 := (i 2).isLt; omega⟩

/-- The eight stores into the query scratch, the last one first. -/
abbrev qStores (c : Dev nD) (t : Fin cfg0.N) : List (View.Piece (Elt Ideal) S8x1024x128 .f32) :=
  [⟨Rect.unit ![7, 0, 0] ![1, 1024, 128] inb_S8x1024x128_S1x1024x128_7_0_0, k0_pay12 (k0_pay3 (iblk m c 0 t) (iblk m c 1 t) (iblk m c 2 t))⟩,
    ⟨Rect.unit ![6, 0, 0] ![1, 1024, 128] inb_S8x1024x128_S1x1024x128_6_0_0, k0_pay11 (k0_pay3 (iblk m c 0 t) (iblk m c 1 t) (iblk m c 2 t))⟩,
    ⟨Rect.unit ![5, 0, 0] ![1, 1024, 128] inb_S8x1024x128_S1x1024x128_5_0_0, k0_pay10 (k0_pay3 (iblk m c 0 t) (iblk m c 1 t) (iblk m c 2 t))⟩,
    ⟨Rect.unit ![4, 0, 0] ![1, 1024, 128] inb_S8x1024x128_S1x1024x128_4_0_0, k0_pay9 (k0_pay3 (iblk m c 0 t) (iblk m c 1 t) (iblk m c 2 t))⟩,
    ⟨Rect.unit ![3, 0, 0] ![1, 1024, 128] inb_S8x1024x128_S1x1024x128_3_0_0, k0_pay8 (k0_pay7 (iblk m c 0 t) (iblk m c 1 t) (iblk m c 2 t))⟩,
    ⟨Rect.unit ![2, 0, 0] ![1, 1024, 128] inb_S8x1024x128_S1x1024x128_2_0_0, k0_pay6 (iblk m c 0 t) (iblk m c 1 t) (iblk m c 2 t)⟩,
    ⟨Rect.unit ![1, 0, 0] ![1, 1024, 128] inb_S8x1024x128_S1x1024x128_1_0_0, k0_pay5 (iblk m c 0 t) (iblk m c 1 t) (iblk m c 2 t)⟩,
    ⟨Rect.unit ![0, 0, 0] ![1, 1024, 128] inb_S8x1024x128_S1x1024x128_0_0_0, k0_pay4 (iblk m c 0 t) (iblk m c 1 t) (iblk m c 2 t)⟩]

/-- Together they fill the scratch with the queries. -/
theorem qStores_eq (c : Dev nD) (t : Fin cfg0.N) (z : S8x1024x128.Idx) : View.canon (qStores m c t) z = queries m c t z := by
  refine View.canon_apply_of_pieces (queries m c t) _ ?_ _ (View.cover_of_tiledL (qStores m c t) S1x1024x128.size (by sl_kernel_rfl) z)
  · intro p hp
    simp only [qStores, List.mem_cons, List.not_mem_nil, or_false] at hp
    rcases hp with rfl | rfl | rfl | rfl | rfl | rfl | rfl | rfl <;> intro x <;> idx_vars x
    · exact (lane7 m c t x0 x1 x2).trans (qAt_congr m c t (by show x1.val = 0 + 1 * x1.val; omega) (by show 128 * 7 + x2.val = 128 * (7 + 1 * x0.val) + (0 + 1 * x2.val); have := x0.isLt; omega))
    · exact (lane6 m c t x0 x1 x2).trans (qAt_congr m c t (by show x1.val = 0 + 1 * x1.val; omega) (by show 128 * 6 + x2.val = 128 * (6 + 1 * x0.val) + (0 + 1 * x2.val); have := x0.isLt; omega))
    · exact (lane5 m c t x0 x1 x2).trans (qAt_congr m c t (by show x1.val = 0 + 1 * x1.val; omega) (by show 128 * 5 + x2.val = 128 * (5 + 1 * x0.val) + (0 + 1 * x2.val); have := x0.isLt; omega))
    · exact (lane4 m c t x0 x1 x2).trans (qAt_congr m c t (by show x1.val = 0 + 1 * x1.val; omega) (by show 128 * 4 + x2.val = 128 * (4 + 1 * x0.val) + (0 + 1 * x2.val); have := x0.isLt; omega))
    · exact (lane3 m c t x0 x1 x2).trans (qAt_congr m c t (by show x1.val = 0 + 1 * x1.val; omega) (by show 128 * 3 + x2.val = 128 * (3 + 1 * x0.val) + (0 + 1 * x2.val); have := x0.isLt; omega))
    · exact (lane2 m c t x0 x1 x2).trans (qAt_congr m c t (by show x1.val = 0 + 1 * x1.val; omega) (by show 128 * 2 + x2.val = 128 * (2 + 1 * x0.val) + (0 + 1 * x2.val); have := x0.isLt; omega))
    · exact (lane1 m c t x0 x1 x2).trans (qAt_congr m c t (by show x1.val = 0 + 1 * x1.val; omega) (by show 128 * 1 + x2.val = 128 * (1 + 1 * x0.val) + (0 + 1 * x2.val); have := x0.isLt; omega))
    · exact (lane0 m c t x0 x1 x2).trans (qAt_congr m c t (by show x1.val = 0 + 1 * x1.val; omega) (by show 128 * 0 + x2.val = 128 * (0 + 1 * x0.val) + (0 + 1 * x2.val); have := x0.isLt; omega))

/-- The queries in a rectangle of the scratch. -/
def readQ (c : Dev nD) (t : Fin cfg0.N) (B : LoadRect S8x1024x128) : B.shape.Idx → EReal := fun j => queries m c t (B.idx j)

/-- A read of the query scratch. -/
theorem q_read (c : Dev nD) (t : Fin cfg0.N) (B : LoadRect S8x1024x128) :
    (View.whole cc0_scratch0).readCov (qStores m c t) B = readQ m c t B := by
  rw [View.readCov_eq_canon']
  exact funext fun j => qStores_eq m c t _

end Cert.CrossIdeal.Block
-- ==== Proof.CrossScores.lean ====
/- The scores and the softmax weights of a tile of rows, as the cross-attention kernel stages them: block `4 b + h` is head `h` of
   batch `b`. -/
module

public import proofs.«01_k».proof.Proof.CrossQuery
public import proofs.«01_k».proof.Proof.Gen.CrossIdeal.Value
public import Idealize.ShloMosaic.Lib.Pipeline.ValueKit
public import Idealize.ShloMosaic.Lib.Pipeline.ReadBack

@[expose] public section

set_option maxRecDepth 16384

noncomputable section

namespace Cert.CrossIdeal.Block

open Cert.CrossIdeal Cert.CrossIdeal.Gen Cert.RowMath Cert.CrossMath Idealize.ShloMosaic Idealize.ShloMosaic.TcCoe Idealize.SL.Sem

variable (m : (ℓ : Loc nD τ sig) → Buf (Elt Ideal) ℓ)

/-- The product of a query, given in two lane blocks, with a key. -/
def product (a b : Vec Ideal S1x128x128 .f32) (k : Vec Ideal S1x1x256x256 .bf16) (r : Fin 128) (e : Fin 256) : EReal :=
  score (fun d => if h : d.val < 128 then a (ix3 0 r ⟨d.val, h⟩) else b (ix3 0 r ⟨d.val - 128, by omega⟩)) (fun d => k (ix4 0 0 e d))

/-- The product as the sum of the two lane blocks' products. -/
theorem product_split (a b : Vec Ideal S1x128x128 .f32) (k : Vec Ideal S1x1x256x256 .bf16) (r : Fin 128) (e : Fin 256) :
    product a b k r e = ((∑ x : Fin 128, a (ix3 0 r x) * k (ix4 0 0 e ⟨x.val, by omega⟩))
      + ∑ x : Fin 128, b (ix3 0 r x) * k (ix4 0 0 e ⟨128 + x.val, by omega⟩)) * Ideal.ofBits .f32 0x3D800000#32 := by
  unfold product score
  congr 1
  refine (Fin.sum_univ_add (a := 128) (b := 128) _).trans ?_
  refine congrArg₂ (· + ·) (Finset.sum_congr rfl fun x _ => ?_) (Finset.sum_congr rfl fun x _ => ?_)
  · simp only [Fin.val_castAdd, x.isLt, dite_true]
    rfl
  · simp only [Fin.val_natAdd, show ¬ (128 + x.val < 128) by omega, dite_false, Nat.add_sub_cancel_left]
    rfl

/-! Each of the kernel's score blocks is such a product. -/

theorem sco0 (a b : Vec Ideal S1x128x128 .f32) (k : Vec Ideal S1x1x256x256 .bf16) (u : Fin 1) (r : Fin 128) (e : Fin 256) :
    k0_pay14 (k0_pay13 a b k) (ix3 u r e) = product a b k r e := by
  pointwise [k0_pay13, k0_pay14]
  first | rfl | exact (product_split _ _ _ _ _).symm

theorem sco1 (a b : Vec Ideal S1x128x128 .f32) (k : Vec Ideal S1x1x256x256 .bf16) (u : Fin 1) (r : Fin 128) (e : Fin 256) :
    k0_pay15 a b k (ix3 u r e) = product a b k r e := by
  pointwise [k0_pay15]
  first | rfl | exact (product_split _ _ _ _ _).symm

theorem sco2 (a b : Vec Ideal S1x128x128 .f32) (k : Vec Ideal S1x1x256x256 .bf16) (u : Fin 1) (r : Fin 128) (e : Fin 256) :
    k0_pay17 (k0_pay16 a b k) (ix3 u r e) = product a b k r e := by
  pointwise [k0_pay16, k0_pay17]
  first | rfl | exact (product_split _ _ _ _ _).symm

theorem sco3 (a b : Vec Ideal S1x128x128 .f32) (k : Vec Ideal S1x1x256x256 .bf16) (u : Fin 1) (r : Fin 128) (e : Fin 256) :
    k0_pay18 a b k (ix3 u r e) = product a b k r e := by
  pointwise [k0_pay18]
  first | rfl | exact (product_split _ _ _ _ _).symm

theorem sco4 (a b : Vec Ideal S1x128x128 .f32) (k : Vec Ideal S1x1x256x256 .bf16) (u : Fin 1) (r : Fin 128) (e : Fin 256) :
    k0_pay20 (k0_pay19 a b k) (ix3 u r e) = product a b k r e := by
  pointwise [k0_pay19, k0_pay20]
  first | rfl | exact (product_split _ _ _ _ _).symm

theorem sco5 (a b : Vec Ideal S1x128x128 .f32) (k : Vec Ideal S1x1x256x256 .bf16) (u : Fin 1) (r : Fin 128) (e : Fin 256) :
    k0_pay21 a b k (ix3 u r e) = product a b k r e := by
  pointwise [k0_pay21]
  first | rfl | exact (product_split _ _ _ _ _).symm

theorem sco6 (a b : Vec Ideal S1x128x128 .f32) (k : Vec Ideal S1x1x256x256 .bf16) (u : Fin 1) (r : Fin 128) (e : Fin 256) :
    k0_pay23 (k0_pay22 a b k) (ix3 u r e) = product a b k r e := by
  pointwise [k0_pay22, k0_pay23]
  first | rfl | exact (product_split _ _ _ _ _).symm

theorem sco7 (a b : Vec Ideal S1x128x128 .f32) (k : Vec Ideal S1x1x256x256 .bf16) (u : Fin 1) (r : Fin 128) (e : Fin 256) :
    k0_pay24 a b k (ix3 u r e) = product a b k r e := by
  pointwise [k0_pay24]
  first | rfl | exact (product_split _ _ _ _ _).symm

theorem sco8 (a b : Vec Ideal S1x128x128 .f32) (k : Vec Ideal S1x1x256x256 .bf16) (u : Fin 1) (r : Fin 128) (e : Fin 256) :
    k0_pay26 (k0_pay25 a b k) (ix3 u r e) = product a b k r e := by
  pointwise [k0_pay25, k0_pay26]
  first | rfl | exact (product_split _ _ _ _ _).symm

theorem sco9 (a b : Vec Ideal S1x128x128 .f32) (k : Vec Ideal S1x1x256x256 .bf16) (u : Fin 1) (r : Fin 128) (e : Fin 256) :
    k0_pay27 a b k (ix3 u r e) = product a b k r e := by
  pointwise [k0_pay27]
  first | rfl | exact (product_split _ _ _ _ _).symm

theorem sco10 (a b : Vec Ideal S1x128x128 .f32) (k : Vec Ideal S1x1x256x256 .bf16) (u : Fin 1) (r : Fin 128) (e : Fin 256) :
    k0_pay29 (k0_pay28 a b k) (ix3 u r e) = product a b k r e := by
  pointwise [k0_pay28, k0_pay29]
  first | rfl | exact (product_split _ _ _ _ _).symm

theorem sco11 (a b : Vec Ideal S1x128x128 .f32) (k : Vec Ideal S1x1x256x256 .bf16) (u : Fin 1) (r : Fin 128) (e : Fin 256) :
    k0_pay30 a b k (ix3 u r e) = product a b k r e := by
  pointwise [k0_pay30]
  first | rfl | exact (product_split _ _ _ _ _).symm

theorem sco12 (a b : Vec Ideal S1x128x128 .f32) (k : Vec Ideal S1x1x256x256 .bf16) (u : Fin 1) (r : Fin 128) (e : Fin 256) :
    k0_pay32 (k0_pay31 a b k) (ix3 u r e) = product a b k r e := by
  pointwise [k0_pay31, k0_pay32]
  first | rfl | exact (product_split _ _ _ _ _).symm

theorem sco13 (a b : Vec Ideal S1x128x128 .f32) (k : Vec Ideal S1x1x256x256 .bf16) (u : Fin 1) (r : Fin 128) (e : Fin 256) :
    k0_pay33 a b k (ix3 u r e) = product a b k r e := by
  pointwise [k0_pay33]
  first | rfl | exact (product_split _ _ _ _ _).symm

theorem sco14 (a b : Vec Ideal S1x128x128 .f32) (k : Vec Ideal S1x1x256x256 .bf16) (u : Fin 1) (r : Fin 128) (e : Fin 256) :
    k0_pay35 (k0_pay34 a b k) (ix3 u r e) = product a b k r e := by
  pointwise [k0_pay34, k0_pay35]
  first | rfl | exact (product_split _ _ _ _ _).symm

theorem sco15 (a b : Vec Ideal S1x128x128 .f32) (k : Vec Ideal S1x1x256x256 .bf16) (u : Fin 1) (r : Fin 128) (e : Fin 256) :
    k0_pay36 a b k (ix3 u r e) = product a b k r e := by
  pointwise [k0_pay36]
  first | rfl | exact (product_split _ _ _ _ _).symm

theorem sco16 (a b : Vec Ideal S1x128x128 .f32) (k : Vec Ideal S1x1x256x256 .bf16) (u : Fin 1) (r : Fin 128) (e : Fin 256) :
    k0_pay38 (k0_pay37 a b k) (ix3 u r e) = product a b k r e := by
  pointwise [k0_pay37, k0_pay38]
  first | rfl | exact (product_split _ _ _ _ _).symm

theorem sco17 (a b : Vec Ideal S1x128x128 .f32) (k : Vec Ideal S1x1x256x256 .bf16) (u : Fin 1) (r : Fin 128) (e : Fin 256) :
    k0_pay39 a b k (ix3 u r e) = product a b k r e := by
  pointwise [k0_pay39]
  first | rfl | exact (product_split _ _ _ _ _).symm

theorem sco18 (a b : Vec Ideal S1x128x128 .f32) (k : Vec Ideal S1x1x256x256 .bf16) (u : Fin 1) (r : Fin 128) (e : Fin 256) :
    k0_pay41 (k0_pay40 a b k) (ix3 u r e) = product a b k r e := by
  pointwise [k0_pay40, k0_pay41]
  first | rfl | exact (product_split _ _ _ _ _).symm

theorem sco19 (a b : Vec Ideal S1x128x128 .f32) (k : Vec Ideal S1x1x256x256 .bf16) (u : Fin 1) (r : Fin 128) (e : Fin 256) :
    k0_pay42 a b k (ix3 u r e) = product a b k r e := by
  pointwise [k0_pay42]
  first | rfl | exact (product_split _ _ _ _ _).symm

theorem sco20 (a b : Vec Ideal S1x128x128 .f32) (k : Vec Ideal S1x1x256x256 .bf16) (u : Fin 1) (r : Fin 128) (e : Fin 256) :
    k0_pay44 (k0_pay43 a b k) (ix3 u r e) = product a b k r e := by
  pointwise [k0_pay43, k0_pay44]
  first | rfl | exact (product_split _ _ _ _ _).symm

theorem sco21 (a b : Vec Ideal S1x128x128 .f32) (k : Vec Ideal S1x1x256x256 .bf16) (u : Fin 1) (r : Fin 128) (e : Fin 256) :
    k0_pay45 a b k (ix3 u r e) = product a b k r e := by
  pointwise [k0_pay45]
  first | rfl | exact (product_split _ _ _ _ _).symm

theorem sco22 (a b : Vec Ideal S1x128x128 .f32) (k : Vec Ideal S1x1x256x256 .bf16) (u : Fin 1) (r : Fin 128) (e : Fin 256) :
    k0_pay47 (k0_pay46 a b k) (ix3 u r e) = product a b k r e := by
  pointwise [k0_pay46, k0_pay47]
  first | rfl | exact (product_split _ _ _ _ _).symm

theorem sco23 (a b : Vec Ideal S1x128x128 .f32) (k : Vec Ideal S1x1x256x256 .bf16) (u : Fin 1) (r : Fin 128) (e : Fin 256) :
    k0_pay48 a b k (ix3 u r e) = product a b k r e := by
  pointwise [k0_pay48]
  first | rfl | exact (product_split _ _ _ _ _).symm

theorem sco24 (a b : Vec Ideal S1x128x128 .f32) (k : Vec Ideal S1x1x256x256 .bf16) (u : Fin 1) (r : Fin 128) (e : Fin 256) :
    k0_pay50 (k0_pay49 a b k) (ix3 u r e) = product a b k r e := by
  pointwise [k0_pay49, k0_pay50]
  first | rfl | exact (product_split _ _ _ _ _).symm

theorem sco25 (a b : Vec Ideal S1x128x128 .f32) (k : Vec Ideal S1x1x256x256 .bf16) (u : Fin 1) (r : Fin 128) (e : Fin 256) :
    k0_pay51 a b k (ix3 u r e) = product a b k r e := by
  pointwise [k0_pay51]
  first | rfl | exact (product_split _ _ _ _ _).symm

theorem sco26 (a b : Vec Ideal S1x128x128 .f32) (k : Vec Ideal S1x1x256x256 .bf16) (u : Fin 1) (r : Fin 128) (e : Fin 256) :
    k0_pay53 (k0_pay52 a b k) (ix3 u r e) = product a b k r e := by
  pointwise [k0_pay52, k0_pay53]
  first | rfl | exact (product_split _ _ _ _ _).symm

theorem sco27 (a b : Vec Ideal S1x128x128 .f32) (k : Vec Ideal S1x1x256x256 .bf16) (u : Fin 1) (r : Fin 128) (e : Fin 256) :
    k0_pay54 a b k (ix3 u r e) = product a b k r e := by
  pointwise [k0_pay54]
  first | rfl | exact (product_split _ _ _ _ _).symm

theorem sco28 (a b : Vec Ideal S1x128x128 .f32) (k : Vec Ideal S1x1x256x256 .bf16) (u : Fin 1) (r : Fin 128) (e : Fin 256) :
    k0_pay56 (k0_pay55 a b k) (ix3 u r e) = product a b k r e := by
  pointwise [k0_pay55, k0_pay56]
  first | rfl | exact (product_split _ _ _ _ _).symm

theorem sco29 (a b : Vec Ideal S1x128x128 .f32) (k : Vec Ideal S1x1x256x256 .bf16) (u : Fin 1) (r : Fin 128) (e : Fin 256) :
    k0_pay57 a b k (ix3 u r e) = product a b k r e := by
  pointwise [k0_pay57]
  first | rfl | exact (product_split _ _ _ _ _).symm

theorem sco30 (a b : Vec Ideal S1x128x128 .f32) (k : Vec Ideal S1x1x256x256 .bf16) (u : Fin 1) (r : Fin 128) (e : Fin 256) :
    k0_pay59 (k0_pay58 a b k) (ix3 u r e) = product a b k r e := by
  pointwise [k0_pay58, k0_pay59]
  first | rfl | exact (product_split _ _ _ _ _).symm

theorem sco31 (a b : Vec Ideal S1x128x128 .f32) (k : Vec Ideal S1x1x256x256 .bf16) (u : Fin 1) (r : Fin 128) (e : Fin 256) :
    k0_pay60 a b k (ix3 u r e) = product a b k r e := by
  pointwise [k0_pay60]
  first | rfl | exact (product_split _ _ _ _ _).symm

/-- The score of row `r` of block `i` against memory row `j`. -/
def sAt (c : Dev nD) (t : Fin cfg0.N) (i : Fin 32) (r : Fin 128) (j : Fin 256) : EReal :=
  scores (qAt m c t ⟨8 * r.val + i.val / 4, by omega⟩) (memOf (MK m c) ⟨i.val / 4, by omega⟩) ⟨i.val % 4, by omega⟩ j

/-- Equal blocks, rows and columns give equal scores. -/
theorem sAt_congr (c : Dev nD) (t : Fin cfg0.N) {i i' : Fin 32} {r r' : Fin 128} {j j' : Fin 256} (hi : i.val = i'.val) (hr : r.val = r'.val)
    (hj : j.val = j'.val) : sAt m c t i r j = sAt m c t i' r' j' := by
  rw [Fin.ext hi, Fin.ext hr, Fin.ext hj]

/-- Lane block `j` of every eighth row from `b` on, read from the query scratch. -/
theorem readQ_at (c : Dev nD) (t : Fin cfg0.N) (j b : Nat) (hj : j < 8) (hb : b < 8) (hin) (u : Fin 1) (r q : Fin 128) :
    readQ m c t ⟨![j, b, 0], ![1, 128, 128], ![1, 8, 1], hin⟩ (ix3 u r q) = qAt m c t ⟨8 * r.val + b, by omega⟩ ⟨128 * j + q.val, by omega⟩ := by
  refine qAt_congr m c t ?_ ?_
  · show b + 8 * r.val = 8 * r.val + b
    omega
  · show 128 * (j + 1 * u.val) + (0 + 1 * q.val) = 128 * j + q.val
    have := u.isLt
    omega

/-- The keys of batch `b` from column `o` on. -/
theorem ldK_at (c : Dev nD) (t : Fin cfg0.N) (b o : Nat) (hb : b < 8) (ho : o ≤ 768) (hin) (e d : Fin 256) :
    View.ld (iblk m c 3 t) (Rect.unit (s := S1x8x256x1024) ![0, b, 0, o] ![1, 1, 256, 256] hin) (ix4 0 0 e d)
      = memOf (MK m c) ⟨b, hb⟩ e ⟨o + d.val, by omega⟩ := by
  rw [← blk3 m c t]
  refine congrArg (iblk m c 3 t) (funext fun a => Fin.ext ?_)
  match a with
  | 0 => rfl
  | 1 => rfl
  | 2 => exact (show 0 + 1 * e.val = e.val by omega)
  | 3 => exact (show o + 1 * d.val = o + d.val by omega)

/-- The product of the two lane blocks of head `h` of batch `b` with the head's keys is the score. -/
theorem score_tile (c : Dev nD) (t : Fin cfg0.N) (b h : Nat) (hb : b < 8) (hh : h < 4) (h1) (h2) (h3) (r : Fin 128) (e : Fin 256) :
    product (readQ m c t ⟨![2 * h, b, 0], ![1, 128, 128], ![1, 8, 1], h1⟩) (readQ m c t ⟨![2 * h + 1, b, 0], ![1, 128, 128], ![1, 8, 1], h2⟩)
      (View.ld (iblk m c 3 t) (Rect.unit (s := S1x8x256x1024) ![0, b, 0, 256 * h] ![1, 1, 256, 256] h3)) r e
      = sAt m c t ⟨4 * b + h, by omega⟩ r e := by
  have e1 : (4 * b + h) / 4 = b := by omega
  have e2 : (4 * b + h) % 4 = h := by omega
  unfold product sAt scores score
  simp only [e1, e2]
  congr 1
  refine Finset.sum_congr rfl fun d _ => ?_
  refine congrArg₂ (· * ·) ?_ ((ldK_at m c t b (256 * h) hb (by omega) h3 e d).trans (congrArg _ (Fin.ext (show 256 * h + d.val = h * 256 + d.val by omega))))
  split
  · exact (readQ_at m c t (2 * h) b (by omega) hb h1 0 r _).trans (qAt_congr m c t rfl (show 128 * (2 * h) + d.val = h * 256 + d.val by omega))
  · exact (readQ_at m c t (2 * h + 1) b (by omega) hb h2 0 r _).trans
      (qAt_congr m c t rfl (show 128 * (2 * h + 1) + (d.val - 128) = h * 256 + d.val by omega))

/-- What the score scratch holds when it is read. -/
def allScores (c : Dev nD) (t : Fin cfg0.N) : Vec Ideal S32x128x256 .f32 := fun i =>
  sAt m c t ⟨(i 0).val, (i 0).isLt⟩ ⟨(i 1).val, (i 1).isLt⟩ ⟨(i 2).val, (i 2).isLt⟩

/-- The thirty-two stores into the score scratch, the last one first. -/
abbrev sStores (c : Dev nD) (t : Fin cfg0.N) : List (View.Piece (Elt Ideal) S32x128x256 .f32) :=
  [⟨Rect.unit ![31, 0, 0] ![1, 128, 256] inb_S32x128x256_S1x128x256_31_0_0,
      k0_pay60 (readQ m c t ⟨![6, 7, 0], ![1, 128, 128], ![1, 8, 1], inb_S8x1024x128_S1x128x128_6_7_0_s_1_8_1⟩) (readQ m c t ⟨![7, 7, 0], ![1, 128, 128], ![1, 8, 1], inb_S8x1024x128_S1x128x128_7_7_0_s_1_8_1⟩) (View.ld (iblk m c 3 t) (Rect.unit ![0, 7, 0, 768] ![1, 1, 256, 256] inb_S1x8x256x1024_S1x1x256x256_0_7_0_768))⟩,
    ⟨Rect.unit ![30, 0, 0] ![1, 128, 256] inb_S32x128x256_S1x128x256_30_0_0,
      k0_pay59 (k0_pay58 (readQ m c t ⟨![4, 7, 0], ![1, 128, 128], ![1, 8, 1], inb_S8x1024x128_S1x128x128_4_7_0_s_1_8_1⟩) (readQ m c t ⟨![5, 7, 0], ![1, 128, 128], ![1, 8, 1], inb_S8x1024x128_S1x128x128_5_7_0_s_1_8_1⟩) (View.ld (iblk m c 3 t) (Rect.unit ![0, 7, 0, 512] ![1, 1, 256, 256] inb_S1x8x256x1024_S1x1x256x256_0_7_0_512)))⟩,
    ⟨Rect.unit ![29, 0, 0] ![1, 128, 256] inb_S32x128x256_S1x128x256_29_0_0,
      k0_pay57 (readQ m c t ⟨![2, 7, 0], ![1, 128, 128], ![1, 8, 1], inb_S8x1024x128_S1x128x128_2_7_0_s_1_8_1⟩) (readQ m c t ⟨![3, 7, 0], ![1, 128, 128], ![1, 8, 1], inb_S8x1024x128_S1x128x128_3_7_0_s_1_8_1⟩) (View.ld (iblk m c 3 t) (Rect.unit ![0, 7, 0, 256] ![1, 1, 256, 256] inb_S1x8x256x1024_S1x1x256x256_0_7_0_256))⟩,
    ⟨Rect.unit ![28, 0, 0] ![1, 128, 256] inb_S32x128x256_S1x128x256_28_0_0,
      k0_pay56 (k0_pay55 (readQ m c t ⟨![0, 7, 0], ![1, 128, 128], ![1, 8, 1], inb_S8x1024x128_S1x128x128_0_7_0_s_1_8_1⟩) (readQ m c t ⟨![1, 7, 0], ![1, 128, 128], ![1, 8, 1], inb_S8x1024x128_S1x128x128_1_7_0_s_1_8_1⟩) (View.ld (iblk m c 3 t) (Rect.unit ![0, 7, 0, 0] ![1, 1, 256, 256] inb_S1x8x256x1024_S1x1x256x256_0_7_0_0)))⟩,
    ⟨Rect.unit ![27, 0, 0] ![1, 128, 256] inb_S32x128x256_S1x128x256_27_0_0,
      k0_pay54 (readQ m c t ⟨![6, 6, 0], ![1, 128, 128], ![1, 8, 1], inb_S8x1024x128_S1x128x128_6_6_0_s_1_8_1⟩) (readQ m c t ⟨![7, 6, 0], ![1, 128, 128], ![1, 8, 1], inb_S8x1024x128_S1x128x128_7_6_0_s_1_8_1⟩) (View.ld (iblk m c 3 t) (Rect.unit ![0, 6, 0, 768] ![1, 1, 256, 256] inb_S1x8x256x1024_S1x1x256x256_0_6_0_768))⟩,
    ⟨Rect.unit ![26, 0, 0] ![1, 128, 256] inb_S32x128x256_S1x128x256_26_0_0,
      k0_pay53 (k0_pay52 (readQ m c t ⟨![4, 6, 0], ![1, 128, 128], ![1, 8, 1], inb_S8x1024x128_S1x128x128_4_6_0_s_1_8_1⟩) (readQ m c t ⟨![5, 6, 0], ![1, 128, 128], ![1, 8, 1], inb_S8x1024x128_S1x128x128_5_6_0_s_1_8_1⟩) (View.ld (iblk m c 3 t) (Rect.unit ![0, 6, 0, 512] ![1, 1, 256, 256] inb_S1x8x256x1024_S1x1x256x256_0_6_0_512)))⟩,
    ⟨Rect.unit ![25, 0, 0] ![1, 128, 256] inb_S32x128x256_S1x128x256_25_0_0,
      k0_pay51 (readQ m c t ⟨![2, 6, 0], ![1, 128, 128], ![1, 8, 1], inb_S8x1024x128_S1x128x128_2_6_0_s_1_8_1⟩) (readQ m c t ⟨![3, 6, 0], ![1, 128, 128], ![1, 8, 1], inb_S8x1024x128_S1x128x128_3_6_0_s_1_8_1⟩) (View.ld (iblk m c 3 t) (Rect.unit ![0, 6, 0, 256] ![1, 1, 256, 256] inb_S1x8x256x1024_S1x1x256x256_0_6_0_256))⟩,
    ⟨Rect.unit ![24, 0, 0] ![1, 128, 256] inb_S32x128x256_S1x128x256_24_0_0,
      k0_pay50 (k0_pay49 (readQ m c t ⟨![0, 6, 0], ![1, 128, 128], ![1, 8, 1], inb_S8x1024x128_S1x128x128_0_6_0_s_1_8_1⟩) (readQ m c t ⟨![1, 6, 0], ![1, 128, 128], ![1, 8, 1], inb_S8x1024x128_S1x128x128_1_6_0_s_1_8_1⟩) (View.ld (iblk m c 3 t) (Rect.unit ![0, 6, 0, 0] ![1, 1, 256, 256] inb_S1x8x256x1024_S1x1x256x256_0_6_0_0)))⟩,
    ⟨Rect.unit ![23, 0, 0] ![1, 128, 256] inb_S32x128x256_S1x128x256_23_0_0,
      k0_pay48 (readQ m c t ⟨![6, 5, 0], ![1, 128, 128], ![1, 8, 1], inb_S8x1024x128_S1x128x128_6_5_0_s_1_8_1⟩) (readQ m c t ⟨![7, 5, 0], ![1, 128, 128], ![1, 8, 1], inb_S8x1024x128_S1x128x128_7_5_0_s_1_8_1⟩) (View.ld (iblk m c 3 t) (Rect.unit ![0, 5, 0, 768] ![1, 1, 256, 256] inb_S1x8x256x1024_S1x1x256x256_0_5_0_768))⟩,
    ⟨Rect.unit ![22, 0, 0] ![1, 128, 256] inb_S32x128x256_S1x128x256_22_0_0,
      k0_pay47 (k0_pay46 (readQ m c t ⟨![4, 5, 0], ![1, 128, 128], ![1, 8, 1], inb_S8x1024x128_S1x128x128_4_5_0_s_1_8_1⟩) (readQ m c t ⟨![5, 5, 0], ![1, 128, 128], ![1, 8, 1], inb_S8x1024x128_S1x128x128_5_5_0_s_1_8_1⟩) (View.ld (iblk m c 3 t) (Rect.unit ![0, 5, 0, 512] ![1, 1, 256, 256] inb_S1x8x256x1024_S1x1x256x256_0_5_0_512)))⟩,
    ⟨Rect.unit ![21, 0, 0] ![1, 128, 256] inb_S32x128x256_S1x128x256_21_0_0,
      k0_pay45 (readQ m c t ⟨![2, 5, 0], ![1, 128, 128], ![1, 8, 1], inb_S8x1024x128_S1x128x128_2_5_0_s_1_8_1⟩) (readQ m c t ⟨![3, 5, 0], ![1, 128, 128], ![1, 8, 1], inb_S8x1024x128_S1x128x128_3_5_0_s_1_8_1⟩) (View.ld (iblk m c 3 t) (Rect.unit ![0, 5, 0, 256] ![1, 1, 256, 256] inb_S1x8x256x1024_S1x1x256x256_0_5_0_256))⟩,
    ⟨Rect.unit ![20, 0, 0] ![1, 128, 256] inb_S32x128x256_S1x128x256_20_0_0,
      k0_pay44 (k0_pay43 (readQ m c t ⟨![0, 5, 0], ![1, 128, 128], ![1, 8, 1], inb_S8x1024x128_S1x128x128_0_5_0_s_1_8_1⟩) (readQ m c t ⟨![1, 5, 0], ![1, 128, 128], ![1, 8, 1], inb_S8x1024x128_S1x128x128_1_5_0_s_1_8_1⟩) (View.ld (iblk m c 3 t) (Rect.unit ![0, 5, 0, 0] ![1, 1, 256, 256] inb_S1x8x256x1024_S1x1x256x256_0_5_0_0)))⟩,
    ⟨Rect.unit ![19, 0, 0] ![1, 128, 256] inb_S32x128x256_S1x128x256_19_0_0,
      k0_pay42 (readQ m c t ⟨![6, 4, 0], ![1, 128, 128], ![1, 8, 1], inb_S8x1024x128_S1x128x128_6_4_0_s_1_8_1⟩) (readQ m c t ⟨![7, 4, 0], ![1, 128, 128], ![1, 8, 1], inb_S8x1024x128_S1x128x128_7_4_0_s_1_8_1⟩) (View.ld (iblk m c 3 t) (Rect.unit ![0, 4, 0, 768] ![1, 1, 256, 256] inb_S1x8x256x1024_S1x1x256x256_0_4_0_768))⟩,
    ⟨Rect.unit ![18, 0, 0] ![1, 128, 256] inb_S32x128x256_S1x128x256_18_0_0,
      k0_pay41 (k0_pay40 (readQ m c t ⟨![4, 4, 0], ![1, 128, 128], ![1, 8, 1], inb_S8x1024x128_S1x128x128_4_4_0_s_1_8_1⟩) (readQ m c t ⟨![5, 4, 0], ![1, 128, 128], ![1, 8, 1], inb_S8x1024x128_S1x128x128_5_4_0_s_1_8_1⟩) (View.ld (iblk m c 3 t) (Rect.unit ![0, 4, 0, 512] ![1, 1, 256, 256] inb_S1x8x256x1024_S1x1x256x256_0_4_0_512)))⟩,
    ⟨Rect.unit ![17, 0, 0] ![1, 128, 256] inb_S32x128x256_S1x128x256_17_0_0,
      k0_pay39 (readQ m c t ⟨![2, 4, 0], ![1, 128, 128], ![1, 8, 1], inb_S8x1024x128_S1x128x128_2_4_0_s_1_8_1⟩) (readQ m c t ⟨![3, 4, 0], ![1, 128, 128], ![1, 8, 1], inb_S8x1024x128_S1x128x128_3_4_0_s_1_8_1⟩) (View.ld (iblk m c 3 t) (Rect.unit ![0, 4, 0, 256] ![1, 1, 256, 256] inb_S1x8x256x1024_S1x1x256x256_0_4_0_256))⟩,
    ⟨Rect.unit ![16, 0, 0] ![1, 128, 256] inb_S32x128x256_S1x128x256_16_0_0,
      k0_pay38 (k0_pay37 (readQ m c t ⟨![0, 4, 0], ![1, 128, 128], ![1, 8, 1], inb_S8x1024x128_S1x128x128_0_4_0_s_1_8_1⟩) (readQ m c t ⟨![1, 4, 0], ![1, 128, 128], ![1, 8, 1], inb_S8x1024x128_S1x128x128_1_4_0_s_1_8_1⟩) (View.ld (iblk m c 3 t) (Rect.unit ![0, 4, 0, 0] ![1, 1, 256, 256] inb_S1x8x256x1024_S1x1x256x256_0_4_0_0)))⟩,
    ⟨Rect.unit ![15, 0, 0] ![1, 128, 256] inb_S32x128x256_S1x128x256_15_0_0,
      k0_pay36 (readQ m c t ⟨![6, 3, 0], ![1, 128, 128], ![1, 8, 1], inb_S8x1024x128_S1x128x128_6_3_0_s_1_8_1⟩) (readQ m c t ⟨![7, 3, 0], ![1, 128, 128], ![1, 8, 1], inb_S8x1024x128_S1x128x128_7_3_0_s_1_8_1⟩) (View.ld (iblk m c 3 t) (Rect.unit ![0, 3, 0, 768] ![1, 1, 256, 256] inb_S1x8x256x1024_S1x1x256x256_0_3_0_768))⟩,
    ⟨Rect.unit ![14, 0, 0] ![1, 128, 256] inb_S32x128x256_S1x128x256_14_0_0,
      k0_pay35 (k0_pay34 (readQ m c t ⟨![4, 3, 0], ![1, 128, 128], ![1, 8, 1], inb_S8x1024x128_S1x128x128_4_3_0_s_1_8_1⟩) (readQ m c t ⟨![5, 3, 0], ![1, 128, 128], ![1, 8, 1], inb_S8x1024x128_S1x128x128_5_3_0_s_1_8_1⟩) (View.ld (iblk m c 3 t) (Rect.unit ![0, 3, 0, 512] ![1, 1, 256, 256] inb_S1x8x256x1024_S1x1x256x256_0_3_0_512)))⟩,
    ⟨Rect.unit ![13, 0, 0] ![1, 128, 256] inb_S32x128x256_S1x128x256_13_0_0,
      k0_pay33 (readQ m c t ⟨![2, 3, 0], ![1, 128, 128], ![1, 8, 1], inb_S8x1024x128_S1x128x128_2_3_0_s_1_8_1⟩) (readQ m c t ⟨![3, 3, 0], ![1, 128, 128], ![1, 8, 1], inb_S8x1024x128_S1x128x128_3_3_0_s_1_8_1⟩) (View.ld (iblk m c 3 t) (Rect.unit ![0, 3, 0, 256] ![1, 1, 256, 256] inb_S1x8x256x1024_S1x1x256x256_0_3_0_256))⟩,
    ⟨Rect.unit ![12, 0, 0] ![1, 128, 256] inb_S32x128x256_S1x128x256_12_0_0,
      k0_pay32 (k0_pay31 (readQ m c t ⟨![0, 3, 0], ![1, 128, 128], ![1, 8, 1], inb_S8x1024x128_S1x128x128_0_3_0_s_1_8_1⟩) (readQ m c t ⟨![1, 3, 0], ![1, 128, 128], ![1, 8, 1], inb_S8x1024x128_S1x128x128_1_3_0_s_1_8_1⟩) (View.ld (iblk m c 3 t) (Rect.unit ![0, 3, 0, 0] ![1, 1, 256, 256] inb_S1x8x256x1024_S1x1x256x256_0_3_0_0)))⟩,
    ⟨Rect.unit ![11, 0, 0] ![1, 128, 256] inb_S32x128x256_S1x128x256_11_0_0,
      k0_pay30 (readQ m c t ⟨![6, 2, 0], ![1, 128, 128], ![1, 8, 1], inb_S8x1024x128_S1x128x128_6_2_0_s_1_8_1⟩) (readQ m c t ⟨![7, 2, 0], ![1, 128, 128], ![1, 8, 1], inb_S8x1024x128_S1x128x128_7_2_0_s_1_8_1⟩) (View.ld (iblk m c 3 t) (Rect.unit ![0, 2, 0, 768] ![1, 1, 256, 256] inb_S1x8x256x1024_S1x1x256x256_0_2_0_768))⟩,
    ⟨Rect.unit ![10, 0, 0] ![1, 128, 256] inb_S32x128x256_S1x128x256_10_0_0,
      k0_pay29 (k0_pay28 (readQ m c t ⟨![4, 2, 0], ![1, 128, 128], ![1, 8, 1], inb_S8x1024x128_S1x128x128_4_2_0_s_1_8_1⟩) (readQ m c t ⟨![5, 2, 0], ![1, 128, 128], ![1, 8, 1], inb_S8x1024x128_S1x128x128_5_2_0_s_1_8_1⟩) (View.ld (iblk m c 3 t) (Rect.unit ![0, 2, 0, 512] ![1, 1, 256, 256] inb_S1x8x256x1024_S1x1x256x256_0_2_0_512)))⟩,
    ⟨Rect.unit ![9, 0, 0] ![1, 128, 256] inb_S32x128x256_S1x128x256_9_0_0,
      k0_pay27 (readQ m c t ⟨![2, 2, 0], ![1, 128, 128], ![1, 8, 1], inb_S8x1024x128_S1x128x128_2_2_0_s_1_8_1⟩) (readQ m c t ⟨![3, 2, 0], ![1, 128, 128], ![1, 8, 1], inb_S8x1024x128_S1x128x128_3_2_0_s_1_8_1⟩) (View.ld (iblk m c 3 t) (Rect.unit ![0, 2, 0, 256] ![1, 1, 256, 256] inb_S1x8x256x1024_S1x1x256x256_0_2_0_256))⟩,
    ⟨Rect.unit ![8, 0, 0] ![1, 128, 256] inb_S32x128x256_S1x128x256_8_0_0,
      k0_pay26 (k0_pay25 (readQ m c t ⟨![0, 2, 0], ![1, 128, 128], ![1, 8, 1], inb_S8x1024x128_S1x128x128_0_2_0_s_1_8_1⟩) (readQ m c t ⟨![1, 2, 0], ![1, 128, 128], ![1, 8, 1], inb_S8x1024x128_S1x128x128_1_2_0_s_1_8_1⟩) (View.ld (iblk m c 3 t) (Rect.unit ![0, 2, 0, 0] ![1, 1, 256, 256] inb_S1x8x256x1024_S1x1x256x256_0_2_0_0)))⟩,
    ⟨Rect.unit ![7, 0, 0] ![1, 128, 256] inb_S32x128x256_S1x128x256_7_0_0,
      k0_pay24 (readQ m c t ⟨![6, 1, 0], ![1, 128, 128], ![1, 8, 1], inb_S8x1024x128_S1x128x128_6_1_0_s_1_8_1⟩) (readQ m c t ⟨![7, 1, 0], ![1, 128, 128], ![1, 8, 1], inb_S8x1024x128_S1x128x128_7_1_0_s_1_8_1⟩) (View.ld (iblk m c 3 t) (Rect.unit ![0, 1, 0, 768] ![1, 1, 256, 256] inb_S1x8x256x1024_S1x1x256x256_0_1_0_768))⟩,
    ⟨Rect.unit ![6, 0, 0] ![1, 128, 256] inb_S32x128x256_S1x128x256_6_0_0,
      k0_pay23 (k0_pay22 (readQ m c t ⟨![4, 1, 0], ![1, 128, 128], ![1, 8, 1], inb_S8x1024x128_S1x128x128_4_1_0_s_1_8_1⟩) (readQ m c t ⟨![5, 1, 0], ![1, 128, 128], ![1, 8, 1], inb_S8x1024x128_S1x128x128_5_1_0_s_1_8_1⟩) (View.ld (iblk m c 3 t) (Rect.unit ![0, 1, 0, 512] ![1, 1, 256, 256] inb_S1x8x256x1024_S1x1x256x256_0_1_0_512)))⟩,
    ⟨Rect.unit ![5, 0, 0] ![1, 128, 256] inb_S32x128x256_S1x128x256_5_0_0,
      k0_pay21 (readQ m c t ⟨![2, 1, 0], ![1, 128, 128], ![1, 8, 1], inb_S8x1024x128_S1x128x128_2_1_0_s_1_8_1⟩) (readQ m c t ⟨![3, 1, 0], ![1, 128, 128], ![1, 8, 1], inb_S8x1024x128_S1x128x128_3_1_0_s_1_8_1⟩) (View.ld (iblk m c 3 t) (Rect.unit ![0, 1, 0, 256] ![1, 1, 256, 256] inb_S1x8x256x1024_S1x1x256x256_0_1_0_256))⟩,
    ⟨Rect.unit ![4, 0, 0] ![1, 128, 256] inb_S32x128x256_S1x128x256_4_0_0,
      k0_pay20 (k0_pay19 (readQ m c t ⟨![0, 1, 0], ![1, 128, 128], ![1, 8, 1], inb_S8x1024x128_S1x128x128_0_1_0_s_1_8_1⟩) (readQ m c t ⟨![1, 1, 0], ![1, 128, 128], ![1, 8, 1], inb_S8x1024x128_S1x128x128_1_1_0_s_1_8_1⟩) (View.ld (iblk m c 3 t) (Rect.unit ![0, 1, 0, 0] ![1, 1, 256, 256] inb_S1x8x256x1024_S1x1x256x256_0_1_0_0)))⟩,
    ⟨Rect.unit ![3, 0, 0] ![1, 128, 256] inb_S32x128x256_S1x128x256_3_0_0,
      k0_pay18 (readQ m c t ⟨![6, 0, 0], ![1, 128, 128], ![1, 8, 1], inb_S8x1024x128_S1x128x128_6_0_0_s_1_8_1⟩) (readQ m c t ⟨![7, 0, 0], ![1, 128, 128], ![1, 8, 1], inb_S8x1024x128_S1x128x128_7_0_0_s_1_8_1⟩) (View.ld (iblk m c 3 t) (Rect.unit ![0, 0, 0, 768] ![1, 1, 256, 256] inb_S1x8x256x1024_S1x1x256x256_0_0_0_768))⟩,
    ⟨Rect.unit ![2, 0, 0] ![1, 128, 256] inb_S32x128x256_S1x128x256_2_0_0,
      k0_pay17 (k0_pay16 (readQ m c t ⟨![4, 0, 0], ![1, 128, 128], ![1, 8, 1], inb_S8x1024x128_S1x128x128_4_0_0_s_1_8_1⟩) (readQ m c t ⟨![5, 0, 0], ![1, 128, 128], ![1, 8, 1], inb_S8x1024x128_S1x128x128_5_0_0_s_1_8_1⟩) (View.ld (iblk m c 3 t) (Rect.unit ![0, 0, 0, 512] ![1, 1, 256, 256] inb_S1x8x256x1024_S1x1x256x256_0_0_0_512)))⟩,
    ⟨Rect.unit ![1, 0, 0] ![1, 128, 256] inb_S32x128x256_S1x128x256_1_0_0,
      k0_pay15 (readQ m c t ⟨![2, 0, 0], ![1, 128, 128], ![1, 8, 1], inb_S8x1024x128_S1x128x128_2_0_0_s_1_8_1⟩) (readQ m c t ⟨![3, 0, 0], ![1, 128, 128], ![1, 8, 1], inb_S8x1024x128_S1x128x128_3_0_0_s_1_8_1⟩) (View.ld (iblk m c 3 t) (Rect.unit ![0, 0, 0, 256] ![1, 1, 256, 256] inb_S1x8x256x1024_S1x1x256x256_0_0_0_256))⟩,
    ⟨Rect.unit ![0, 0, 0] ![1, 128, 256] inb_S32x128x256_S1x128x256_0_0_0,
      k0_pay14 (k0_pay13 (readQ m c t ⟨![0, 0, 0], ![1, 128, 128], ![1, 8, 1], inb_S8x1024x128_S1x128x128_0_0_0_s_1_8_1⟩) (readQ m c t ⟨![1, 0, 0], ![1, 128, 128], ![1, 8, 1], inb_S8x1024x128_S1x128x128_1_0_0_s_1_8_1⟩) (View.ld (iblk m c 3 t) (Rect.unit ![0, 0, 0, 0] ![1, 1, 256, 256] inb_S1x8x256x1024_S1x1x256x256_0_0_0_0)))⟩]

/-- Together they fill the scratch with the scores. -/
theorem sStores_eq (c : Dev nD) (t : Fin cfg0.N) (z : S32x128x256.Idx) : View.canon (sStores m c t) z = allScores m c t z := by
  refine View.canon_apply_of_pieces (allScores m c t) _ ?_ _ (View.cover_of_tiledL (sStores m c t) S1x128x256.size (by sl_kernel_rfl) z)
  · intro p hp
    simp only [sStores, List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> intro x <;> idx_vars x
    · exact (sco31 _ _ _ x0 x1 x2).trans ((score_tile m c t 7 3 (by decide) (by decide) _ _ _ x1 x2).trans
        (sAt_congr m c t (by show 31 = 31 + 1 * x0.val; omega) (by show x1.val = 0 + 1 * x1.val; omega) (by show x2.val = 0 + 1 * x2.val; omega)))
    · exact (sco30 _ _ _ x0 x1 x2).trans ((score_tile m c t 7 2 (by decide) (by decide) _ _ _ x1 x2).trans
        (sAt_congr m c t (by show 30 = 30 + 1 * x0.val; omega) (by show x1.val = 0 + 1 * x1.val; omega) (by show x2.val = 0 + 1 * x2.val; omega)))
    · exact (sco29 _ _ _ x0 x1 x2).trans ((score_tile m c t 7 1 (by decide) (by decide) _ _ _ x1 x2).trans
        (sAt_congr m c t (by show 29 = 29 + 1 * x0.val; omega) (by show x1.val = 0 + 1 * x1.val; omega) (by show x2.val = 0 + 1 * x2.val; omega)))
    · exact (sco28 _ _ _ x0 x1 x2).trans ((score_tile m c t 7 0 (by decide) (by decide) _ _ _ x1 x2).trans
        (sAt_congr m c t (by show 28 = 28 + 1 * x0.val; omega) (by show x1.val = 0 + 1 * x1.val; omega) (by show x2.val = 0 + 1 * x2.val; omega)))
    · exact (sco27 _ _ _ x0 x1 x2).trans ((score_tile m c t 6 3 (by decide) (by decide) _ _ _ x1 x2).trans
        (sAt_congr m c t (by show 27 = 27 + 1 * x0.val; omega) (by show x1.val = 0 + 1 * x1.val; omega) (by show x2.val = 0 + 1 * x2.val; omega)))
    · exact (sco26 _ _ _ x0 x1 x2).trans ((score_tile m c t 6 2 (by decide) (by decide) _ _ _ x1 x2).trans
        (sAt_congr m c t (by show 26 = 26 + 1 * x0.val; omega) (by show x1.val = 0 + 1 * x1.val; omega) (by show x2.val = 0 + 1 * x2.val; omega)))
    · exact (sco25 _ _ _ x0 x1 x2).trans ((score_tile m c t 6 1 (by decide) (by decide) _ _ _ x1 x2).trans
        (sAt_congr m c t (by show 25 = 25 + 1 * x0.val; omega) (by show x1.val = 0 + 1 * x1.val; omega) (by show x2.val = 0 + 1 * x2.val; omega)))
    · exact (sco24 _ _ _ x0 x1 x2).trans ((score_tile m c t 6 0 (by decide) (by decide) _ _ _ x1 x2).trans
        (sAt_congr m c t (by show 24 = 24 + 1 * x0.val; omega) (by show x1.val = 0 + 1 * x1.val; omega) (by show x2.val = 0 + 1 * x2.val; omega)))
    · exact (sco23 _ _ _ x0 x1 x2).trans ((score_tile m c t 5 3 (by decide) (by decide) _ _ _ x1 x2).trans
        (sAt_congr m c t (by show 23 = 23 + 1 * x0.val; omega) (by show x1.val = 0 + 1 * x1.val; omega) (by show x2.val = 0 + 1 * x2.val; omega)))
    · exact (sco22 _ _ _ x0 x1 x2).trans ((score_tile m c t 5 2 (by decide) (by decide) _ _ _ x1 x2).trans
        (sAt_congr m c t (by show 22 = 22 + 1 * x0.val; omega) (by show x1.val = 0 + 1 * x1.val; omega) (by show x2.val = 0 + 1 * x2.val; omega)))
    · exact (sco21 _ _ _ x0 x1 x2).trans ((score_tile m c t 5 1 (by decide) (by decide) _ _ _ x1 x2).trans
        (sAt_congr m c t (by show 21 = 21 + 1 * x0.val; omega) (by show x1.val = 0 + 1 * x1.val; omega) (by show x2.val = 0 + 1 * x2.val; omega)))
    · exact (sco20 _ _ _ x0 x1 x2).trans ((score_tile m c t 5 0 (by decide) (by decide) _ _ _ x1 x2).trans
        (sAt_congr m c t (by show 20 = 20 + 1 * x0.val; omega) (by show x1.val = 0 + 1 * x1.val; omega) (by show x2.val = 0 + 1 * x2.val; omega)))
    · exact (sco19 _ _ _ x0 x1 x2).trans ((score_tile m c t 4 3 (by decide) (by decide) _ _ _ x1 x2).trans
        (sAt_congr m c t (by show 19 = 19 + 1 * x0.val; omega) (by show x1.val = 0 + 1 * x1.val; omega) (by show x2.val = 0 + 1 * x2.val; omega)))
    · exact (sco18 _ _ _ x0 x1 x2).trans ((score_tile m c t 4 2 (by decide) (by decide) _ _ _ x1 x2).trans
        (sAt_congr m c t (by show 18 = 18 + 1 * x0.val; omega) (by show x1.val = 0 + 1 * x1.val; omega) (by show x2.val = 0 + 1 * x2.val; omega)))
    · exact (sco17 _ _ _ x0 x1 x2).trans ((score_tile m c t 4 1 (by decide) (by decide) _ _ _ x1 x2).trans
        (sAt_congr m c t (by show 17 = 17 + 1 * x0.val; omega) (by show x1.val = 0 + 1 * x1.val; omega) (by show x2.val = 0 + 1 * x2.val; omega)))
    · exact (sco16 _ _ _ x0 x1 x2).trans ((score_tile m c t 4 0 (by decide) (by decide) _ _ _ x1 x2).trans
        (sAt_congr m c t (by show 16 = 16 + 1 * x0.val; omega) (by show x1.val = 0 + 1 * x1.val; omega) (by show x2.val = 0 + 1 * x2.val; omega)))
    · exact (sco15 _ _ _ x0 x1 x2).trans ((score_tile m c t 3 3 (by decide) (by decide) _ _ _ x1 x2).trans
        (sAt_congr m c t (by show 15 = 15 + 1 * x0.val; omega) (by show x1.val = 0 + 1 * x1.val; omega) (by show x2.val = 0 + 1 * x2.val; omega)))
    · exact (sco14 _ _ _ x0 x1 x2).trans ((score_tile m c t 3 2 (by decide) (by decide) _ _ _ x1 x2).trans
        (sAt_congr m c t (by show 14 = 14 + 1 * x0.val; omega) (by show x1.val = 0 + 1 * x1.val; omega) (by show x2.val = 0 + 1 * x2.val; omega)))
    · exact (sco13 _ _ _ x0 x1 x2).trans ((score_tile m c t 3 1 (by decide) (by decide) _ _ _ x1 x2).trans
        (sAt_congr m c t (by show 13 = 13 + 1 * x0.val; omega) (by show x1.val = 0 + 1 * x1.val; omega) (by show x2.val = 0 + 1 * x2.val; omega)))
    · exact (sco12 _ _ _ x0 x1 x2).trans ((score_tile m c t 3 0 (by decide) (by decide) _ _ _ x1 x2).trans
        (sAt_congr m c t (by show 12 = 12 + 1 * x0.val; omega) (by show x1.val = 0 + 1 * x1.val; omega) (by show x2.val = 0 + 1 * x2.val; omega)))
    · exact (sco11 _ _ _ x0 x1 x2).trans ((score_tile m c t 2 3 (by decide) (by decide) _ _ _ x1 x2).trans
        (sAt_congr m c t (by show 11 = 11 + 1 * x0.val; omega) (by show x1.val = 0 + 1 * x1.val; omega) (by show x2.val = 0 + 1 * x2.val; omega)))
    · exact (sco10 _ _ _ x0 x1 x2).trans ((score_tile m c t 2 2 (by decide) (by decide) _ _ _ x1 x2).trans
        (sAt_congr m c t (by show 10 = 10 + 1 * x0.val; omega) (by show x1.val = 0 + 1 * x1.val; omega) (by show x2.val = 0 + 1 * x2.val; omega)))
    · exact (sco9 _ _ _ x0 x1 x2).trans ((score_tile m c t 2 1 (by decide) (by decide) _ _ _ x1 x2).trans
        (sAt_congr m c t (by show 9 = 9 + 1 * x0.val; omega) (by show x1.val = 0 + 1 * x1.val; omega) (by show x2.val = 0 + 1 * x2.val; omega)))
    · exact (sco8 _ _ _ x0 x1 x2).trans ((score_tile m c t 2 0 (by decide) (by decide) _ _ _ x1 x2).trans
        (sAt_congr m c t (by show 8 = 8 + 1 * x0.val; omega) (by show x1.val = 0 + 1 * x1.val; omega) (by show x2.val = 0 + 1 * x2.val; omega)))
    · exact (sco7 _ _ _ x0 x1 x2).trans ((score_tile m c t 1 3 (by decide) (by decide) _ _ _ x1 x2).trans
        (sAt_congr m c t (by show 7 = 7 + 1 * x0.val; omega) (by show x1.val = 0 + 1 * x1.val; omega) (by show x2.val = 0 + 1 * x2.val; omega)))
    · exact (sco6 _ _ _ x0 x1 x2).trans ((score_tile m c t 1 2 (by decide) (by decide) _ _ _ x1 x2).trans
        (sAt_congr m c t (by show 6 = 6 + 1 * x0.val; omega) (by show x1.val = 0 + 1 * x1.val; omega) (by show x2.val = 0 + 1 * x2.val; omega)))
    · exact (sco5 _ _ _ x0 x1 x2).trans ((score_tile m c t 1 1 (by decide) (by decide) _ _ _ x1 x2).trans
        (sAt_congr m c t (by show 5 = 5 + 1 * x0.val; omega) (by show x1.val = 0 + 1 * x1.val; omega) (by show x2.val = 0 + 1 * x2.val; omega)))
    · exact (sco4 _ _ _ x0 x1 x2).trans ((score_tile m c t 1 0 (by decide) (by decide) _ _ _ x1 x2).trans
        (sAt_congr m c t (by show 4 = 4 + 1 * x0.val; omega) (by show x1.val = 0 + 1 * x1.val; omega) (by show x2.val = 0 + 1 * x2.val; omega)))
    · exact (sco3 _ _ _ x0 x1 x2).trans ((score_tile m c t 0 3 (by decide) (by decide) _ _ _ x1 x2).trans
        (sAt_congr m c t (by show 3 = 3 + 1 * x0.val; omega) (by show x1.val = 0 + 1 * x1.val; omega) (by show x2.val = 0 + 1 * x2.val; omega)))
    · exact (sco2 _ _ _ x0 x1 x2).trans ((score_tile m c t 0 2 (by decide) (by decide) _ _ _ x1 x2).trans
        (sAt_congr m c t (by show 2 = 2 + 1 * x0.val; omega) (by show x1.val = 0 + 1 * x1.val; omega) (by show x2.val = 0 + 1 * x2.val; omega)))
    · exact (sco1 _ _ _ x0 x1 x2).trans ((score_tile m c t 0 1 (by decide) (by decide) _ _ _ x1 x2).trans
        (sAt_congr m c t (by show 1 = 1 + 1 * x0.val; omega) (by show x1.val = 0 + 1 * x1.val; omega) (by show x2.val = 0 + 1 * x2.val; omega)))
    · exact (sco0 _ _ _ x0 x1 x2).trans ((score_tile m c t 0 0 (by decide) (by decide) _ _ _ x1 x2).trans
        (sAt_congr m c t (by show 0 = 0 + 1 * x0.val; omega) (by show x1.val = 0 + 1 * x1.val; omega) (by show x2.val = 0 + 1 * x2.val; omega)))

/-- The scores in a rectangle of the scratch. -/
def readS (c : Dev nD) (t : Fin cfg0.N) (B : LoadRect S32x128x256) : B.shape.Idx → EReal := fun j => allScores m c t (B.idx j)

/-- A read of the score scratch. -/
theorem s_read (c : Dev nD) (t : Fin cfg0.N) (B : LoadRect S32x128x256) :
    (View.whole cc0_scratch2).readCov (sStores m c t) B = readS m c t B := by
  rw [View.readCov_eq_canon']
  exact funext fun j => sStores_eq m c t _

end Cert.CrossIdeal.Block
-- ==== Proof.CrossAttend.lean ====
/- The softmax weights and the attended values of a tile of rows, as the cross-attention kernel stages them. -/
module

public import proofs.«01_k».proof.Proof.CrossScores
public import proofs.«01_k».proof.Proof.Gen.CrossIdeal.Value
public import Idealize.ShloMosaic.Lib.Pipeline.ValueKit
public import Idealize.ShloMosaic.Lib.Pipeline.ReadBack

@[expose] public section

set_option maxRecDepth 16384

noncomputable section

namespace Cert.CrossIdeal.Block

open Cert.CrossIdeal Cert.CrossIdeal.Gen Cert.RowMath Cert.CrossMath Idealize.ShloMosaic Idealize.ShloMosaic.TcCoe Idealize.SL.Sem

variable (m : (ℓ : Loc nD τ sig) → Buf (Elt Ideal) ℓ)

/-- The softmax weights in the blocks of the scratch. -/
def weights (c : Dev nD) (t : Fin cfg0.N) : Vec Ideal S32x128x256 .bf16 := fun i =>
  weight (sAt m c t ⟨(i 0).val, (i 0).isLt⟩ ⟨(i 1).val, (i 1).isLt⟩) ⟨(i 2).val, (i 2).isLt⟩

/-- The whole score scratch, read at a block, row and column. -/
theorem readS_at (c : Dev nD) (t : Fin cfg0.N) (i : Fin 32) (r : Fin 128) (j : Fin 256) :
    readS m c t (Rect.unit (s := S32x128x256) ![0, 0, 0] ![32, 128, 256] inb_S32x128x256_S32x128x256_0_0_0).toLoadRect (ix3 i r j) = sAt m c t i r j :=
  sAt_congr m c t (show 0 + 1 * i.val = i.val by omega) (show 0 + 1 * r.val = r.val by omega) (show 0 + 1 * j.val = j.val by omega)

/-- The kernel's softmax of the score scratch. -/
theorem soft (c : Dev nD) (t : Fin cfg0.N) (i : Fin 32) (r : Fin 128) (j : Fin 256) :
    (k0_pay61 (F := Ideal) (readS m c t (Rect.unit (s := S32x128x256) ![0, 0, 0] ![32, 128, 256] inb_S32x128x256_S32x128x256_0_0_0).toLoadRect) (ix3 i r j) : EReal) = weight (sAt m c t i r) j := by
  pointwise [k0_pay61]
  simp only [readS_at, weight, top]
  done

/-- Equal blocks, rows and columns give equal weights. -/
theorem wAt_congr (c : Dev nD) (t : Fin cfg0.N) {i i' : Fin 32} {r r' : Fin 128} {j j' : Fin 256} (hi : i.val = i'.val) (hr : r.val = r'.val)
    (hj : j.val = j'.val) : weight (sAt m c t i r) j = weight (sAt m c t i' r') j' := by
  rw [Fin.ext hi, Fin.ext hr, Fin.ext hj]

/-- The store into the weight scratch. -/
abbrev pStores (c : Dev nD) (t : Fin cfg0.N) : List (View.Piece (Elt Ideal) S32x128x256 .bf16) :=
  [⟨(Rect.unit (s := S32x128x256) ![0, 0, 0] ![32, 128, 256] inb_S32x128x256_S32x128x256_0_0_0), k0_pay61 (F := Ideal) (readS m c t (Rect.unit (s := S32x128x256) ![0, 0, 0] ![32, 128, 256] inb_S32x128x256_S32x128x256_0_0_0).toLoadRect)⟩]

/-- It fills the scratch with the weights. -/
theorem pStores_eq (c : Dev nD) (t : Fin cfg0.N) (z : S32x128x256.Idx) : View.canon (pStores m c t) z = weights m c t z := by
  refine View.canon_apply_of_pieces (weights m c t) _ ?_ _ (View.cover_of_tiledL (pStores m c t) S32x128x256.size (by sl_kernel_rfl) z)
  intro p hp
  simp only [pStores, List.mem_cons, List.not_mem_nil, or_false] at hp
  rcases hp with rfl
  intro x
  idx_vars x
  exact (soft m c t x0 x1 x2).trans (wAt_congr m c t (by show x0.val = 0 + 1 * x0.val; omega) (by show x1.val = 0 + 1 * x1.val; omega)
    (by show x2.val = 0 + 1 * x2.val; omega))

/-- The weights in a rectangle of the scratch. -/
def readP (c : Dev nD) (t : Fin cfg0.N) (B : LoadRect S32x128x256) : B.shape.Idx → EReal := fun j => weights m c t (B.idx j)

/-- A read of the weight scratch. -/
theorem p_read (c : Dev nD) (t : Fin cfg0.N) (B : LoadRect S32x128x256) :
    (View.whole cc0_scratch3).readCov (pStores m c t) B = readP m c t B := by
  rw [View.readCov_eq_canon']
  exact funext fun j => pStores_eq m c t _

/-- Column `e` of what row `r` of the tile attends to. -/
def attAt (c : Dev nD) (t : Fin cfg0.N) (r : Fin 1024) (e : Fin 1024) : EReal :=
  attend (qAt m c t r) (memOf (MK m c) (bat r)) (memOf (MV m c) (bat r)) e

/-- Equal rows and columns give equal elements. -/
theorem attAt_congr (c : Dev nD) (t : Fin cfg0.N) {r r' e e' : Fin 1024} (hr : r.val = r'.val) (he : e.val = e'.val) :
    attAt m c t r e = attAt m c t r' e' := by
  rw [Fin.ext hr, Fin.ext he]

/-- What the attention scratch holds when it is read: lane block, row, lane. -/
def attended (c : Dev nD) (t : Fin cfg0.N) : Vec Ideal S8x1024x128 .f32 := fun i =>
  attAt m c t ⟨(i 1).val, (i 1).isLt⟩
    ⟨128 * (i 0).val + (i 2).val, by have h0 : (i 0).val < 8 := (i 0).isLt; have h2 : (i 2).val < 128 := (i 2).isLt; omega⟩

/-- The scores of a block are those of the rows and the head it holds. -/
theorem sAt_eq (c : Dev nD) (t : Fin cfg0.N) (i : Fin 32) (r : Fin 128) (R : Fin 1024) (H : Fin 4)
    (hR : R.val = 8 * r.val + i.val / 4) (hH : H.val = i.val % 4) : sAt m c t i r = scores (qAt m c t R) (memOf (MK m c) (bat R)) H := by
  have e1 : R = ⟨8 * r.val + i.val / 4, by omega⟩ := Fin.ext hR
  have e2 : H = ⟨i.val % 4, by omega⟩ := Fin.ext hH
  have e3 : bat R = ⟨i.val / 4, by omega⟩ := Fin.ext (show R.val % 8 = i.val / 4 by omega)
  have e : ∀ R' B' H', R = R' → bat R = B' → H = H' → scores (qAt m c t R') (memOf (MK m c) B') H'
      = scores (qAt m c t R) (memOf (MK m c) (bat R)) H := by
    rintro _ _ _ rfl rfl rfl
    rfl
  exact e _ _ _ e1 e3 e2

/-- Block `i` of the weight scratch. -/
theorem readP_at (c : Dev nD) (t : Fin cfg0.N) (i : Nat) (hi : i < 32) (hin) (u : Fin 1) (r : Fin 128) (x : Fin 256) :
    readP m c t (Rect.unit (s := S32x128x256) ![i, 0, 0] ![1, 128, 256] hin).toLoadRect (ix3 u r x) = weight (sAt m c t ⟨i, hi⟩ r) x :=
  wAt_congr m c t (by show i + 1 * u.val = i; have := u.isLt; omega) (by show 0 + 1 * r.val = r.val; omega) (by show 0 + 1 * x.val = x.val; omega)

/-- One stored block: half `s` of head `h` of batch `b`, the weights times the values. -/
theorem att_piece (c : Dev nD) (t : Fin cfg0.N) (b h s : Nat) (hb : b < 8) (hh : h < 4) (hs : s < 2) (r q : Fin 128)
    (P : Fin 256 → EReal) (V : Fin 256 → EReal) (w : Fin 1024) (z : S8x1024x128.Idx) (hw : w.val = 256 * h + 128 * s + q.val)
    (hP : ∀ x, P x = weight (sAt m c t ⟨4 * b + h, by omega⟩ r) x) (hV : ∀ x, V x = iblk m c 4 t (ix4 0 ⟨b, hb⟩ x w))
    (hz0 : (z 0).val = 2 * h + s) (hz1 : (z 1).val = 8 * r.val + b) (hz2 : (z 2).val = q.val) :
    ∑ x : Fin 256, P x * V x = attended m c t z := by
  refine Eq.trans ?_ (attAt_congr m c t (r := ⟨8 * r.val + b, by omega⟩) (e := w) hz1.symm
    (show w.val = 128 * (z 0).val + (z 2).val by omega))
  unfold attAt attend
  refine Finset.sum_congr rfl fun x _ => congrArg₂ (· * ·) ((hP x).trans ?_) ((hV x).trans ?_)
  · exact congrFun (congrArg weight (sAt_eq m c t ⟨4 * b + h, by omega⟩ r ⟨8 * r.val + b, by omega⟩
      (head w) (by show 8 * r.val + b = 8 * r.val + (4 * b + h) / 4; omega) (by show w.val / 256 = (4 * b + h) % 4; omega))) x
  · rw [blk4, show bat ⟨8 * r.val + b, by omega⟩ = ⟨b, hb⟩ from Fin.ext (show (8 * r.val + b) % 8 = b by omega)]

/-- Lane block `j` of every eighth row from `b` on. -/
theorem mem_strided (j b : Nat) (z : S8x1024x128.Idx) (hin) (hp) (h0 : (z 0).val = j) (h1 : (z 1).val % 8 = b) :
    z ∈ ({ off := ![j, b, 0], size := ![1, 128, 128], stride := ![1, 8, 1], inb := hin, stride_pos := hp } : Rect S8x1024x128).set := by
  have l1 : (z 1).val < 1024 := (z 1).isLt
  have l2 : (z 2).val < 128 := (z 2).isLt
  rw [LoadRect.mem_set]
  intro a
  match a with
  | 0 => exact ⟨0, Nat.one_pos, by show _ = j + 1 * 0; omega⟩
  | 1 => exact ⟨(z 1).val / 8, by show _ < 128; omega, by show _ = b + 8 * ((z 1).val / 8); omega⟩
  | 2 => exact ⟨(z 2).val, l2, by show _ = 0 + 1 * (z 2).val; omega⟩

/-- The rectangles of the sixty-four stores into the attention scratch, the last one first. -/
abbrev aRects : List (Rect S8x1024x128) :=
  [{ off := ![7, 7, 0], size := ![1, 128, 128], stride := ![1, 8, 1], inb := inb_S8x1024x128_S1x128x128_7_7_0_s_1_8_1, stride_pos := spos_1_8_1 },
    { off := ![6, 7, 0], size := ![1, 128, 128], stride := ![1, 8, 1], inb := inb_S8x1024x128_S1x128x128_6_7_0_s_1_8_1, stride_pos := spos_1_8_1 },
    { off := ![5, 7, 0], size := ![1, 128, 128], stride := ![1, 8, 1], inb := inb_S8x1024x128_S1x128x128_5_7_0_s_1_8_1, stride_pos := spos_1_8_1 },
    { off := ![4, 7, 0], size := ![1, 128, 128], stride := ![1, 8, 1], inb := inb_S8x1024x128_S1x128x128_4_7_0_s_1_8_1, stride_pos := spos_1_8_1 },
    { off := ![3, 7, 0], size := ![1, 128, 128], stride := ![1, 8, 1], inb := inb_S8x1024x128_S1x128x128_3_7_0_s_1_8_1, stride_pos := spos_1_8_1 },
    { off := ![2, 7, 0], size := ![1, 128, 128], stride := ![1, 8, 1], inb := inb_S8x1024x128_S1x128x128_2_7_0_s_1_8_1, stride_pos := spos_1_8_1 },
    { off := ![1, 7, 0], size := ![1, 128, 128], stride := ![1, 8, 1], inb := inb_S8x1024x128_S1x128x128_1_7_0_s_1_8_1, stride_pos := spos_1_8_1 },
    { off := ![0, 7, 0], size := ![1, 128, 128], stride := ![1, 8, 1], inb := inb_S8x1024x128_S1x128x128_0_7_0_s_1_8_1, stride_pos := spos_1_8_1 },
    { off := ![7, 6, 0], size := ![1, 128, 128], stride := ![1, 8, 1], inb := inb_S8x1024x128_S1x128x128_7_6_0_s_1_8_1, stride_pos := spos_1_8_1 },
    { off := ![6, 6, 0], size := ![1, 128, 128], stride := ![1, 8, 1], inb := inb_S8x1024x128_S1x128x128_6_6_0_s_1_8_1, stride_pos := spos_1_8_1 },
    { off := ![5, 6, 0], size := ![1, 128, 128], stride := ![1, 8, 1], inb := inb_S8x1024x128_S1x128x128_5_6_0_s_1_8_1, stride_pos := spos_1_8_1 },
    { off := ![4, 6, 0], size := ![1, 128, 128], stride := ![1, 8, 1], inb := inb_S8x1024x128_S1x128x128_4_6_0_s_1_8_1, stride_pos := spos_1_8_1 },
    { off := ![3, 6, 0], size := ![1, 128, 128], stride := ![1, 8, 1], inb := inb_S8x1024x128_S1x128x128_3_6_0_s_1_8_1, stride_pos := spos_1_8_1 },
    { off := ![2, 6, 0], size := ![1, 128, 128], stride := ![1, 8, 1], inb := inb_S8x1024x128_S1x128x128_2_6_0_s_1_8_1, stride_pos := spos_1_8_1 },
    { off := ![1, 6, 0], size := ![1, 128, 128], stride := ![1, 8, 1], inb := inb_S8x1024x128_S1x128x128_1_6_0_s_1_8_1, stride_pos := spos_1_8_1 },
    { off := ![0, 6, 0], size := ![1, 128, 128], stride := ![1, 8, 1], inb := inb_S8x1024x128_S1x128x128_0_6_0_s_1_8_1, stride_pos := spos_1_8_1 },
    { off := ![7, 5, 0], size := ![1, 128, 128], stride := ![1, 8, 1], inb := inb_S8x1024x128_S1x128x128_7_5_0_s_1_8_1, stride_pos := spos_1_8_1 },
    { off := ![6, 5, 0], size := ![1, 128, 128], stride := ![1, 8, 1], inb := inb_S8x1024x128_S1x128x128_6_5_0_s_1_8_1, stride_pos := spos_1_8_1 },
    { off := ![5, 5, 0], size := ![1, 128, 128], stride := ![1, 8, 1], inb := inb_S8x1024x128_S1x128x128_5_5_0_s_1_8_1, stride_pos := spos_1_8_1 },
    { off := ![4, 5, 0], size := ![1, 128, 128], stride := ![1, 8, 1], inb := inb_S8x1024x128_S1x128x128_4_5_0_s_1_8_1, stride_pos := spos_1_8_1 },
    { off := ![3, 5, 0], size := ![1, 128, 128], stride := ![1, 8, 1], inb := inb_S8x1024x128_S1x128x128_3_5_0_s_1_8_1, stride_pos := spos_1_8_1 },
    { off := ![2, 5, 0], size := ![1, 128, 128], stride := ![1, 8, 1], inb := inb_S8x1024x128_S1x128x128_2_5_0_s_1_8_1, stride_pos := spos_1_8_1 },
    { off := ![1, 5, 0], size := ![1, 128, 128], stride := ![1, 8, 1], inb := inb_S8x1024x128_S1x128x128_1_5_0_s_1_8_1, stride_pos := spos_1_8_1 },
    { off := ![0, 5, 0], size := ![1, 128, 128], stride := ![1, 8, 1], inb := inb_S8x1024x128_S1x128x128_0_5_0_s_1_8_1, stride_pos := spos_1_8_1 },
    { off := ![7, 4, 0], size := ![1, 128, 128], stride := ![1, 8, 1], inb := inb_S8x1024x128_S1x128x128_7_4_0_s_1_8_1, stride_pos := spos_1_8_1 },
    { off := ![6, 4, 0], size := ![1, 128, 128], stride := ![1, 8, 1], inb := inb_S8x1024x128_S1x128x128_6_4_0_s_1_8_1, stride_pos := spos_1_8_1 },
    { off := ![5, 4, 0], size := ![1, 128, 128], stride := ![1, 8, 1], inb := inb_S8x1024x128_S1x128x128_5_4_0_s_1_8_1, stride_pos := spos_1_8_1 },
    { off := ![4, 4, 0], size := ![1, 128, 128], stride := ![1, 8, 1], inb := inb_S8x1024x128_S1x128x128_4_4_0_s_1_8_1, stride_pos := spos_1_8_1 },
    { off := ![3, 4, 0], size := ![1, 128, 128], stride := ![1, 8, 1], inb := inb_S8x1024x128_S1x128x128_3_4_0_s_1_8_1, stride_pos := spos_1_8_1 },
    { off := ![2, 4, 0], size := ![1, 128, 128], stride := ![1, 8, 1], inb := inb_S8x1024x128_S1x128x128_2_4_0_s_1_8_1, stride_pos := spos_1_8_1 },
    { off := ![1, 4, 0], size := ![1, 128, 128], stride := ![1, 8, 1], inb := inb_S8x1024x128_S1x128x128_1_4_0_s_1_8_1, stride_pos := spos_1_8_1 },
    { off := ![0, 4, 0], size := ![1, 128, 128], stride := ![1, 8, 1], inb := inb_S8x1024x128_S1x128x128_0_4_0_s_1_8_1, stride_pos := spos_1_8_1 },
    { off := ![7, 3, 0], size := ![1, 128, 128], stride := ![1, 8, 1], inb := inb_S8x1024x128_S1x128x128_7_3_0_s_1_8_1, stride_pos := spos_1_8_1 },
    { off := ![6, 3, 0], size := ![1, 128, 128], stride := ![1, 8, 1], inb := inb_S8x1024x128_S1x128x128_6_3_0_s_1_8_1, stride_pos := spos_1_8_1 },
    { off := ![5, 3, 0], size := ![1, 128, 128], stride := ![1, 8, 1], inb := inb_S8x1024x128_S1x128x128_5_3_0_s_1_8_1, stride_pos := spos_1_8_1 },
    { off := ![4, 3, 0], size := ![1, 128, 128], stride := ![1, 8, 1], inb := inb_S8x1024x128_S1x128x128_4_3_0_s_1_8_1, stride_pos := spos_1_8_1 },
    { off := ![3, 3, 0], size := ![1, 128, 128], stride := ![1, 8, 1], inb := inb_S8x1024x128_S1x128x128_3_3_0_s_1_8_1, stride_pos := spos_1_8_1 },
    { off := ![2, 3, 0], size := ![1, 128, 128], stride := ![1, 8, 1], inb := inb_S8x1024x128_S1x128x128_2_3_0_s_1_8_1, stride_pos := spos_1_8_1 },
    { off := ![1, 3, 0], size := ![1, 128, 128], stride := ![1, 8, 1], inb := inb_S8x1024x128_S1x128x128_1_3_0_s_1_8_1, stride_pos := spos_1_8_1 },
    { off := ![0, 3, 0], size := ![1, 128, 128], stride := ![1, 8, 1], inb := inb_S8x1024x128_S1x128x128_0_3_0_s_1_8_1, stride_pos := spos_1_8_1 },
    { off := ![7, 2, 0], size := ![1, 128, 128], stride := ![1, 8, 1], inb := inb_S8x1024x128_S1x128x128_7_2_0_s_1_8_1, stride_pos := spos_1_8_1 },
    { off := ![6, 2, 0], size := ![1, 128, 128], stride := ![1, 8, 1], inb := inb_S8x1024x128_S1x128x128_6_2_0_s_1_8_1, stride_pos := spos_1_8_1 },
    { off := ![5, 2, 0], size := ![1, 128, 128], stride := ![1, 8, 1], inb := inb_S8x1024x128_S1x128x128_5_2_0_s_1_8_1, stride_pos := spos_1_8_1 },
    { off := ![4, 2, 0], size := ![1, 128, 128], stride := ![1, 8, 1], inb := inb_S8x1024x128_S1x128x128_4_2_0_s_1_8_1, stride_pos := spos_1_8_1 },
    { off := ![3, 2, 0], size := ![1, 128, 128], stride := ![1, 8, 1], inb := inb_S8x1024x128_S1x128x128_3_2_0_s_1_8_1, stride_pos := spos_1_8_1 },
    { off := ![2, 2, 0], size := ![1, 128, 128], stride := ![1, 8, 1], inb := inb_S8x1024x128_S1x128x128_2_2_0_s_1_8_1, stride_pos := spos_1_8_1 },
    { off := ![1, 2, 0], size := ![1, 128, 128], stride := ![1, 8, 1], inb := inb_S8x1024x128_S1x128x128_1_2_0_s_1_8_1, stride_pos := spos_1_8_1 },
    { off := ![0, 2, 0], size := ![1, 128, 128], stride := ![1, 8, 1], inb := inb_S8x1024x128_S1x128x128_0_2_0_s_1_8_1, stride_pos := spos_1_8_1 },
    { off := ![7, 1, 0], size := ![1, 128, 128], stride := ![1, 8, 1], inb := inb_S8x1024x128_S1x128x128_7_1_0_s_1_8_1, stride_pos := spos_1_8_1 },
    { off := ![6, 1, 0], size := ![1, 128, 128], stride := ![1, 8, 1], inb := inb_S8x1024x128_S1x128x128_6_1_0_s_1_8_1, stride_pos := spos_1_8_1 },
    { off := ![5, 1, 0], size := ![1, 128, 128], stride := ![1, 8, 1], inb := inb_S8x1024x128_S1x128x128_5_1_0_s_1_8_1, stride_pos := spos_1_8_1 },
    { off := ![4, 1, 0], size := ![1, 128, 128], stride := ![1, 8, 1], inb := inb_S8x1024x128_S1x128x128_4_1_0_s_1_8_1, stride_pos := spos_1_8_1 },
    { off := ![3, 1, 0], size := ![1, 128, 128], stride := ![1, 8, 1], inb := inb_S8x1024x128_S1x128x128_3_1_0_s_1_8_1, stride_pos := spos_1_8_1 },
    { off := ![2, 1, 0], size := ![1, 128, 128], stride := ![1, 8, 1], inb := inb_S8x1024x128_S1x128x128_2_1_0_s_1_8_1, stride_pos := spos_1_8_1 },
    { off := ![1, 1, 0], size := ![1, 128, 128], stride := ![1, 8, 1], inb := inb_S8x1024x128_S1x128x128_1_1_0_s_1_8_1, stride_pos := spos_1_8_1 },
    { off := ![0, 1, 0], size := ![1, 128, 128], stride := ![1, 8, 1], inb := inb_S8x1024x128_S1x128x128_0_1_0_s_1_8_1, stride_pos := spos_1_8_1 },
    { off := ![7, 0, 0], size := ![1, 128, 128], stride := ![1, 8, 1], inb := inb_S8x1024x128_S1x128x128_7_0_0_s_1_8_1, stride_pos := spos_1_8_1 },
    { off := ![6, 0, 0], size := ![1, 128, 128], stride := ![1, 8, 1], inb := inb_S8x1024x128_S1x128x128_6_0_0_s_1_8_1, stride_pos := spos_1_8_1 },
    { off := ![5, 0, 0], size := ![1, 128, 128], stride := ![1, 8, 1], inb := inb_S8x1024x128_S1x128x128_5_0_0_s_1_8_1, stride_pos := spos_1_8_1 },
    { off := ![4, 0, 0], size := ![1, 128, 128], stride := ![1, 8, 1], inb := inb_S8x1024x128_S1x128x128_4_0_0_s_1_8_1, stride_pos := spos_1_8_1 },
    { off := ![3, 0, 0], size := ![1, 128, 128], stride := ![1, 8, 1], inb := inb_S8x1024x128_S1x128x128_3_0_0_s_1_8_1, stride_pos := spos_1_8_1 },
    { off := ![2, 0, 0], size := ![1, 128, 128], stride := ![1, 8, 1], inb := inb_S8x1024x128_S1x128x128_2_0_0_s_1_8_1, stride_pos := spos_1_8_1 },
    { off := ![1, 0, 0], size := ![1, 128, 128], stride := ![1, 8, 1], inb := inb_S8x1024x128_S1x128x128_1_0_0_s_1_8_1, stride_pos := spos_1_8_1 },
    { off := ![0, 0, 0], size := ![1, 128, 128], stride := ![1, 8, 1], inb := inb_S8x1024x128_S1x128x128_0_0_0_s_1_8_1, stride_pos := spos_1_8_1 }]

/-- They cover the scratch. -/
theorem aRects_cover (z : S8x1024x128.Idx) : ∃ r ∈ aRects, z ∈ r.set := by
  have l0 : (z 0).val < 8 := (z 0).isLt
  have hj : (z 0).val = 0 ∨ (z 0).val = 1 ∨ (z 0).val = 2 ∨ (z 0).val = 3 ∨ (z 0).val = 4 ∨ (z 0).val = 5 ∨ (z 0).val = 6 ∨ (z 0).val = 7 := by
    omega
  have hb : (z 1).val % 8 = 0 ∨ (z 1).val % 8 = 1 ∨ (z 1).val % 8 = 2 ∨ (z 1).val % 8 = 3 ∨ (z 1).val % 8 = 4 ∨ (z 1).val % 8 = 5
      ∨ (z 1).val % 8 = 6 ∨ (z 1).val % 8 = 7 := by
    omega
  rcases hb with hb | hb | hb | hb | hb | hb | hb | hb <;> rcases hj with hj | hj | hj | hj | hj | hj | hj | hj
  · exact ⟨_, List.mem_of_getElem? (i := 63) rfl, mem_strided 0 0 z _ _ hj hb⟩
  · exact ⟨_, List.mem_of_getElem? (i := 62) rfl, mem_strided 1 0 z _ _ hj hb⟩
  · exact ⟨_, List.mem_of_getElem? (i := 61) rfl, mem_strided 2 0 z _ _ hj hb⟩
  · exact ⟨_, List.mem_of_getElem? (i := 60) rfl, mem_strided 3 0 z _ _ hj hb⟩
  · exact ⟨_, List.mem_of_getElem? (i := 59) rfl, mem_strided 4 0 z _ _ hj hb⟩
  · exact ⟨_, List.mem_of_getElem? (i := 58) rfl, mem_strided 5 0 z _ _ hj hb⟩
  · exact ⟨_, List.mem_of_getElem? (i := 57) rfl, mem_strided 6 0 z _ _ hj hb⟩
  · exact ⟨_, List.mem_of_getElem? (i := 56) rfl, mem_strided 7 0 z _ _ hj hb⟩
  · exact ⟨_, List.mem_of_getElem? (i := 55) rfl, mem_strided 0 1 z _ _ hj hb⟩
  · exact ⟨_, List.mem_of_getElem? (i := 54) rfl, mem_strided 1 1 z _ _ hj hb⟩
  · exact ⟨_, List.mem_of_getElem? (i := 53) rfl, mem_strided 2 1 z _ _ hj hb⟩
  · exact ⟨_, List.mem_of_getElem? (i := 52) rfl, mem_strided 3 1 z _ _ hj hb⟩
  · exact ⟨_, List.mem_of_getElem? (i := 51) rfl, mem_strided 4 1 z _ _ hj hb⟩
  · exact ⟨_, List.mem_of_getElem? (i := 50) rfl, mem_strided 5 1 z _ _ hj hb⟩
  · exact ⟨_, List.mem_of_getElem? (i := 49) rfl, mem_strided 6 1 z _ _ hj hb⟩
  · exact ⟨_, List.mem_of_getElem? (i := 48) rfl, mem_strided 7 1 z _ _ hj hb⟩
  · exact ⟨_, List.mem_of_getElem? (i := 47) rfl, mem_strided 0 2 z _ _ hj hb⟩
  · exact ⟨_, List.mem_of_getElem? (i := 46) rfl, mem_strided 1 2 z _ _ hj hb⟩
  · exact ⟨_, List.mem_of_getElem? (i := 45) rfl, mem_strided 2 2 z _ _ hj hb⟩
  · exact ⟨_, List.mem_of_getElem? (i := 44) rfl, mem_strided 3 2 z _ _ hj hb⟩
  · exact ⟨_, List.mem_of_getElem? (i := 43) rfl, mem_strided 4 2 z _ _ hj hb⟩
  · exact ⟨_, List.mem_of_getElem? (i := 42) rfl, mem_strided 5 2 z _ _ hj hb⟩
  · exact ⟨_, List.mem_of_getElem? (i := 41) rfl, mem_strided 6 2 z _ _ hj hb⟩
  · exact ⟨_, List.mem_of_getElem? (i := 40) rfl, mem_strided 7 2 z _ _ hj hb⟩
  · exact ⟨_, List.mem_of_getElem? (i := 39) rfl, mem_strided 0 3 z _ _ hj hb⟩
  · exact ⟨_, List.mem_of_getElem? (i := 38) rfl, mem_strided 1 3 z _ _ hj hb⟩
  · exact ⟨_, List.mem_of_getElem? (i := 37) rfl, mem_strided 2 3 z _ _ hj hb⟩
  · exact ⟨_, List.mem_of_getElem? (i := 36) rfl, mem_strided 3 3 z _ _ hj hb⟩
  · exact ⟨_, List.mem_of_getElem? (i := 35) rfl, mem_strided 4 3 z _ _ hj hb⟩
  · exact ⟨_, List.mem_of_getElem? (i := 34) rfl, mem_strided 5 3 z _ _ hj hb⟩
  · exact ⟨_, List.mem_of_getElem? (i := 33) rfl, mem_strided 6 3 z _ _ hj hb⟩
  · exact ⟨_, List.mem_of_getElem? (i := 32) rfl, mem_strided 7 3 z _ _ hj hb⟩
  · exact ⟨_, List.mem_of_getElem? (i := 31) rfl, mem_strided 0 4 z _ _ hj hb⟩
  · exact ⟨_, List.mem_of_getElem? (i := 30) rfl, mem_strided 1 4 z _ _ hj hb⟩
  · exact ⟨_, List.mem_of_getElem? (i := 29) rfl, mem_strided 2 4 z _ _ hj hb⟩
  · exact ⟨_, List.mem_of_getElem? (i := 28) rfl, mem_strided 3 4 z _ _ hj hb⟩
  · exact ⟨_, List.mem_of_getElem? (i := 27) rfl, mem_strided 4 4 z _ _ hj hb⟩
  · exact ⟨_, List.mem_of_getElem? (i := 26) rfl, mem_strided 5 4 z _ _ hj hb⟩
  · exact ⟨_, List.mem_of_getElem? (i := 25) rfl, mem_strided 6 4 z _ _ hj hb⟩
  · exact ⟨_, List.mem_of_getElem? (i := 24) rfl, mem_strided 7 4 z _ _ hj hb⟩
  · exact ⟨_, List.mem_of_getElem? (i := 23) rfl, mem_strided 0 5 z _ _ hj hb⟩
  · exact ⟨_, List.mem_of_getElem? (i := 22) rfl, mem_strided 1 5 z _ _ hj hb⟩
  · exact ⟨_, List.mem_of_getElem? (i := 21) rfl, mem_strided 2 5 z _ _ hj hb⟩
  · exact ⟨_, List.mem_of_getElem? (i := 20) rfl, mem_strided 3 5 z _ _ hj hb⟩
  · exact ⟨_, List.mem_of_getElem? (i := 19) rfl, mem_strided 4 5 z _ _ hj hb⟩
  · exact ⟨_, List.mem_of_getElem? (i := 18) rfl, mem_strided 5 5 z _ _ hj hb⟩
  · exact ⟨_, List.mem_of_getElem? (i := 17) rfl, mem_strided 6 5 z _ _ hj hb⟩
  · exact ⟨_, List.mem_of_getElem? (i := 16) rfl, mem_strided 7 5 z _ _ hj hb⟩
  · exact ⟨_, List.mem_of_getElem? (i := 15) rfl, mem_strided 0 6 z _ _ hj hb⟩
  · exact ⟨_, List.mem_of_getElem? (i := 14) rfl, mem_strided 1 6 z _ _ hj hb⟩
  · exact ⟨_, List.mem_of_getElem? (i := 13) rfl, mem_strided 2 6 z _ _ hj hb⟩
  · exact ⟨_, List.mem_of_getElem? (i := 12) rfl, mem_strided 3 6 z _ _ hj hb⟩
  · exact ⟨_, List.mem_of_getElem? (i := 11) rfl, mem_strided 4 6 z _ _ hj hb⟩
  · exact ⟨_, List.mem_of_getElem? (i := 10) rfl, mem_strided 5 6 z _ _ hj hb⟩
  · exact ⟨_, List.mem_of_getElem? (i := 9) rfl, mem_strided 6 6 z _ _ hj hb⟩
  · exact ⟨_, List.mem_of_getElem? (i := 8) rfl, mem_strided 7 6 z _ _ hj hb⟩
  · exact ⟨_, List.mem_of_getElem? (i := 7) rfl, mem_strided 0 7 z _ _ hj hb⟩
  · exact ⟨_, List.mem_of_getElem? (i := 6) rfl, mem_strided 1 7 z _ _ hj hb⟩
  · exact ⟨_, List.mem_of_getElem? (i := 5) rfl, mem_strided 2 7 z _ _ hj hb⟩
  · exact ⟨_, List.mem_of_getElem? (i := 4) rfl, mem_strided 3 7 z _ _ hj hb⟩
  · exact ⟨_, List.mem_of_getElem? (i := 3) rfl, mem_strided 4 7 z _ _ hj hb⟩
  · exact ⟨_, List.mem_of_getElem? (i := 2) rfl, mem_strided 5 7 z _ _ hj hb⟩
  · exact ⟨_, List.mem_of_getElem? (i := 1) rfl, mem_strided 6 7 z _ _ hj hb⟩
  · exact ⟨_, List.mem_of_getElem? (i := 0) rfl, mem_strided 7 7 z _ _ hj hb⟩

/-- Stores with these rectangles cover the scratch. -/
theorem a_cover (L : List (View.Piece (Elt Ideal) S8x1024x128 .f32)) (h : L.map Sigma.fst = aRects) (z : S8x1024x128.Idx) :
    ∃ p ∈ L, z ∈ p.1.set := by
  obtain ⟨r, hr, hz⟩ := aRects_cover z
  rw [← h] at hr
  obtain ⟨p, hp, rfl⟩ := List.mem_map.mp hr
  exact ⟨p, hp, hz⟩

/-- What rectangle `B` of the attention scratch holds. -/
def readA (c : Dev nD) (t : Fin cfg0.N) (B : LoadRect S8x1024x128) : B.shape.Idx → EReal := fun j => attended m c t (B.idx j)

/-- A read of the attention scratch, when the stores before it fill it. -/
theorem a_read (c : Dev nD) (t : Fin cfg0.N) (L : List (View.Piece (Elt Ideal) S8x1024x128 .f32))
    (h : ∀ z, View.canon L z = attended m c t z) (B : LoadRect S8x1024x128) : (View.whole cc0_scratch1).readCov L B = readA m c t B := by
  rw [View.readCov_eq_canon']
  exact funext fun j => h _

/-- Lane block `j` of the attention scratch. -/
theorem readA_at (c : Dev nD) (t : Fin cfg0.N) (j : Nat) (hj : j < 8) (hin) (u : Fin 1) (r : Fin 1024) (q : Fin 128) :
    readA m c t (Rect.unit (s := S8x1024x128) ![j, 0, 0] ![1, 1024, 128] hin).toLoadRect (ix3 u r q)
      = attAt m c t r ⟨128 * j + q.val, by omega⟩ := by
  refine attAt_congr m c t ?_ ?_
  · show 0 + 1 * r.val = r.val
    omega
  · show 128 * (j + 1 * u.val) + (0 + 1 * q.val) = 128 * j + q.val
    have := u.isLt
    omega

end Cert.CrossIdeal.Block
-- ==== Proof.CrossTile.lean ====
/- The tile the cross-attention kernel writes, from the staged attended values. -/
module

public import proofs.«01_k».proof.Proof.CrossAttend
public import proofs.«01_k».proof.Proof.Gen.CrossIdeal.Value
public import Idealize.ShloMosaic.Lib.Pipeline.ValueKit
public import Idealize.ShloMosaic.Lib.Pipeline.ReadBack

@[expose] public section

set_option maxRecDepth 16384

noncomputable section

namespace Cert.CrossIdeal.Block

open Cert.CrossIdeal Cert.CrossIdeal.Gen Cert.RowMath Cert.CrossMath Idealize.ShloMosaic Idealize.ShloMosaic.TcCoe Idealize.SL.Sem

variable (m : (ℓ : Loc nD τ sig) → Buf (Elt Ideal) ℓ)

/-- Element `e` of row `r` of the tile after the layer. -/
def tileAt (c : Dev nD) (t : Fin cfg0.N) (r e : Fin 1024) : EReal :=
  crossed (rowOf (X m c) (bat r) (tim t r)) (gainOf (GAIN m c)) (matOf (WQ m c)) (memOf (MK m c) (bat r)) (memOf (MV m c) (bat r))
    (matOf (WO m c)) e

/-- The last step on eight lane blocks: the row plus the row the lane blocks make up times the output matrix. -/
theorem out_row (x : Vec Ideal S1024x1024 .f32) (a0 a1 a2 a3 a4 a5 a6 a7 : Vec Ideal S1x1024x128 .f32) (w : Vec Ideal S1x1024x1024 .bf16)
    (r e : Fin 1024) (A : Fin 1024 → EReal) (h0 : ∀ q : Fin 128, a0 (ix3 0 r q) = A ⟨128 * 0 + q.val, by omega⟩)
    (h1 : ∀ q : Fin 128, a1 (ix3 0 r q) = A ⟨128 * 1 + q.val, by omega⟩)
    (h2 : ∀ q : Fin 128, a2 (ix3 0 r q) = A ⟨128 * 2 + q.val, by omega⟩)
    (h3 : ∀ q : Fin 128, a3 (ix3 0 r q) = A ⟨128 * 3 + q.val, by omega⟩)
    (h4 : ∀ q : Fin 128, a4 (ix3 0 r q) = A ⟨128 * 4 + q.val, by omega⟩)
    (h5 : ∀ q : Fin 128, a5 (ix3 0 r q) = A ⟨128 * 5 + q.val, by omega⟩)
    (h6 : ∀ q : Fin 128, a6 (ix3 0 r q) = A ⟨128 * 6 + q.val, by omega⟩)
    (h7 : ∀ q : Fin 128, a7 (ix3 0 r q) = A ⟨128 * 7 + q.val, by omega⟩) :
    (k0_pay1 (F := Ideal) (k0_pay2 x) (k0_pay169 a0) (k0_pay170 a1) (k0_pay171 a2) (k0_pay172 a3) (k0_pay173 a4) (k0_pay174 a5) a6 a7 w
      (ix2 r e) : EReal) = x (ix2 r e) + ∑ k : Fin 1024, A k * w (ix3 0 k e) := by
  pointwise [k0_pay1, k0_pay2, k0_pay169, k0_pay170, k0_pay171, k0_pay172, k0_pay173, k0_pay174]
  refine congrArg₂ (· + ·) rfl (Finset.sum_congr rfl fun k _ => congrArg₂ (· * ·) ?_ rfl)
  have hk := k.isLt
  repeat' split
  · exact (h0 _).trans (congrArg A (Fin.ext (by dsimp only; omega)))
  · exact (h1 _).trans (congrArg A (Fin.ext (by dsimp only; omega)))
  · exact (h2 _).trans (congrArg A (Fin.ext (by dsimp only; omega)))
  · exact (h3 _).trans (congrArg A (Fin.ext (by dsimp only; omega)))
  · exact (h4 _).trans (congrArg A (Fin.ext (by dsimp only; omega)))
  · exact (h5 _).trans (congrArg A (Fin.ext (by dsimp only; omega)))
  · exact (h6 _).trans (congrArg A (Fin.ext (by dsimp only; omega)))
  · exact (h7 _).trans (congrArg A (Fin.ext (by dsimp only; omega)))

/-- What the kernel writes, from the attention scratch. -/
theorem tile (c : Dev nD) (t : Fin cfg0.N) (L : List (View.Piece (Elt Ideal) S8x1024x128 .f32))
    (h : ∀ z, View.canon L z = attended m c t z) (r e : Fin 1024) :
    (k0_pay1 (F := Ideal) (k0_pay2 (iblk m c 0 t))
      (k0_pay169 ((View.whole cc0_scratch1).readCov L (Rect.unit (s := S8x1024x128) ![0, 0, 0] ![1, 1024, 128] inb_S8x1024x128_S1x1024x128_0_0_0).toLoadRect))
      (k0_pay170 ((View.whole cc0_scratch1).readCov L (Rect.unit (s := S8x1024x128) ![1, 0, 0] ![1, 1024, 128] inb_S8x1024x128_S1x1024x128_1_0_0).toLoadRect))
      (k0_pay171 ((View.whole cc0_scratch1).readCov L (Rect.unit (s := S8x1024x128) ![2, 0, 0] ![1, 1024, 128] inb_S8x1024x128_S1x1024x128_2_0_0).toLoadRect))
      (k0_pay172 ((View.whole cc0_scratch1).readCov L (Rect.unit (s := S8x1024x128) ![3, 0, 0] ![1, 1024, 128] inb_S8x1024x128_S1x1024x128_3_0_0).toLoadRect))
      (k0_pay173 ((View.whole cc0_scratch1).readCov L (Rect.unit (s := S8x1024x128) ![4, 0, 0] ![1, 1024, 128] inb_S8x1024x128_S1x1024x128_4_0_0).toLoadRect))
      (k0_pay174 ((View.whole cc0_scratch1).readCov L (Rect.unit (s := S8x1024x128) ![5, 0, 0] ![1, 1024, 128] inb_S8x1024x128_S1x1024x128_5_0_0).toLoadRect))
      ((View.whole cc0_scratch1).readCov L (Rect.unit (s := S8x1024x128) ![6, 0, 0] ![1, 1024, 128] inb_S8x1024x128_S1x1024x128_6_0_0).toLoadRect)
      ((View.whole cc0_scratch1).readCov L (Rect.unit (s := S8x1024x128) ![7, 0, 0] ![1, 1024, 128] inb_S8x1024x128_S1x1024x128_7_0_0).toLoadRect)
      (iblk m c 5 t) (ix2 r e) : EReal)
      = tileAt m c t r e := by
  refine (out_row _ _ _ _ _ _ _ _ _ _ r e (attAt m c t r) (fun q => (congrFun (a_read m c t L h _) _).trans (readA_at m c t 0 (by decide) _ 0 r q))
    (fun q => (congrFun (a_read m c t L h _) _).trans (readA_at m c t 1 (by decide) _ 0 r q))
    (fun q => (congrFun (a_read m c t L h _) _).trans (readA_at m c t 2 (by decide) _ 0 r q))
    (fun q => (congrFun (a_read m c t L h _) _).trans (readA_at m c t 3 (by decide) _ 0 r q))
    (fun q => (congrFun (a_read m c t L h _) _).trans (readA_at m c t 4 (by decide) _ 0 r q))
    (fun q => (congrFun (a_read m c t L h _) _).trans (readA_at m c t 5 (by decide) _ 0 r q))
    (fun q => (congrFun (a_read m c t L h _) _).trans (readA_at m c t 6 (by decide) _ 0 r q))
    (fun q => (congrFun (a_read m c t L h _) _).trans (readA_at m c t 7 (by decide) _ 0 r q))).trans ?_
  unfold tileAt crossed
  simp only [blk0, blk5]
  rfl

/-- The tile's element is the result's. -/
theorem out_eq (c : Dev nD) (t : Fin cfg0.N) (r e : Fin 1024) (z : S16384x1024.Idx) (h0 : t.val * 1024 + r.val = (z 0).val)
    (h1 : e.val = (z 1).val) : tileAt m c t r e = crossArr (X m c) (MK m c) (MV m c) (GAIN m c) (WQ m c) (WO m c) z := by
  have h : ∀ b s e', bat r = b → tim t r = s → e = e' → tileAt m c t r e
      = crossed (rowOf (X m c) b s) (gainOf (GAIN m c)) (matOf (WQ m c)) (memOf (MK m c) b) (memOf (MV m c) b) (matOf (WO m c)) e' := by
    rintro _ _ _ rfl rfl rfl
    rfl
  exact h _ _ _ (Fin.ext (show r.val % 8 = (z 0).val % 8 by omega)) (Fin.ext (show t.val * 128 + r.val / 8 = (z 0).val / 8 by omega)) (Fin.ext h1)

end Cert.CrossIdeal.Block
-- ==== Proof.CrossKernel.lean ====
/- The array that the tiles of the cross-attention kernel make up. -/
module

public import proofs.«01_k».proof.Proof.CrossTile
public import proofs.«01_k».proof.Proof.Gen.CrossIdeal.Value
public import Idealize.ShloMosaic.Lib.Pipeline.ValueKit
public import Idealize.ShloMosaic.Lib.Pipeline.ReadBack

@[expose] public section

set_option maxRecDepth 16384

noncomputable section

namespace Cert.CrossIdeal.Block

open Cert.CrossIdeal Cert.CrossIdeal.Gen Cert.RowMath Cert.CrossMath Idealize.ShloMosaic Idealize.ShloMosaic.TcCoe Idealize.SL.Sem

variable (m : (ℓ : Loc nD τ sig) → Buf (Elt Ideal) ℓ)

set_option maxHeartbeats 4000000 in
/-- The tiles make up the result. -/
theorem arr_eq (c : Dev nD) : ((dats m 0 c).arrAt 6 cfg0.N : Vec Ideal S16384x1024 .f32)
    = crossArr (X m c) (MK m c) (MV m c) (GAIN m c) (WQ m c) (WO m c) := by
  refine (dats m 0 c).arrAt_eq_of_covers 6 _ (by decide +kernel) fun t hf y => ?_
  have := lt16 t
  rw [after0_6]
  unfold outsAt0
  dsimp only
  frame_out
  idx_vars y
  blk_simp
  simp only [q_read m c t]
  have hs : ∀ L B, L = sStores m c t → (View.whole cc0_scratch2).readCov L B = readS m c t B := fun L B h => h ▸ s_read m c t B
  rw [hs]
  swap
  · rfl
  simp only [p_read m c t]
  refine (tile m c t _ ?_ y0 y1).trans ?_
  · intro z
    refine View.canon_apply_of_pieces (attended m c t) _ ?_ _ (a_cover _ rfl z)
    simp only [List.forall_mem_cons]
    repeat' apply And.intro
    all_goals first
      | exact fun p hp => absurd hp List.not_mem_nil
      | (intro x
         idx_vars x
         pointwise [k0_pay62, k0_pay63, k0_pay64, k0_pay65, k0_pay66, k0_pay67, k0_pay68, k0_pay69, k0_pay70, k0_pay71, k0_pay72, k0_pay73,
         k0_pay74, k0_pay75, k0_pay76, k0_pay77, k0_pay78, k0_pay79, k0_pay80, k0_pay81, k0_pay82, k0_pay83, k0_pay84, k0_pay85,
         k0_pay86, k0_pay87, k0_pay88, k0_pay89, k0_pay90, k0_pay91, k0_pay92, k0_pay93, k0_pay94, k0_pay95, k0_pay96, k0_pay97,
         k0_pay98, k0_pay99, k0_pay100, k0_pay101, k0_pay102, k0_pay103, k0_pay104, k0_pay105, k0_pay106, k0_pay107, k0_pay108,
         k0_pay109, k0_pay110, k0_pay111, k0_pay112, k0_pay113, k0_pay114, k0_pay115, k0_pay116, k0_pay117, k0_pay118, k0_pay119,
         k0_pay120, k0_pay121, k0_pay122, k0_pay123, k0_pay124, k0_pay125, k0_pay126, k0_pay127, k0_pay128, k0_pay129, k0_pay130,
         k0_pay131, k0_pay132, k0_pay133, k0_pay134, k0_pay135, k0_pay136, k0_pay137, k0_pay138, k0_pay139, k0_pay140, k0_pay141,
         k0_pay142, k0_pay143, k0_pay144, k0_pay145, k0_pay146, k0_pay147, k0_pay148, k0_pay149, k0_pay150, k0_pay151, k0_pay152,
         k0_pay153, k0_pay154, k0_pay155, k0_pay156, k0_pay157, k0_pay158, k0_pay159, k0_pay160, k0_pay161, k0_pay162, k0_pay163,
         k0_pay164, k0_pay165, k0_pay166, k0_pay167, k0_pay168])
    · refine att_piece m c t 7 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 31 (by decide) _ 0 x1 x
      · exact fun x => congrArg (iblk m c 4 t) (congrArg (ix4 0 7 x) (Fin.ext (by first | rfl | (dsimp only; omega))))
      · show 7 + 1 * x0.val = 7
        omega
      · show 7 + 8 * x1.val = 8 * x1.val + 7
        omega
      · show 0 + 1 * x2.val = x2.val
        omega
    · refine att_piece m c t 7 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 31 (by decide) _ 0 x1 x
      · exact fun x => congrArg (iblk m c 4 t) (congrArg (ix4 0 7 x) (Fin.ext (by first | rfl | (dsimp only; omega))))
      · show 6 + 1 * x0.val = 6
        omega
      · show 7 + 8 * x1.val = 8 * x1.val + 7
        omega
      · show 0 + 1 * x2.val = x2.val
        omega
    · refine att_piece m c t 7 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 30 (by decide) _ 0 x1 x
      · exact fun x => congrArg (iblk m c 4 t) (congrArg (ix4 0 7 x) (Fin.ext (by first | rfl | (dsimp only; omega))))
      · show 5 + 1 * x0.val = 5
        omega
      · show 7 + 8 * x1.val = 8 * x1.val + 7
        omega
      · show 0 + 1 * x2.val = x2.val
        omega
    · refine att_piece m c t 7 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 30 (by decide) _ 0 x1 x
      · exact fun x => congrArg (iblk m c 4 t) (congrArg (ix4 0 7 x) (Fin.ext (by first | rfl | (dsimp only; omega))))
      · show 4 + 1 * x0.val = 4
        omega
      · show 7 + 8 * x1.val = 8 * x1.val + 7
        omega
      · show 0 + 1 * x2.val = x2.val
        omega
    · refine att_piece m c t 7 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 29 (by decide) _ 0 x1 x
      · exact fun x => congrArg (iblk m c 4 t) (congrArg (ix4 0 7 x) (Fin.ext (by first | rfl | (dsimp only; omega))))
      · show 3 + 1 * x0.val = 3
        omega
      · show 7 + 8 * x1.val = 8 * x1.val + 7
        omega
      · show 0 + 1 * x2.val = x2.val
        omega
    · refine att_piece m c t 7 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 29 (by decide) _ 0 x1 x
      · exact fun x => congrArg (iblk m c 4 t) (congrArg (ix4 0 7 x) (Fin.ext (by first | rfl | (dsimp only; omega))))
      · show 2 + 1 * x0.val = 2
        omega
      · show 7 + 8 * x1.val = 8 * x1.val + 7
        omega
      · show 0 + 1 * x2.val = x2.val
        omega
    · refine att_piece m c t 7 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 28 (by decide) _ 0 x1 x
      · exact fun x => congrArg (iblk m c 4 t) (congrArg (ix4 0 7 x) (Fin.ext (by first | rfl | (dsimp only; omega))))
      · show 1 + 1 * x0.val = 1
        omega
      · show 7 + 8 * x1.val = 8 * x1.val + 7
        omega
      · show 0 + 1 * x2.val = x2.val
        omega
    · refine att_piece m c t 7 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 28 (by decide) _ 0 x1 x
      · exact fun x => congrArg (iblk m c 4 t) (congrArg (ix4 0 7 x) (Fin.ext (by first | rfl | (dsimp only; omega))))
      · show 0 + 1 * x0.val = 0
        omega
      · show 7 + 8 * x1.val = 8 * x1.val + 7
        omega
      · show 0 + 1 * x2.val = x2.val
        omega
    · refine att_piece m c t 6 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 27 (by decide) _ 0 x1 x
      · exact fun x => congrArg (iblk m c 4 t) (congrArg (ix4 0 6 x) (Fin.ext (by first | rfl | (dsimp only; omega))))
      · show 7 + 1 * x0.val = 7
        omega
      · show 6 + 8 * x1.val = 8 * x1.val + 6
        omega
      · show 0 + 1 * x2.val = x2.val
        omega
    · refine att_piece m c t 6 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 27 (by decide) _ 0 x1 x
      · exact fun x => congrArg (iblk m c 4 t) (congrArg (ix4 0 6 x) (Fin.ext (by first | rfl | (dsimp only; omega))))
      · show 6 + 1 * x0.val = 6
        omega
      · show 6 + 8 * x1.val = 8 * x1.val + 6
        omega
      · show 0 + 1 * x2.val = x2.val
        omega
    · refine att_piece m c t 6 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 26 (by decide) _ 0 x1 x
      · exact fun x => congrArg (iblk m c 4 t) (congrArg (ix4 0 6 x) (Fin.ext (by first | rfl | (dsimp only; omega))))
      · show 5 + 1 * x0.val = 5
        omega
      · show 6 + 8 * x1.val = 8 * x1.val + 6
        omega
      · show 0 + 1 * x2.val = x2.val
        omega
    · refine att_piece m c t 6 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 26 (by decide) _ 0 x1 x
      · exact fun x => congrArg (iblk m c 4 t) (congrArg (ix4 0 6 x) (Fin.ext (by first | rfl | (dsimp only; omega))))
      · show 4 + 1 * x0.val = 4
        omega
      · show 6 + 8 * x1.val = 8 * x1.val + 6
        omega
      · show 0 + 1 * x2.val = x2.val
        omega
    · refine att_piece m c t 6 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 25 (by decide) _ 0 x1 x
      · exact fun x => congrArg (iblk m c 4 t) (congrArg (ix4 0 6 x) (Fin.ext (by first | rfl | (dsimp only; omega))))
      · show 3 + 1 * x0.val = 3
        omega
      · show 6 + 8 * x1.val = 8 * x1.val + 6
        omega
      · show 0 + 1 * x2.val = x2.val
        omega
    · refine att_piece m c t 6 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 25 (by decide) _ 0 x1 x
      · exact fun x => congrArg (iblk m c 4 t) (congrArg (ix4 0 6 x) (Fin.ext (by first | rfl | (dsimp only; omega))))
      · show 2 + 1 * x0.val = 2
        omega
      · show 6 + 8 * x1.val = 8 * x1.val + 6
        omega
      · show 0 + 1 * x2.val = x2.val
        omega
    · refine att_piece m c t 6 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 24 (by decide) _ 0 x1 x
      · exact fun x => congrArg (iblk m c 4 t) (congrArg (ix4 0 6 x) (Fin.ext (by first | rfl | (dsimp only; omega))))
      · show 1 + 1 * x0.val = 1
        omega
      · show 6 + 8 * x1.val = 8 * x1.val + 6
        omega
      · show 0 + 1 * x2.val = x2.val
        omega
    · refine att_piece m c t 6 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 24 (by decide) _ 0 x1 x
      · exact fun x => congrArg (iblk m c 4 t) (congrArg (ix4 0 6 x) (Fin.ext (by first | rfl | (dsimp only; omega))))
      · show 0 + 1 * x0.val = 0
        omega
      · show 6 + 8 * x1.val = 8 * x1.val + 6
        omega
      · show 0 + 1 * x2.val = x2.val
        omega
    · refine att_piece m c t 5 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 23 (by decide) _ 0 x1 x
      · exact fun x => congrArg (iblk m c 4 t) (congrArg (ix4 0 5 x) (Fin.ext (by first | rfl | (dsimp only; omega))))
      · show 7 + 1 * x0.val = 7
        omega
      · show 5 + 8 * x1.val = 8 * x1.val + 5
        omega
      · show 0 + 1 * x2.val = x2.val
        omega
    · refine att_piece m c t 5 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 23 (by decide) _ 0 x1 x
      · exact fun x => congrArg (iblk m c 4 t) (congrArg (ix4 0 5 x) (Fin.ext (by first | rfl | (dsimp only; omega))))
      · show 6 + 1 * x0.val = 6
        omega
      · show 5 + 8 * x1.val = 8 * x1.val + 5
        omega
      · show 0 + 1 * x2.val = x2.val
        omega
    · refine att_piece m c t 5 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 22 (by decide) _ 0 x1 x
      · exact fun x => congrArg (iblk m c 4 t) (congrArg (ix4 0 5 x) (Fin.ext (by first | rfl | (dsimp only; omega))))
      · show 5 + 1 * x0.val = 5
        omega
      · show 5 + 8 * x1.val = 8 * x1.val + 5
        omega
      · show 0 + 1 * x2.val = x2.val
        omega
    · refine att_piece m c t 5 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 22 (by decide) _ 0 x1 x
      · exact fun x => congrArg (iblk m c 4 t) (congrArg (ix4 0 5 x) (Fin.ext (by first | rfl | (dsimp only; omega))))
      · show 4 + 1 * x0.val = 4
        omega
      · show 5 + 8 * x1.val = 8 * x1.val + 5
        omega
      · show 0 + 1 * x2.val = x2.val
        omega
    · refine att_piece m c t 5 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 21 (by decide) _ 0 x1 x
      · exact fun x => congrArg (iblk m c 4 t) (congrArg (ix4 0 5 x) (Fin.ext (by first | rfl | (dsimp only; omega))))
      · show 3 + 1 * x0.val = 3
        omega
      · show 5 + 8 * x1.val = 8 * x1.val + 5
        omega
      · show 0 + 1 * x2.val = x2.val
        omega
    · refine att_piece m c t 5 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 21 (by decide) _ 0 x1 x
      · exact fun x => congrArg (iblk m c 4 t) (congrArg (ix4 0 5 x) (Fin.ext (by first | rfl | (dsimp only; omega))))
      · show 2 + 1 * x0.val = 2
        omega
      · show 5 + 8 * x1.val = 8 * x1.val + 5
        omega
      · show 0 + 1 * x2.val = x2.val
        omega
    · refine att_piece m c t 5 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 20 (by decide) _ 0 x1 x
      · exact fun x => congrArg (iblk m c 4 t) (congrArg (ix4 0 5 x) (Fin.ext (by first | rfl | (dsimp only; omega))))
      · show 1 + 1 * x0.val = 1
        omega
      · show 5 + 8 * x1.val = 8 * x1.val + 5
        omega
      · show 0 + 1 * x2.val = x2.val
        omega
    · refine att_piece m c t 5 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 20 (by decide) _ 0 x1 x
      · exact fun x => congrArg (iblk m c 4 t) (congrArg (ix4 0 5 x) (Fin.ext (by first | rfl | (dsimp only; omega))))
      · show 0 + 1 * x0.val = 0
        omega
      · show 5 + 8 * x1.val = 8 * x1.val + 5
        omega
      · show 0 + 1 * x2.val = x2.val
        omega
    · refine att_piece m c t 4 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 19 (by decide) _ 0 x1 x
      · exact fun x => congrArg (iblk m c 4 t) (congrArg (ix4 0 4 x) (Fin.ext (by first | rfl | (dsimp only; omega))))
      · show 7 + 1 * x0.val = 7
        omega
      · show 4 + 8 * x1.val = 8 * x1.val + 4
        omega
      · show 0 + 1 * x2.val = x2.val
        omega
    · refine att_piece m c t 4 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 19 (by decide) _ 0 x1 x
      · exact fun x => congrArg (iblk m c 4 t) (congrArg (ix4 0 4 x) (Fin.ext (by first | rfl | (dsimp only; omega))))
      · show 6 + 1 * x0.val = 6
        omega
      · show 4 + 8 * x1.val = 8 * x1.val + 4
        omega
      · show 0 + 1 * x2.val = x2.val
        omega
    · refine att_piece m c t 4 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 18 (by decide) _ 0 x1 x
      · exact fun x => congrArg (iblk m c 4 t) (congrArg (ix4 0 4 x) (Fin.ext (by first | rfl | (dsimp only; omega))))
      · show 5 + 1 * x0.val = 5
        omega
      · show 4 + 8 * x1.val = 8 * x1.val + 4
        omega
      · show 0 + 1 * x2.val = x2.val
        omega
    · refine att_piece m c t 4 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 18 (by decide) _ 0 x1 x
      · exact fun x => congrArg (iblk m c 4 t) (congrArg (ix4 0 4 x) (Fin.ext (by first | rfl | (dsimp only; omega))))
      · show 4 + 1 * x0.val = 4
        omega
      · show 4 + 8 * x1.val = 8 * x1.val + 4
        omega
      · show 0 + 1 * x2.val = x2.val
        omega
    · refine att_piece m c t 4 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 17 (by decide) _ 0 x1 x
      · exact fun x => congrArg (iblk m c 4 t) (congrArg (ix4 0 4 x) (Fin.ext (by first | rfl | (dsimp only; omega))))
      · show 3 + 1 * x0.val = 3
        omega
      · show 4 + 8 * x1.val = 8 * x1.val + 4
        omega
      · show 0 + 1 * x2.val = x2.val
        omega
    · refine att_piece m c t 4 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 17 (by decide) _ 0 x1 x
      · exact fun x => congrArg (iblk m c 4 t) (congrArg (ix4 0 4 x) (Fin.ext (by first | rfl | (dsimp only; omega))))
      · show 2 + 1 * x0.val = 2
        omega
      · show 4 + 8 * x1.val = 8 * x1.val + 4
        omega
      · show 0 + 1 * x2.val = x2.val
        omega
    · refine att_piece m c t 4 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 16 (by decide) _ 0 x1 x
      · exact fun x => congrArg (iblk m c 4 t) (congrArg (ix4 0 4 x) (Fin.ext (by first | rfl | (dsimp only; omega))))
      · show 1 + 1 * x0.val = 1
        omega
      · show 4 + 8 * x1.val = 8 * x1.val + 4
        omega
      · show 0 + 1 * x2.val = x2.val
        omega
    · refine att_piece m c t 4 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 16 (by decide) _ 0 x1 x
      · exact fun x => congrArg (iblk m c 4 t) (congrArg (ix4 0 4 x) (Fin.ext (by first | rfl | (dsimp only; omega))))
      · show 0 + 1 * x0.val = 0
        omega
      · show 4 + 8 * x1.val = 8 * x1.val + 4
        omega
      · show 0 + 1 * x2.val = x2.val
        omega
    · refine att_piece m c t 3 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 15 (by decide) _ 0 x1 x
      · exact fun x => congrArg (iblk m c 4 t) (congrArg (ix4 0 3 x) (Fin.ext (by first | rfl | (dsimp only; omega))))
      · show 7 + 1 * x0.val = 7
        omega
      · show 3 + 8 * x1.val = 8 * x1.val + 3
        omega
      · show 0 + 1 * x2.val = x2.val
        omega
    · refine att_piece m c t 3 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 15 (by decide) _ 0 x1 x
      · exact fun x => congrArg (iblk m c 4 t) (congrArg (ix4 0 3 x) (Fin.ext (by first | rfl | (dsimp only; omega))))
      · show 6 + 1 * x0.val = 6
        omega
      · show 3 + 8 * x1.val = 8 * x1.val + 3
        omega
      · show 0 + 1 * x2.val = x2.val
        omega
    · refine att_piece m c t 3 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 14 (by decide) _ 0 x1 x
      · exact fun x => congrArg (iblk m c 4 t) (congrArg (ix4 0 3 x) (Fin.ext (by first | rfl | (dsimp only; omega))))
      · show 5 + 1 * x0.val = 5
        omega
      · show 3 + 8 * x1.val = 8 * x1.val + 3
        omega
      · show 0 + 1 * x2.val = x2.val
        omega
    · refine att_piece m c t 3 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 14 (by decide) _ 0 x1 x
      · exact fun x => congrArg (iblk m c 4 t) (congrArg (ix4 0 3 x) (Fin.ext (by first | rfl | (dsimp only; omega))))
      · show 4 + 1 * x0.val = 4
        omega
      · show 3 + 8 * x1.val = 8 * x1.val + 3
        omega
      · show 0 + 1 * x2.val = x2.val
        omega
    · refine att_piece m c t 3 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 13 (by decide) _ 0 x1 x
      · exact fun x => congrArg (iblk m c 4 t) (congrArg (ix4 0 3 x) (Fin.ext (by first | rfl | (dsimp only; omega))))
      · show 3 + 1 * x0.val = 3
        omega
      · show 3 + 8 * x1.val = 8 * x1.val + 3
        omega
      · show 0 + 1 * x2.val = x2.val
        omega
    · refine att_piece m c t 3 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 13 (by decide) _ 0 x1 x
      · exact fun x => congrArg (iblk m c 4 t) (congrArg (ix4 0 3 x) (Fin.ext (by first | rfl | (dsimp only; omega))))
      · show 2 + 1 * x0.val = 2
        omega
      · show 3 + 8 * x1.val = 8 * x1.val + 3
        omega
      · show 0 + 1 * x2.val = x2.val
        omega
    · refine att_piece m c t 3 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 12 (by decide) _ 0 x1 x
      · exact fun x => congrArg (iblk m c 4 t) (congrArg (ix4 0 3 x) (Fin.ext (by first | rfl | (dsimp only; omega))))
      · show 1 + 1 * x0.val = 1
        omega
      · show 3 + 8 * x1.val = 8 * x1.val + 3
        omega
      · show 0 + 1 * x2.val = x2.val
        omega
    · refine att_piece m c t 3 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 12 (by decide) _ 0 x1 x
      · exact fun x => congrArg (iblk m c 4 t) (congrArg (ix4 0 3 x) (Fin.ext (by first | rfl | (dsimp only; omega))))
      · show 0 + 1 * x0.val = 0
        omega
      · show 3 + 8 * x1.val = 8 * x1.val + 3
        omega
      · show 0 + 1 * x2.val = x2.val
        omega
    · refine att_piece m c t 2 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 11 (by decide) _ 0 x1 x
      · exact fun x => congrArg (iblk m c 4 t) (congrArg (ix4 0 2 x) (Fin.ext (by first | rfl | (dsimp only; omega))))
      · show 7 + 1 * x0.val = 7
        omega
      · show 2 + 8 * x1.val = 8 * x1.val + 2
        omega
      · show 0 + 1 * x2.val = x2.val
        omega
    · refine att_piece m c t 2 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 11 (by decide) _ 0 x1 x
      · exact fun x => congrArg (iblk m c 4 t) (congrArg (ix4 0 2 x) (Fin.ext (by first | rfl | (dsimp only; omega))))
      · show 6 + 1 * x0.val = 6
        omega
      · show 2 + 8 * x1.val = 8 * x1.val + 2
        omega
      · show 0 + 1 * x2.val = x2.val
        omega
    · refine att_piece m c t 2 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 10 (by decide) _ 0 x1 x
      · exact fun x => congrArg (iblk m c 4 t) (congrArg (ix4 0 2 x) (Fin.ext (by first | rfl | (dsimp only; omega))))
      · show 5 + 1 * x0.val = 5
        omega
      · show 2 + 8 * x1.val = 8 * x1.val + 2
        omega
      · show 0 + 1 * x2.val = x2.val
        omega
    · refine att_piece m c t 2 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 10 (by decide) _ 0 x1 x
      · exact fun x => congrArg (iblk m c 4 t) (congrArg (ix4 0 2 x) (Fin.ext (by first | rfl | (dsimp only; omega))))
      · show 4 + 1 * x0.val = 4
        omega
      · show 2 + 8 * x1.val = 8 * x1.val + 2
        omega
      · show 0 + 1 * x2.val = x2.val
        omega
    · refine att_piece m c t 2 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 9 (by decide) _ 0 x1 x
      · exact fun x => congrArg (iblk m c 4 t) (congrArg (ix4 0 2 x) (Fin.ext (by first | rfl | (dsimp only; omega))))
      · show 3 + 1 * x0.val = 3
        omega
      · show 2 + 8 * x1.val = 8 * x1.val + 2
        omega
      · show 0 + 1 * x2.val = x2.val
        omega
    · refine att_piece m c t 2 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 9 (by decide) _ 0 x1 x
      · exact fun x => congrArg (iblk m c 4 t) (congrArg (ix4 0 2 x) (Fin.ext (by first | rfl | (dsimp only; omega))))
      · show 2 + 1 * x0.val = 2
        omega
      · show 2 + 8 * x1.val = 8 * x1.val + 2
        omega
      · show 0 + 1 * x2.val = x2.val
        omega
    · refine att_piece m c t 2 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 8 (by decide) _ 0 x1 x
      · exact fun x => congrArg (iblk m c 4 t) (congrArg (ix4 0 2 x) (Fin.ext (by first | rfl | (dsimp only; omega))))
      · show 1 + 1 * x0.val = 1
        omega
      · show 2 + 8 * x1.val = 8 * x1.val + 2
        omega
      · show 0 + 1 * x2.val = x2.val
        omega
    · refine att_piece m c t 2 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 8 (by decide) _ 0 x1 x
      · exact fun x => congrArg (iblk m c 4 t) (congrArg (ix4 0 2 x) (Fin.ext (by first | rfl | (dsimp only; omega))))
      · show 0 + 1 * x0.val = 0
        omega
      · show 2 + 8 * x1.val = 8 * x1.val + 2
        omega
      · show 0 + 1 * x2.val = x2.val
        omega
    · refine att_piece m c t 1 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 7 (by decide) _ 0 x1 x
      · exact fun x => congrArg (iblk m c 4 t) (congrArg (ix4 0 1 x) (Fin.ext (by first | rfl | (dsimp only; omega))))
      · show 7 + 1 * x0.val = 7
        omega
      · show 1 + 8 * x1.val = 8 * x1.val + 1
        omega
      · show 0 + 1 * x2.val = x2.val
        omega
    · refine att_piece m c t 1 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 7 (by decide) _ 0 x1 x
      · exact fun x => congrArg (iblk m c 4 t) (congrArg (ix4 0 1 x) (Fin.ext (by first | rfl | (dsimp only; omega))))
      · show 6 + 1 * x0.val = 6
        omega
      · show 1 + 8 * x1.val = 8 * x1.val + 1
        omega
      · show 0 + 1 * x2.val = x2.val
        omega
    · refine att_piece m c t 1 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 6 (by decide) _ 0 x1 x
      · exact fun x => congrArg (iblk m c 4 t) (congrArg (ix4 0 1 x) (Fin.ext (by first | rfl | (dsimp only; omega))))
      · show 5 + 1 * x0.val = 5
        omega
      · show 1 + 8 * x1.val = 8 * x1.val + 1
        omega
      · show 0 + 1 * x2.val = x2.val
        omega
    · refine att_piece m c t 1 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 6 (by decide) _ 0 x1 x
      · exact fun x => congrArg (iblk m c 4 t) (congrArg (ix4 0 1 x) (Fin.ext (by first | rfl | (dsimp only; omega))))
      · show 4 + 1 * x0.val = 4
        omega
      · show 1 + 8 * x1.val = 8 * x1.val + 1
        omega
      · show 0 + 1 * x2.val = x2.val
        omega
    · refine att_piece m c t 1 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 5 (by decide) _ 0 x1 x
      · exact fun x => congrArg (iblk m c 4 t) (congrArg (ix4 0 1 x) (Fin.ext (by first | rfl | (dsimp only; omega))))
      · show 3 + 1 * x0.val = 3
        omega
      · show 1 + 8 * x1.val = 8 * x1.val + 1
        omega
      · show 0 + 1 * x2.val = x2.val
        omega
    · refine att_piece m c t 1 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 5 (by decide) _ 0 x1 x
      · exact fun x => congrArg (iblk m c 4 t) (congrArg (ix4 0 1 x) (Fin.ext (by first | rfl | (dsimp only; omega))))
      · show 2 + 1 * x0.val = 2
        omega
      · show 1 + 8 * x1.val = 8 * x1.val + 1
        omega
      · show 0 + 1 * x2.val = x2.val
        omega
    · refine att_piece m c t 1 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 4 (by decide) _ 0 x1 x
      · exact fun x => congrArg (iblk m c 4 t) (congrArg (ix4 0 1 x) (Fin.ext (by first | rfl | (dsimp only; omega))))
      · show 1 + 1 * x0.val = 1
        omega
      · show 1 + 8 * x1.val = 8 * x1.val + 1
        omega
      · show 0 + 1 * x2.val = x2.val
        omega
    · refine att_piece m c t 1 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 4 (by decide) _ 0 x1 x
      · exact fun x => congrArg (iblk m c 4 t) (congrArg (ix4 0 1 x) (Fin.ext (by first | rfl | (dsimp only; omega))))
      · show 0 + 1 * x0.val = 0
        omega
      · show 1 + 8 * x1.val = 8 * x1.val + 1
        omega
      · show 0 + 1 * x2.val = x2.val
        omega
    · refine att_piece m c t 0 3 1 (by decide) (by decide) (by decide) x1 x2 _ _ ⟨896 + x2.val, by omega⟩ _ ?_ ?_ ?_ ?_ ?_ ?_
      · show 896 + x2.val = 256 * 3 + 128 * 1 + x2.val
        omega
      · exact fun x => readP_at m c t 3 (by decide) _ 0 x1 x
      · exact fun x => congrArg (iblk m c 4 t) (congrArg (ix4 0 0 x) (Fin.ext (by first | rfl | (dsimp only; omega))))
      · show 7 + 1 * x0.val = 7
        omega
      · show 0 + 8 * x1.val = 8 * x1.val + 0
        omega
      · show 0 + 1 * x2.val = x2.val
        omega
    · refine att_piece m c t 0 3 0 (by decide) (by decide) (by decide) x1 x2 _ _ ⟨768 + x2.val, by omega⟩ _ ?_ ?_ ?_ ?_ ?_ ?_
      · show 768 + x2.val = 256 * 3 + 128 * 0 + x2.val
        omega
      · exact fun x => readP_at m c t 3 (by decide) _ 0 x1 x
      · exact fun x => congrArg (iblk m c 4 t) (congrArg (ix4 0 0 x) (Fin.ext (by first | rfl | (dsimp only; omega))))
      · show 6 + 1 * x0.val = 6
        omega
      · show 0 + 8 * x1.val = 8 * x1.val + 0
        omega
      · show 0 + 1 * x2.val = x2.val
        omega
    · refine att_piece m c t 0 2 1 (by decide) (by decide) (by decide) x1 x2 _ _ ⟨640 + x2.val, by omega⟩ _ ?_ ?_ ?_ ?_ ?_ ?_
      · show 640 + x2.val = 256 * 2 + 128 * 1 + x2.val
        omega
      · exact fun x => readP_at m c t 2 (by decide) _ 0 x1 x
      · exact fun x => congrArg (iblk m c 4 t) (congrArg (ix4 0 0 x) (Fin.ext (by first | rfl | (dsimp only; omega))))
      · show 5 + 1 * x0.val = 5
        omega
      · show 0 + 8 * x1.val = 8 * x1.val + 0
        omega
      · show 0 + 1 * x2.val = x2.val
        omega
    · refine att_piece m c t 0 2 0 (by decide) (by decide) (by decide) x1 x2 _ _ ⟨512 + x2.val, by omega⟩ _ ?_ ?_ ?_ ?_ ?_ ?_
      · show 512 + x2.val = 256 * 2 + 128 * 0 + x2.val
        omega
      · exact fun x => readP_at m c t 2 (by decide) _ 0 x1 x
      · exact fun x => congrArg (iblk m c 4 t) (congrArg (ix4 0 0 x) (Fin.ext (by first | rfl | (dsimp only; omega))))
      · show 4 + 1 * x0.val = 4
        omega
      · show 0 + 8 * x1.val = 8 * x1.val + 0
        omega
      · show 0 + 1 * x2.val = x2.val
        omega
    · refine att_piece m c t 0 1 1 (by decide) (by decide) (by decide) x1 x2 _ _ ⟨384 + x2.val, by omega⟩ _ ?_ ?_ ?_ ?_ ?_ ?_
      · show 384 + x2.val = 256 * 1 + 128 * 1 + x2.val
        omega
      · exact fun x => readP_at m c t 1 (by decide) _ 0 x1 x
      · exact fun x => congrArg (iblk m c 4 t) (congrArg (ix4 0 0 x) (Fin.ext (by first | rfl | (dsimp only; omega))))
      · show 3 + 1 * x0.val = 3
        omega
      · show 0 + 8 * x1.val = 8 * x1.val + 0
        omega
      · show 0 + 1 * x2.val = x2.val
        omega
    · refine att_piece m c t 0 1 0 (by decide) (by decide) (by decide) x1 x2 _ _ ⟨256 + x2.val, by omega⟩ _ ?_ ?_ ?_ ?_ ?_ ?_
      · show 256 + x2.val = 256 * 1 + 128 * 0 + x2.val
        omega
      · exact fun x => readP_at m c t 1 (by decide) _ 0 x1 x
      · exact fun x => congrArg (iblk m c 4 t) (congrArg (ix4 0 0 x) (Fin.ext (by first | rfl | (dsimp only; omega))))
      · show 2 + 1 * x0.val = 2
        omega
      · show 0 + 8 * x1.val = 8 * x1.val + 0
        omega
      · show 0 + 1 * x2.val = x2.val
        omega
    · refine att_piece m c t 0 0 1 (by decide) (by decide) (by decide) x1 x2 _ _ ⟨128 + x2.val, by omega⟩ _ ?_ ?_ ?_ ?_ ?_ ?_
      · show 128 + x2.val = 256 * 0 + 128 * 1 + x2.val
        omega
      · exact fun x => readP_at m c t 0 (by decide) _ 0 x1 x
      · exact fun x => congrArg (iblk m c 4 t) (congrArg (ix4 0 0 x) (Fin.ext (by first | rfl | (dsimp only; omega))))
      · show 1 + 1 * x0.val = 1
        omega
      · show 0 + 8 * x1.val = 8 * x1.val + 0
        omega
      · show 0 + 1 * x2.val = x2.val
        omega
    · refine att_piece m c t 0 0 0 (by decide) (by decide) (by decide) x1 x2 _ _ ⟨0 + x2.val, by omega⟩ _ ?_ ?_ ?_ ?_ ?_ ?_
      · show 0 + x2.val = 256 * 0 + 128 * 0 + x2.val
        omega
      · exact fun x => readP_at m c t 0 (by decide) _ 0 x1 x
      · exact fun x => congrArg (iblk m c 4 t) (congrArg (ix4 0 0 x) (Fin.ext (by first | rfl | (dsimp only; omega))))
      · show 0 + 1 * x0.val = 0
        omega
      · show 0 + 8 * x1.val = 8 * x1.val + 0
        omega
      · show 0 + 1 * x2.val = x2.val
        omega
  · refine out_eq m c t y0 y1 _ ?_ ?_ <;> blk_simp [idx t] <;> first | omega | (dsimp only; omega) | rfl | exact Nat.zero_add _

end Cert.CrossIdeal.Block
-- ==== Proof.CrossRef.lean ====
/- The cross-attention's reference returns the same array as the kernel. -/
module

public import proofs.«01_k».proof.Proof.CrossKernel
public import proofs.«01_k».proof.Proof.Gen.CrossRefIdeal.Run
public import Idealize.ShloMosaic.Lib.Tactic.CleanTypes

@[expose] public section

set_option maxRecDepth 16384

noncomputable section

namespace Cert.CrossRefIdeal.RefValue

open Cert.CrossRefIdeal Cert.CrossRefIdeal.Gen Cert.CrossRefIdeal.Value Cert.CrossIdeal.Block Cert.RowMath Cert.CrossMath
  Idealize.ShloMosaic Idealize.ShloMosaic.TcCoe Idealize.SL.Sem

variable (m : (ℓ : Loc nD τ sig) → Buf (Elt Ideal) ℓ)

/-- The queries: the normed rows times the query matrix, by head. -/
def qRef (x : Vec Ideal S8x2048x1024 .f32) (g : Vec Ideal S4x1024 .f32) (w : Vec Ideal S4x1024x1024 .f32) : Vec Ideal S8x2048x4x256 .f32 :=
  shapeCast _ (Host.dotGeneral (F := Ideal) (φ₁ := .f32) (φ₂ := .f32) dot_S8x2048x1024_S1024x1024_S8x2048x1024_2_0_01_1_n_n none (mulf (F := Ideal) (mulf (F := Ideal) x (broadcastInDim S8x2048x1024 ![0, 1, 2] bcast_S8x2048x1_S8x2048x1024_0_1_2 (Host.rsqrt (F := Ideal) (addf (F := Ideal) (Host.divf (F := Ideal) (broadcastInDim S8x2048x1 ![0, 1] bcast_S8x2048_S8x2048x1_0_1 (Host.reduceAdd (F := Ideal) (mulf (F := Ideal) x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] g slices_S4x1024_S1x1024_1_0) shapeCasts_S1x1024_S1024)))) (shapeCast _ (extractStridedSlice S1x1024x1024 ![1, 0, 0] w slices_S4x1024x1024_S1x1024x1024_1_0_0) shapeCasts_S1x1024x1024_S1024x1024)) shapeCasts_S8x2048x1024_S8x2048x4x256

/-- The scores. -/
def sRef (q : Vec Ideal S8x2048x4x256 .f32) (k : Vec Ideal S4x8x256x4x256 .f32) : Vec Ideal S8x4x2048x256 .f32 :=
  mulf (F := Ideal) (Host.dotGeneral (F := Ideal) (φ₁ := .f32) (φ₂ := .f32) dot_S8x2048x4x256_S8x256x4x256_S8x4x2048x256_3_3_1_1_02_02 none q (shapeCast _ (extractStridedSlice S1x8x256x4x256 ![1, 0, 0, 0, 0] k slices_S4x8x256x4x256_S1x8x256x4x256_1_0_0_0_0) shapeCasts_S1x8x256x4x256_S8x256x4x256)) (broadcastInDim S8x4x2048x256 ![] bcast_S_S8x4x2048x256 (constant S_ .f32 0x3D800000#32))

/-- The exponentials of the scores less their largest. -/
def eRef (s : Vec Ideal S8x4x2048x256 .f32) : Vec Ideal S8x4x2048x256 .f32 :=
  Host.exp (F := Ideal) (subf (F := Ideal) s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (F := Ideal) (broadcastInDim S8x4x2048 ![] bcast_S_S8x4x2048 (constant S_ .f32 0xFF800000#32)) (Host.reduce (FloatOps.maximumf (F := Ideal)) s (constant S_ .f32 0xFF800000#32) reducesTo_S8x4x2048x256_S8x4x2048_d3 h_S_)))))

/-- The weights: the exponentials over their sum. -/
def pRef (e : Vec Ideal S8x4x2048x256 .f32) : Vec Ideal S8x4x2048x256 .f32 :=
  Host.divf (F := Ideal) e (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd (F := Ideal) e (constant S_ .f32 0x00000000#32) reducesTo_S8x4x2048x256_S8x4x2048_d3 h_S_)))

/-- What the rows attend to. -/
def oRef (p : Vec Ideal S8x4x2048x256 .f32) (v : Vec Ideal S4x8x256x4x256 .f32) : Vec Ideal S8x2048x1024 .f32 :=
  shapeCast _ (transpose S8x2048x4x256 [0, 3, 1, 2] (Host.dotGeneral (F := Ideal) (φ₁ := .f32) (φ₂ := .f32) dot_S8x256x4x256_S8x4x2048x256_S8x4x256x2048_1_3_3_2_02_01 none (shapeCast _ (extractStridedSlice S1x8x256x4x256 ![1, 0, 0, 0, 0] v slices_S4x8x256x4x256_S1x8x256x4x256_1_0_0_0_0) shapeCasts_S1x8x256x4x256_S8x256x4x256) p) transposes_S8x4x256x2048_S8x2048x4x256_0_3_1_2) shapeCasts_S8x2048x4x256_S8x2048x1024

/-- The rows plus what they attend to times the output matrix, time first. -/
def yRef (x o : Vec Ideal S8x2048x1024 .f32) (w : Vec Ideal S4x1024x1024 .f32) : Vec Ideal S16384x1024 .f32 :=
  shapeCast _ (transpose S2048x8x1024 [1, 0, 2] (addf (F := Ideal) x (Host.dotGeneral (F := Ideal) (φ₁ := .f32) (φ₂ := .f32) dot_S8x2048x1024_S1024x1024_S8x2048x1024_2_0_01_1_n_n none o (shapeCast _ (extractStridedSlice S1x1024x1024 ![1, 0, 0] w slices_S4x1024x1024_S1x1024x1024_1_0_0) shapeCasts_S1x1024x1024_S1024x1024))) transposes_S8x2048x1024_S2048x8x1024_1_0_2) shapeCasts_S2048x8x1024_S16384x1024

/-- The largest score of a row: the reduction is the fold over the memory rows. -/
theorem largest (s : FVec Ideal S8x4x2048x256 .f32) (b : Fin 8) (h : Fin 4) (t : Fin 2048) :
    Host.reduce (FloatOps.maximumf (F := Ideal) (φ := .f32)) s (constant (F := Ideal) S_ .f32 0xFF800000#32)
      reducesTo_S8x4x2048x256_S8x4x2048_d3 h_S_ (ix3 b h t) = top fun i => s (ix4 b h t i) := by
  have hr : S8x4x2048x256.Reduces [3] S8x4x2048 := by decide
  refine (Host.reduce_eq_fold_single _ s _ _ hr h_S_ _).trans ?_
  unfold top
  refine congrArg (fun f => Finset.fold max _ f Finset.univ) (funext fun k => congrArg s (funext fun a => ?_))
  match a with
  | 0 => rfl
  | 1 => rfl
  | 2 => rfl
  | 3 => rfl

/-- The exponentials, from the largest scores. -/
theorem exp_at (s : Vec Ideal S8x4x2048x256 .f32) (w : FVec Ideal S8x4x2048 .f32) (b : Fin 8) (h : Fin 4) (t : Fin 2048) (j : Fin 256) :
    Host.exp (F := Ideal) (subf (F := Ideal) s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (F := Ideal) (broadcastInDim S8x4x2048 ![] bcast_S_S8x4x2048 (constant (F := Ideal) S_ .f32 0xFF800000#32)) w)))) (ix4 b h t j)
      = Ideal.exp (s (ix4 b h t j) - max (Ideal.ofBits .f32 0xFF800000#32) (w (ix3 b h t))) := by
  pointwise

/-! What each stage holds, element by element. -/

theorem qRef_at (x : Vec Ideal S8x2048x1024 .f32) (g : Vec Ideal S4x1024 .f32) (w : Vec Ideal S4x1024x1024 .f32) (b : Fin 8) (t : Fin 2048)
    (h : Fin 4) (d : Fin 256) : qRef x g w (ix4 b t h d) = query (rowOf x b t) (gainOf g) (matOf w) (col h d) := by
  unfold qRef
  pointwise
  rfl

theorem sRef_at (q : Vec Ideal S8x2048x4x256 .f32) (k : Vec Ideal S4x8x256x4x256 .f32) (b : Fin 8) (h : Fin 4) (t : Fin 2048) (j : Fin 256) :
    sRef q k (ix4 b h t j) = score (fun d => q (ix4 b t h d)) (fun d => k (ix5 1 b j h d)) := by
  unfold sRef
  pointwise
  rfl

theorem eRef_at (s : Vec Ideal S8x4x2048x256 .f32) (b : Fin 8) (h : Fin 4) (t : Fin 2048) (j : Fin 256) :
    eRef s (ix4 b h t j) = Ideal.exp (s (ix4 b h t j) - top fun i => s (ix4 b h t i)) := by
  refine (exp_at s _ b h t j).trans ?_
  rw [largest, max_top]

theorem pRef_at (e : Vec Ideal S8x4x2048x256 .f32) (b : Fin 8) (h : Fin 4) (t : Fin 2048) (j : Fin 256) :
    pRef e (ix4 b h t j) = Ideal.div (e (ix4 b h t j)) (∑ i : Fin 256, e (ix4 b h t i)) := by
  unfold pRef
  pointwise

theorem oRef_at (p : Vec Ideal S8x4x2048x256 .f32) (v : Vec Ideal S4x8x256x4x256 .f32) (b : Fin 8) (t : Fin 2048) (e : Fin 1024) :
    oRef p v (ix3 b t e) = ∑ j : Fin 256, memOf v b j e * p (ix4 b (head e) t j) := by
  unfold oRef
  pointwise
  rfl

theorem yRef_at (x o : Vec Ideal S8x2048x1024 .f32) (w : Vec Ideal S4x1024x1024 .f32) (r : Fin 16384) (e : Fin 1024) :
    yRef x o w (ix2 r e) = x (ix3 ⟨r.val % 8, by omega⟩ ⟨r.val / 8, by omega⟩ e)
      + ∑ k : Fin 1024, o (ix3 ⟨r.val % 8, by omega⟩ ⟨r.val / 8, by omega⟩ k) * matOf w k e := by
  unfold yRef
  pointwise
  rfl

/-- A head's column of the memory. -/
theorem memOf_col (k : Vec Ideal S4x8x256x4x256 .f32) (b : Fin 8) (j : Fin 256) (h : Fin 4) (d : Fin 256) :
    memOf k b j (col h d) = k (ix5 1 b j h d) := by
  unfold memOf
  rw [show (⟨(col h d).val / 256, by omega⟩ : Fin 4) = h from Fin.ext (show (h.val * 256 + d.val) / 256 = h.val by omega),
    show (⟨(col h d).val % 256, by omega⟩ : Fin 256) = d from Fin.ext (show (h.val * 256 + d.val) % 256 = d.val by omega)]

/-- The stages together give the array of rows after the layer. -/
theorem stages (x : Vec Ideal S8x2048x1024 .f32) (k v : Vec Ideal S4x8x256x4x256 .f32) (g : Vec Ideal S4x1024 .f32)
    (wq wo : Vec Ideal S4x1024x1024 .f32) : yRef x (oRef (pRef (eRef (sRef (qRef x g wq) k))) v) wo = crossArr x k v g wq wo := by
  funext i
  idx_vars i
  rw [yRef_at]
  unfold crossArr crossed attend weight
  refine congrArg₂ (· + ·) rfl (Finset.sum_congr rfl fun e _ => congrArg₂ (· * ·) ?_ rfl)
  rw [oRef_at]
  refine Finset.sum_congr rfl fun j _ => ?_
  have hs : ∀ b t h j, sRef (qRef x g wq) k (ix4 b h t j) = scores (query (rowOf x b t) (gainOf g) (matOf wq)) (memOf k b) h j := by
    intro b t h j
    rw [sRef_at]
    unfold scores
    simp only [qRef_at, memOf_col]
  rw [mul_comm, pRef_at]
  simp only [eRef_at, hs]
  rfl

/-- The reference's run: its result is the array of rows after the layer, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v45) = crossArr (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2⟩) (run m ρ)
  refine Eq.trans ?_ (stages _ _ _ _ _ _)
  unfold res_main_v45 yRef oRef pRef eRef sRef qRef
  rfl

end Cert.CrossRefIdeal.RefValue
-- ==== Proof.MemKernel.lean ====
/- What the memory projection's kernel leaves in its two result arrays. The first holds the projected memory in the cache's
   order: row `8 r + 4 j + h` of layer `l` is lane block `j` of head `h` of memory row `r`. The second holds the same rows as
   they are. -/
module

public import proofs.«01_k».proof.Proof.RowMath
public import proofs.«01_k».proof.Proof.Gen.MemKvIdeal.Value
public import Idealize.ShloMosaic.Lib.Pipeline.ValueKit
public import Idealize.ShloMosaic.Lib.Pipeline.ReadBack

@[expose] public section

set_option maxRecDepth 16384

noncomputable section

namespace Cert.MemKvIdeal.Block

open Cert.MemKvIdeal Cert.MemKvIdeal.Gen Idealize.ShloMosaic Idealize.ShloMosaic.TcCoe Idealize.SL.Sem

/-- Column `e` of memory row `r` times layer `l`'s matrix. -/
def kv (x : Vec Ideal S8x256x1024 .f32) (w : Vec Ideal S4x1024x1024 .f32) (l : Fin 4) (r : ℕ) (hr : r < 2048) (e : Fin 1024) : EReal :=
  ∑ k : Fin 1024, x (ix3 ⟨r / 256, by omega⟩ ⟨r % 256, by omega⟩ k) * w (ix3 l k e)

/-- `kv` at equal rows and columns. -/
theorem kv_congr (x : Vec Ideal S8x256x1024 .f32) (w : Vec Ideal S4x1024x1024 .f32) (l : Fin 4) {r r' : ℕ} (hr : r < 2048)
    (hr' : r' < 2048) {e e' : Fin 1024} (h : r = r') (he : e.val = e'.val) : kv x w l r hr e = kv x w l r' hr' e' := by
  obtain rfl := h
  obtain rfl := Fin.ext he
  rfl

/-- The column that lane `q` of cache row `s` holds, of the eight cache rows of one memory row. -/
abbrev col (s : ℕ) (q : Fin 128) : Fin 1024 := ⟨s % 4 * 256 + s / 4 % 2 * 128 + q.val, by omega⟩

/-- The projected memory in the cache's order. -/
def cacheArr (x : Vec Ideal S8x256x1024 .f32) (w : Vec Ideal S4x1024x1024 .f32) : Vec Ideal S4x16384x128 .f32 := fun i =>
  kv x w ⟨(i 0).val, (i 0).isLt⟩ ((i 1).val / 8) (by have : (i 1).val < 16384 := (i 1).isLt; omega)
    (col ((i 1).val % 8) ⟨(i 2).val, (i 2).isLt⟩)

/-- The projected memory, row by row. -/
def rowsArr (x : Vec Ideal S8x256x1024 .f32) (w : Vec Ideal S4x1024x1024 .f32) : Vec Ideal S4x2048x1024 .bf16 := fun i =>
  kv x w ⟨(i 0).val, (i 0).isLt⟩ (i 1).val (i 1).isLt ⟨(i 2).val, (i 2).isLt⟩

variable (m : (ℓ : Loc nD τ sig) → Buf (Elt Ideal) ℓ)

/-- The two argument arrays. -/
abbrev X (c : Dev nD) : Vec Ideal S8x256x1024 .f32 := m ((c.tc : Thread nD τ).loc main_arg0)
abbrev W (c : Dev nD) : Vec Ideal S4x1024x1024 .f32 := m ((c.tc : Thread nD τ).loc main_arg1)

/-- The grid has 16 points: four row tiles for each of four layers. -/
theorem lt16 (t : Fin cfg0.N) : t.val < 16 := lt_of_lt_of_eq t.isLt N_0

/-- The index maps. -/
theorem idx : ∀ t : Fin cfg0.N, win0_0.index t = ![t.val % 4, 0] ∧ win0_1.index t = ![t.val / 4, 0, 0]
    ∧ win0_2.index t = ![t.val / 4, t.val % 4, 0] ∧ win0_3.index t = ![t.val / 4, t.val % 4, 0] := by decide +kernel

/-- The layer and the memory row of row `r` at point `t`. -/
abbrev lay (t : Fin cfg0.N) : Fin 4 := ⟨t.val / 4, by have := lt16 t; omega⟩
abbrev mrow (t : Fin cfg0.N) (r : ℕ) : ℕ := t.val % 4 * 512 + r

/-- The memory has 2048 rows. -/
theorem mrow_lt (t : Fin cfg0.N) {r : ℕ} (h : r < 512) : mrow t r < 2048 := by
  unfold mrow
  omega

/-- The memory's tile at point `t`. -/
theorem blk0 (c : Dev nD) (t : Fin cfg0.N) (r : Fin 512) (k : Fin 1024) :
    iblk m c 0 t (ix2 r k) = X m c (ix3 ⟨mrow t r / 256, by have := mrow_lt t r.isLt; omega⟩ ⟨mrow t r % 256, by omega⟩ k) := by
  have := lt16 t
  blk_simp [iblk, idx t]
  entry_read
  pointwise
  blk_ext [idx t]

/-- The layer's matrix. -/
theorem blk1 (c : Dev nD) (t : Fin cfg0.N) (k : Fin 1024) (j : Fin 1024) : iblk m c 1 t (ix3 0 k j) = W m c (ix3 (lay t) k j) := by
  have := lt16 t
  blk_simp [iblk, idx t]
  entry_read
  pointwise
  blk_ext [idx t]

/-- The tile's product at row `r` and column `e`. -/
theorem prod (c : Dev nD) (t : Fin cfg0.N) (r : Fin 512) (e : Fin 1024) :
    k0_pay5 (iblk m c 0 t) (iblk m c 1 t) (ix2 r e) = kv (X m c) (W m c) (lay t) (mrow t r) (mrow_lt t r.isLt) e := by
  pointwise [k0_pay5]
  simp only [blk0, blk1, kv]

/-- Each lane block the kernel stores is 128 columns of the product. -/
theorem lanes7 (c : Dev nD) (t : Fin cfg0.N) (r : Fin 512) (q : Fin 128) :
    k0_pay7 (iblk m c 0 t) (iblk m c 1 t) (ix2 r q) = kv (X m c) (W m c) (lay t) (mrow t r) (mrow_lt t r.isLt) (col 0 q) := by
  rw [← prod]
  pointwise [k0_pay7, k0_pay5]
  exact Finset.sum_congr rfl fun k _ => congrArg _ (congrArg _ (congrArg _ (Fin.ext (by simp only [col]; omega))))

theorem lanes8 (c : Dev nD) (t : Fin cfg0.N) (r : Fin 512) (q : Fin 128) :
    k0_pay8 (iblk m c 0 t) (iblk m c 1 t) (ix2 r q) = kv (X m c) (W m c) (lay t) (mrow t r) (mrow_lt t r.isLt) (col 4 q) := by
  rw [← prod]
  pointwise [k0_pay8, k0_pay5]

theorem lanes9 (c : Dev nD) (t : Fin cfg0.N) (r : Fin 512) (q : Fin 128) :
    k0_pay9 (iblk m c 0 t) (iblk m c 1 t) (ix2 r q) = kv (X m c) (W m c) (lay t) (mrow t r) (mrow_lt t r.isLt) (col 1 q) := by
  rw [← prod]
  pointwise [k0_pay9, k0_pay5]

theorem lanes10 (c : Dev nD) (t : Fin cfg0.N) (r : Fin 512) (q : Fin 128) :
    k0_pay10 (iblk m c 0 t) (iblk m c 1 t) (ix2 r q) = kv (X m c) (W m c) (lay t) (mrow t r) (mrow_lt t r.isLt) (col 5 q) := by
  rw [← prod]
  pointwise [k0_pay10, k0_pay5]

theorem lanes11 (c : Dev nD) (t : Fin cfg0.N) (r : Fin 512) (q : Fin 128) :
    k0_pay11 (iblk m c 0 t) (iblk m c 1 t) (ix2 r q) = kv (X m c) (W m c) (lay t) (mrow t r) (mrow_lt t r.isLt) (col 2 q) := by
  rw [← prod]
  pointwise [k0_pay11, k0_pay5]

theorem lanes12 (c : Dev nD) (t : Fin cfg0.N) (r : Fin 512) (q : Fin 128) :
    k0_pay1 (k0_pay12 (iblk m c 0 t) (iblk m c 1 t)) (ix2 r q) = kv (X m c) (W m c) (lay t) (mrow t r) (mrow_lt t r.isLt) (col 6 q) := by
  rw [← prod]
  pointwise [k0_pay12, k0_pay1, k0_pay5]

theorem lanes2 (c : Dev nD) (t : Fin cfg0.N) (r : Fin 512) (q : Fin 128) :
    k0_pay2 (k0_pay5 (iblk m c 0 t) (iblk m c 1 t)) (ix2 r q) = kv (X m c) (W m c) (lay t) (mrow t r) (mrow_lt t r.isLt) (col 3 q) := by
  rw [← prod]
  pointwise [k0_pay2, k0_pay5]

theorem lanes3 (c : Dev nD) (t : Fin cfg0.N) (r : Fin 512) (q : Fin 128) :
    k0_pay3 (k0_pay5 (iblk m c 0 t) (iblk m c 1 t)) (ix2 r q) = kv (X m c) (W m c) (lay t) (mrow t r) (mrow_lt t r.isLt) (col 7 q) := by
  rw [← prod]
  pointwise [k0_pay3, k0_pay5]

/-- What the staging rows hold when they are copied out. -/
def staged (c : Dev nD) (t : Fin cfg0.N) : Vec Ideal S4096x128 .f32 := fun i =>
  kv (X m c) (W m c) (lay t) (mrow t ((i 0).val / 8)) (mrow_lt t (by have : (i 0).val < 4096 := (i 0).isLt; omega))
    (col ((i 0).val % 8) ⟨(i 1).val, (i 1).isLt⟩)

/-- The second result array holds the rows. -/
theorem arr3_eq (c : Dev nD) : ((dats m 0 c).arrAt 3 cfg0.N : Vec Ideal S4x2048x1024 .bf16) = rowsArr (X m c) (W m c) := by
  refine (dats m 0 c).arrAt_eq_of_covers 3 _ (by decide +kernel) fun t hf y => ?_
  have := lt16 t
  rw [after0_3]
  unfold outsAt0
  dsimp only
  frame_out
  idx_vars y
  blk_simp [idx t]
  have h : k0_pay6 (iblk m c 0 t) (iblk m c 1 t) (ix3 y0 y1 y2) = rowsArr (X m c) (W m c) (ix3 (lay t) ⟨mrow t y1, mrow_lt t y1.isLt⟩ y2) := by
    refine Eq.trans ?_ (prod m c t y1 y2)
    pointwise [k0_pay6, k0_pay5]
  refine h.trans (congrArg _ ?_)
  blk_ext [idx t]

/-- A staging row whose remainder by eight is `o` lies in the rows that the store at offset `o` fills. -/
theorem mem_rows (o : ℕ) {inb} (y : S4096x128.Idx) (h : (y 0).val % 8 = o) :
    y ∈ ({ off := ![o, 0], size := ![512, 128], stride := ![8, 1], inb := inb, stride_pos := spos_8_1 } : Rect S4096x128).set := by
  have h0 : (y 0).val < 4096 := (y 0).isLt
  refine (LoadRect.mem_set _).mpr fun a => ?_
  match a with
  | ⟨0, _⟩ => exact ⟨(y 0).val / 8, by show (y 0).val / 8 < 512; omega, by show (y 0).val = o + 8 * ((y 0).val / 8); omega⟩
  | ⟨1, _⟩ => exact ⟨(y 1).val, (y 1).isLt, by show (y 1).val = 0 + 1 * (y 1).val; omega⟩

/-- The eight stores into the staging rows, the last one first. -/
def stores (c : Dev nD) (t : Fin cfg0.N) : List (View.Piece (Elt Ideal) S4096x128 .f32) :=
  [⟨⟨⟨![7, 0], ![512, 128], ![8, 1], inb_S4096x128_S512x128_7_0_s_8_1⟩, spos_8_1⟩,
      k0_pay3 (k0_pay5 (iblk m c 0 t) (iblk m c 1 t))⟩,
    ⟨⟨⟨![3, 0], ![512, 128], ![8, 1], inb_S4096x128_S512x128_3_0_s_8_1⟩, spos_8_1⟩,
      k0_pay2 (k0_pay5 (iblk m c 0 t) (iblk m c 1 t))⟩,
    ⟨⟨⟨![6, 0], ![512, 128], ![8, 1], inb_S4096x128_S512x128_6_0_s_8_1⟩, spos_8_1⟩,
      k0_pay1 (k0_pay12 (iblk m c 0 t) (iblk m c 1 t))⟩,
    ⟨⟨⟨![2, 0], ![512, 128], ![8, 1], inb_S4096x128_S512x128_2_0_s_8_1⟩, spos_8_1⟩,
      k0_pay11 (iblk m c 0 t) (iblk m c 1 t)⟩,
    ⟨⟨⟨![5, 0], ![512, 128], ![8, 1], inb_S4096x128_S512x128_5_0_s_8_1⟩, spos_8_1⟩,
      k0_pay10 (iblk m c 0 t) (iblk m c 1 t)⟩,
    ⟨⟨⟨![1, 0], ![512, 128], ![8, 1], inb_S4096x128_S512x128_1_0_s_8_1⟩, spos_8_1⟩,
      k0_pay9 (iblk m c 0 t) (iblk m c 1 t)⟩,
    ⟨⟨⟨![4, 0], ![512, 128], ![8, 1], inb_S4096x128_S512x128_4_0_s_8_1⟩, spos_8_1⟩,
      k0_pay8 (iblk m c 0 t) (iblk m c 1 t)⟩,
    ⟨⟨⟨![0, 0], ![512, 128], ![8, 1], inb_S4096x128_S512x128_0_0_s_8_1⟩, spos_8_1⟩,
      k0_pay7 (iblk m c 0 t) (iblk m c 1 t)⟩]

/-- Together the eight stores fill the staging rows with the cache's rows of the tile. -/
theorem stores_eq (c : Dev nD) (t : Fin cfg0.N) (z : S4096x128.Idx) : View.canon (stores m c t) z = staged m c t z := by
  refine View.canon_apply_of_pieces (staged m c t) _ ?_ _ ?_
  · intro p hp
    simp only [stores, List.mem_cons, List.not_mem_nil, or_false] at hp
    rcases hp with rfl | rfl | rfl | rfl | rfl | rfl | rfl | rfl <;> intro x <;> idx_vars x
    · exact (lanes3 m c t x0 x1).trans (kv_congr _ _ _ _ _ (by show mrow t x0 = mrow t ((7 + 8 * x0.val) / 8); simp only [mrow]; omega)
        (by show (col 7 x1).val = (col ((7 + 8 * x0.val) % 8) ⟨0 + 1 * x1.val, _⟩).val; simp only [col]; omega))
    · exact (lanes2 m c t x0 x1).trans (kv_congr _ _ _ _ _ (by show mrow t x0 = mrow t ((3 + 8 * x0.val) / 8); simp only [mrow]; omega)
        (by show (col 3 x1).val = (col ((3 + 8 * x0.val) % 8) ⟨0 + 1 * x1.val, _⟩).val; simp only [col]; omega))
    · exact (lanes12 m c t x0 x1).trans (kv_congr _ _ _ _ _ (by show mrow t x0 = mrow t ((6 + 8 * x0.val) / 8); simp only [mrow]; omega)
        (by show (col 6 x1).val = (col ((6 + 8 * x0.val) % 8) ⟨0 + 1 * x1.val, _⟩).val; simp only [col]; omega))
    · exact (lanes11 m c t x0 x1).trans (kv_congr _ _ _ _ _ (by show mrow t x0 = mrow t ((2 + 8 * x0.val) / 8); simp only [mrow]; omega)
        (by show (col 2 x1).val = (col ((2 + 8 * x0.val) % 8) ⟨0 + 1 * x1.val, _⟩).val; simp only [col]; omega))
    · exact (lanes10 m c t x0 x1).trans (kv_congr _ _ _ _ _ (by show mrow t x0 = mrow t ((5 + 8 * x0.val) / 8); simp only [mrow]; omega)
        (by show (col 5 x1).val = (col ((5 + 8 * x0.val) % 8) ⟨0 + 1 * x1.val, _⟩).val; simp only [col]; omega))
    · exact (lanes9 m c t x0 x1).trans (kv_congr _ _ _ _ _ (by show mrow t x0 = mrow t ((1 + 8 * x0.val) / 8); simp only [mrow]; omega)
        (by show (col 1 x1).val = (col ((1 + 8 * x0.val) % 8) ⟨0 + 1 * x1.val, _⟩).val; simp only [col]; omega))
    · exact (lanes8 m c t x0 x1).trans (kv_congr _ _ _ _ _ (by show mrow t x0 = mrow t ((4 + 8 * x0.val) / 8); simp only [mrow]; omega)
        (by show (col 4 x1).val = (col ((4 + 8 * x0.val) % 8) ⟨0 + 1 * x1.val, _⟩).val; simp only [col]; omega))
    · exact (lanes7 m c t x0 x1).trans (kv_congr _ _ _ _ _ (by show mrow t x0 = mrow t ((0 + 8 * x0.val) / 8); simp only [mrow]; omega)
        (by show (col 0 x1).val = (col ((0 + 8 * x0.val) % 8) ⟨0 + 1 * x1.val, _⟩).val; simp only [col]; omega))
  · have h8 : (z 0).val % 8 = 7 ∨ (z 0).val % 8 = 3 ∨ (z 0).val % 8 = 6 ∨ (z 0).val % 8 = 2 ∨ (z 0).val % 8 = 5
        ∨ (z 0).val % 8 = 1 ∨ (z 0).val % 8 = 4 ∨ (z 0).val % 8 = 0 := by omega
    rcases h8 with h | h | h | h | h | h | h | h
    · exact ⟨_, .head _, mem_rows 7 z h⟩
    · exact ⟨_, .tail _ (.head _), mem_rows 3 z h⟩
    · exact ⟨_, .tail _ (.tail _ (.head _)), mem_rows 6 z h⟩
    · exact ⟨_, .tail _ (.tail _ (.tail _ (.head _))), mem_rows 2 z h⟩
    · exact ⟨_, .tail _ (.tail _ (.tail _ (.tail _ (.head _)))), mem_rows 5 z h⟩
    · exact ⟨_, .tail _ (.tail _ (.tail _ (.tail _ (.tail _ (.head _))))), mem_rows 1 z h⟩
    · exact ⟨_, .tail _ (.tail _ (.tail _ (.tail _ (.tail _ (.tail _ (.head _)))))), mem_rows 4 z h⟩
    · exact ⟨_, .tail _ (.tail _ (.tail _ (.tail _ (.tail _ (.tail _ (.tail _ (.head _))))))), mem_rows 0 z h⟩

/-- The first result array holds the cache. -/
theorem arr2_eq (c : Dev nD) : ((dats m 0 c).arrAt 2 cfg0.N : Vec Ideal S4x16384x128 .f32) = cacheArr (X m c) (W m c) := by
  refine (dats m 0 c).arrAt_eq_of_covers 2 _ (by decide +kernel) fun t hf y => ?_
  have := lt16 t
  rw [after0_2]
  unfold outsAt0
  dsimp only
  frame_out
  idx_vars y
  blk_simp [idx t]
  rw [View.readCov_eq_canon']
  have hc : ∀ r : Fin 4096, ∀ q : Fin 128, k0_pay4 (staged m c t) (ix3 y0 r q) = staged m c t (ix2 r q) := by
    intro r q
    pointwise [k0_pay4]
  have hs : staged m c t (ix2 y1 y2) = cacheArr (X m c) (W m c) ((win0_2.blk t).view.emb (ix3 y0 y1 y2)) := by
    rw [show (win0_2.blk t).view.emb (ix3 y0 y1 y2) = ix3 (lay t) ⟨t.val % 4 * 4096 + y1.val, by omega⟩ y2 by blk_ext [idx t]]
    exact kv_congr _ _ _ _ _ (by simp only [ix2, ix3, mrow]; omega) (by simp only [ix2, ix3, col]; omega)
  refine Eq.trans ?_ ((hc y1 y2).trans hs)
  refine congrFun (congrArg _ (funext fun y => ?_)) _
  refine (stores_eq m c t _).trans (congrArg _ ?_)
  funext a
  apply Fin.ext
  match a with
  | ⟨0, _⟩ => show 0 + 1 * (y 0).val = (y 0).val; omega
  | ⟨1, _⟩ => show 0 + 1 * (y 1).val = (y 1).val; omega

end Cert.MemKvIdeal.Block
-- ==== Proof.MemRef.lean ====
/- The memory projection's reference returns the same two arrays as the kernel: the cache and the rows. -/
module

public import proofs.«01_k».proof.Proof.MemKernel
public import proofs.«01_k».proof.Proof.Gen.MemKvRefIdeal.Run
public import Idealize.ShloMosaic.Lib.Tactic.CleanTypes

@[expose] public section

set_option maxRecDepth 16384

noncomputable section

namespace Cert.MemKvRefIdeal.RefValue

open Cert.MemKvRefIdeal Cert.MemKvRefIdeal.Gen Cert.MemKvRefIdeal.Value Cert.MemKvIdeal.Block
  Idealize.ShloMosaic Idealize.ShloMosaic.TcCoe Idealize.SL.Sem

variable (m : (ℓ : Loc nD τ sig) → Buf (Elt Ideal) ℓ)

/-- The reference's run: its results are the cache and the rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v5)
        = cacheArr (m ((c.tc : Thread nD τ).loc main_arg0)) (m ((c.tc : Thread nD τ).loc main_arg1))
      ∧ r.2.mem ((c.tc : Thread nD τ).loc main_v7)
        = rowsArr (m ((c.tc : Thread nD τ).loc main_arg0)) (m ((c.tc : Thread nD τ).loc main_arg1))
      ∧ (r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2.1.trans ?_, (h c).2.2⟩) (run m ρ)
  · funext i
    idx_vars i
    unfold cacheArr
    clean_types
    pointwise
    unfold kv
    refine Finset.sum_congr rfl fun k _ => (mul_comm _ _).trans (congrArg₂ _ (congrArg _ ?_) (congrArg _ ?_)) <;> blk_ext [col]
  · funext i
    idx_vars i
    unfold rowsArr
    clean_types
    pointwise
    unfold kv
    refine Finset.sum_congr rfl fun k _ => (mul_comm _ _).trans (congrArg₂ _ (congrArg _ ?_) (congrArg _ ?_)) <;> blk_ext [col]

end Cert.MemKvRefIdeal.RefValue
-- ==== Proof.ProjKernel.lean ====
/- What the input projection's kernel leaves in its result array: row `8 t + b` holds the normed input row of batch `b` and
   time `t` times layer 1's projection matrix. -/
module

public import proofs.«01_k».proof.Proof.RowMath
public import proofs.«01_k».proof.Proof.Gen.ProjIdeal.Value
public import Idealize.ShloMosaic.Lib.Pipeline.ValueKit
public import Idealize.ShloMosaic.Lib.Pipeline.ReadBack

@[expose] public section

set_option maxRecDepth 16384

noncomputable section

namespace Cert.ProjIdeal.Block

open Cert.ProjIdeal Cert.ProjIdeal.Gen Cert.RowMath Idealize.ShloMosaic Idealize.ShloMosaic.TcCoe Idealize.SL.Sem

/-- The projected rows, time-major, of the input `x`, the norm's gains `g` and the projection matrices `w`. -/
def projArr (x : Vec Ideal S8x2048x1024 .f32) (g : Vec Ideal S4x1024 .f32) (w : Vec Ideal S4x1024x2304 .f32) :
    Vec Ideal S16384x2304 .f32 := fun i =>
  ∑ k : Fin 1024, normed (fun j => x (ix3 ⟨(i 0).val % 8, Nat.mod_lt _ (by decide)⟩
    ⟨(i 0).val / 8, Nat.div_lt_of_lt_mul (i 0).isLt⟩ j)) (fun j => g (ix2 1 j)) k * w (ix3 1 k ⟨(i 1).val, (i 1).isLt⟩)

variable (m : (ℓ : Loc nD τ sig) → Buf (Elt Ideal) ℓ)

/-- The three argument arrays. -/
abbrev X (c : Dev nD) : Vec Ideal S8x2048x1024 .f32 := m ((c.tc : Thread nD τ).loc main_arg0)
abbrev GAIN (c : Dev nD) : Vec Ideal S4x1024 .f32 := m ((c.tc : Thread nD τ).loc main_arg1)
abbrev W (c : Dev nD) : Vec Ideal S4x1024x2304 .f32 := m ((c.tc : Thread nD τ).loc main_arg2)

/-- The grid has 16 points. -/
theorem lt16 (t : Fin cfg0.N) : t.val < 16 := lt_of_lt_of_eq t.isLt N_0

/-- The index maps: the input's and the result's tile is the point's, the weights' blocks are layer 1's. -/
theorem idx : ∀ t : Fin cfg0.N, win0_0.index t = ![t.val, 0] ∧ win0_1.index t = ![1, 0, 0] ∧ win0_2.index t = ![1, 0, 0]
    ∧ win0_3.index t = ![t.val, 0] := by decide +kernel

/-- The input's tile at point `t`. -/
theorem blk0 (c : Dev nD) (t : Fin cfg0.N) (r : Fin 1024) (k : Fin 1024) :
    iblk m c 0 t (ix2 r k) = X m c (ix3 ⟨(1024 * t.val + r.val) % 8, by omega⟩
      ⟨(1024 * t.val + r.val) / 8, by have := lt16 t; omega⟩ k) := by
  have := lt16 t
  blk_simp [iblk, idx t]
  entry_read
  pointwise
  blk_ext [idx t]

/-- The projection matrix of layer 1. -/
theorem blk1 (c : Dev nD) (t : Fin cfg0.N) (k : Fin 1024) (j : Fin 2304) : iblk m c 1 t (ix3 0 k j) = W m c (ix3 1 k j) := by
  blk_simp [iblk, idx t]
  entry_read
  pointwise
  blk_ext [idx t]

/-- The gain of layer 1. -/
theorem blk2 (c : Dev nD) (t : Fin cfg0.N) (k : Fin 1024) : iblk m c 2 t (ix3 0 0 k) = GAIN m c (ix2 1 k) := by
  blk_simp [iblk, idx t]
  entry_read
  pointwise
  blk_ext [idx t]

/-- What point `t` computes at row `r` and column `k` of its tile. -/
theorem tile (c : Dev nD) (t : Fin cfg0.N) (r : Fin 1024) (k : Fin 2304) :
    k0_pay1 (iblk m c 0 t) (iblk m c 2 t) (iblk m c 1 t) (ix2 r k)
      = projArr (X m c) (GAIN m c) (W m c) (ix2 ⟨1024 * t.val + r.val, by have := lt16 t; omega⟩ k) := by
  pointwise [k0_pay1]
  simp only [blk0, blk1, blk2, projArr, normed, ix2]

/-- The result array holds the projected rows. -/
theorem arr_eq (c : Dev nD) : ((dats m 0 c).arrAt 3 cfg0.N : Vec Ideal S16384x2304 .f32) = projArr (X m c) (GAIN m c) (W m c) := by
  refine (dats m 0 c).arrAt_eq_of_covers 3 _ (by decide +kernel) fun t hf y => ?_
  have := lt16 t
  rw [after0_3]
  frame_out
  idx_vars y
  blk_simp [idx t]
  refine (tile m c t y0 y1).trans (congrArg _ ?_)
  blk_ext [idx t]

end Cert.ProjIdeal.Block
-- ==== Proof.ProjRef.lean ====
/- The input projection's reference returns the same array of projected rows as the kernel. -/
module

public import proofs.«01_k».proof.Proof.ProjKernel
public import proofs.«01_k».proof.Proof.Gen.ProjRefIdeal.Run
public import Idealize.ShloMosaic.Lib.Tactic.CleanTypes

@[expose] public section

set_option maxRecDepth 16384

noncomputable section

namespace Cert.ProjRefIdeal.RefValue

open Cert.ProjRefIdeal Cert.ProjRefIdeal.Gen Cert.ProjRefIdeal.Value Cert.ProjIdeal.Block Cert.RowMath
  Idealize.ShloMosaic Idealize.ShloMosaic.TcCoe Idealize.SL.Sem

variable (m : (ℓ : Loc nD τ sig) → Buf (Elt Ideal) ℓ)

/-- The reference's run: its result is the array of projected rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v19)
        = projArr (m ((c.tc : Thread nD τ).loc main_arg0)) (m ((c.tc : Thread nD τ).loc main_arg1))
      (m ((c.tc : Thread nD τ).loc main_arg2))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨(h c).1.trans ?_, (h c).2⟩) (run m ρ)
  funext i
  idx_vars i
  unfold projArr
  clean_types
  pointwise
  simp only [normed, ix2]

end Cert.ProjRefIdeal.RefValue
-- ==== Proof.NormKernel.lean ====
/- What the prompt rows' final norm leaves in its result array: for every batch and time the normed row.
   The kernel normalises 512 time-major rows, lays them out by lane block in scratch, and reads every eighth row back. -/
module

public import proofs.«01_k».proof.Proof.RowMath
public import proofs.«01_k».proof.Proof.Gen.NormIdeal.Value
public import Idealize.ShloMosaic.Lib.Pipeline.ValueKit
public import Idealize.ShloMosaic.Lib.Pipeline.ReadBack

@[expose] public section

set_option maxRecDepth 16384

noncomputable section

namespace Cert.NormIdeal.Block

open Cert.NormIdeal Cert.NormIdeal.Gen Cert.RowMath Idealize.ShloMosaic Idealize.ShloMosaic.TcCoe Idealize.SL.Sem

/-- The normed rows of the input `x` with the gain `g`. -/
def normArr (x : Vec Ideal S8x2048x1024 .f32) (g : Vec Ideal S1024 .f32) : Vec Ideal S8x2048x1024 .f32 := fun i =>
  normed (fun j => x (ix3 ⟨(i 0).val, (i 0).isLt⟩ ⟨(i 1).val, (i 1).isLt⟩ j)) (fun j => g (ix1 j)) ⟨(i 2).val, (i 2).isLt⟩

variable (m : (ℓ : Loc nD τ sig) → Buf (Elt Ideal) ℓ)

/-- The two argument arrays. -/
abbrev X (c : Dev nD) : Vec Ideal S8x2048x1024 .f32 := m ((c.tc : Thread nD τ).loc main_arg0)
abbrev GAIN (c : Dev nD) : Vec Ideal S1024 .f32 := m ((c.tc : Thread nD τ).loc main_arg1)

/-- The grid has 32 points. -/
theorem lt32 (t : Fin cfg0.N) : t.val < 32 := t.isLt

/-- The index maps. -/
theorem idx : ∀ t : Fin cfg0.N, win0_0.index t = ![t.val, 0] ∧ win0_1.index t = ![0, 0] ∧ win0_2.index t = ![0, t.val, 0] := by
  decide +kernel

/-- Row `r` of point `t`'s tile: batch `r % 8`, time `64 t + r / 8`, normed. -/
def rowAt (x : Vec Ideal S8x2048x1024 .f32) (g : Vec Ideal S1024 .f32) (t : Fin cfg0.N) (r : Fin 512) (e : Fin 1024) : EReal :=
  normed (fun j => x (ix3 ⟨r.val % 8, by omega⟩ ⟨t.val * 64 + r.val / 8, by have := lt32 t; omega⟩ j)) (fun j => g (ix1 j)) e

/-- Equal rows and columns give equal elements. -/
theorem rowAt_congr (x : Vec Ideal S8x2048x1024 .f32) (g : Vec Ideal S1024 .f32) (t : Fin cfg0.N) {r r' : Fin 512} {e e' : Fin 1024}
    (hr : r.val = r'.val) (he : e.val = e'.val) : rowAt x g t r e = rowAt x g t r' e' := by
  rw [Fin.ext hr, Fin.ext he]

/-- The time-major tile. -/
theorem blk0 (c : Dev nD) (t : Fin cfg0.N) (r : Fin 512) (k : Fin 1024) : iblk m c 0 t (ix2 r k)
    = X m c (ix3 ⟨r.val % 8, by omega⟩ ⟨t.val * 64 + r.val / 8, by have := lt32 t; omega⟩ k) := by
  have := lt32 t
  blk_simp [iblk, idx t]
  entry_read
  pointwise
  blk_ext [idx t]

/-- The gain. -/
theorem blk1 (c : Dev nD) (t : Fin cfg0.N) (k : Fin 1024) : iblk m c 1 t (ix2 0 k) = GAIN m c (ix1 k) := by
  blk_simp [iblk, idx t]
  entry_read
  pointwise
  blk_ext [idx t]

/-- The normed tile. -/
theorem rows (c : Dev nD) (t : Fin cfg0.N) (r : Fin 512) (e : Fin 1024) :
    k0_pay3 (iblk m c 0 t) (iblk m c 1 t) (ix2 r e) = rowAt (X m c) (GAIN m c) t r e := by
  pointwise [k0_pay3]
  simp only [blk0, blk1, rowAt, normed]

/-! Each lane block the kernel stages is 128 columns of the normed tile. -/

theorem lane7 (c : Dev nD) (t : Fin cfg0.N) (u : Fin 1) (r : Fin 512) (q : Fin 128) :
    k0_pay12 (k0_pay3 (iblk m c 0 t) (iblk m c 1 t)) (ix3 u r q) = rowAt (X m c) (GAIN m c) t r ⟨128 * 7 + q.val, by omega⟩ := by
  rw [← rows]
  pointwise [k0_pay12]

theorem lane6 (c : Dev nD) (t : Fin cfg0.N) (u : Fin 1) (r : Fin 512) (q : Fin 128) :
    k0_pay11 (k0_pay3 (iblk m c 0 t) (iblk m c 1 t)) (ix3 u r q) = rowAt (X m c) (GAIN m c) t r ⟨128 * 6 + q.val, by omega⟩ := by
  rw [← rows]
  pointwise [k0_pay11]

theorem lane5 (c : Dev nD) (t : Fin cfg0.N) (u : Fin 1) (r : Fin 512) (q : Fin 128) :
    k0_pay10 (k0_pay3 (iblk m c 0 t) (iblk m c 1 t)) (ix3 u r q) = rowAt (X m c) (GAIN m c) t r ⟨128 * 5 + q.val, by omega⟩ := by
  rw [← rows]
  pointwise [k0_pay10]

theorem lane4 (c : Dev nD) (t : Fin cfg0.N) (u : Fin 1) (r : Fin 512) (q : Fin 128) :
    k0_pay9 (k0_pay8 (iblk m c 0 t) (iblk m c 1 t)) (ix3 u r q) = rowAt (X m c) (GAIN m c) t r ⟨128 * 4 + q.val, by omega⟩ := by
  rw [← rows]
  pointwise [k0_pay9, k0_pay8]

theorem lane3 (c : Dev nD) (t : Fin cfg0.N) (u : Fin 1) (r : Fin 512) (q : Fin 128) :
    k0_pay7 (iblk m c 0 t) (iblk m c 1 t) (ix3 u r q) = rowAt (X m c) (GAIN m c) t r ⟨128 * 3 + q.val, by omega⟩ := by
  rw [← rows]
  pointwise [k0_pay7]

theorem lane2 (c : Dev nD) (t : Fin cfg0.N) (u : Fin 1) (r : Fin 512) (q : Fin 128) :
    k0_pay6 (iblk m c 0 t) (iblk m c 1 t) (ix3 u r q) = rowAt (X m c) (GAIN m c) t r ⟨128 * 2 + q.val, by omega⟩ := by
  rw [← rows]
  pointwise [k0_pay6]

theorem lane1 (c : Dev nD) (t : Fin cfg0.N) (u : Fin 1) (r : Fin 512) (q : Fin 128) :
    k0_pay5 (iblk m c 0 t) (iblk m c 1 t) (ix3 u r q) = rowAt (X m c) (GAIN m c) t r ⟨128 * 1 + q.val, by omega⟩ := by
  rw [← rows]
  pointwise [k0_pay5]

theorem lane0 (c : Dev nD) (t : Fin cfg0.N) (u : Fin 1) (r : Fin 512) (q : Fin 128) :
    k0_pay4 (iblk m c 0 t) (iblk m c 1 t) (ix3 u r q) = rowAt (X m c) (GAIN m c) t r ⟨128 * 0 + q.val, by omega⟩ := by
  rw [← rows]
  pointwise [k0_pay4]

/-- What the scratch holds when it is read: lane block, row, lane. -/
def staged (c : Dev nD) (t : Fin cfg0.N) : Vec Ideal S8x512x128 .f32 := fun i =>
  rowAt (X m c) (GAIN m c) t ⟨(i 1).val, (i 1).isLt⟩
    ⟨128 * (i 0).val + (i 2).val, by have h0 : (i 0).val < 8 := (i 0).isLt; have h2 : (i 2).val < 128 := (i 2).isLt; omega⟩

/-- The eight stores into the scratch, the last one first. -/
abbrev stores (c : Dev nD) (t : Fin cfg0.N) : List (View.Piece (Elt Ideal) S8x512x128 .f32) :=
  [⟨Rect.unit ![7, 0, 0] ![1, 512, 128] inb_S8x512x128_S1x512x128_7_0_0, k0_pay12 (k0_pay3 (iblk m c 0 t) (iblk m c 1 t))⟩,
    ⟨Rect.unit ![6, 0, 0] ![1, 512, 128] inb_S8x512x128_S1x512x128_6_0_0, k0_pay11 (k0_pay3 (iblk m c 0 t) (iblk m c 1 t))⟩,
    ⟨Rect.unit ![5, 0, 0] ![1, 512, 128] inb_S8x512x128_S1x512x128_5_0_0, k0_pay10 (k0_pay3 (iblk m c 0 t) (iblk m c 1 t))⟩,
    ⟨Rect.unit ![4, 0, 0] ![1, 512, 128] inb_S8x512x128_S1x512x128_4_0_0, k0_pay9 (k0_pay8 (iblk m c 0 t) (iblk m c 1 t))⟩,
    ⟨Rect.unit ![3, 0, 0] ![1, 512, 128] inb_S8x512x128_S1x512x128_3_0_0, k0_pay7 (iblk m c 0 t) (iblk m c 1 t)⟩,
    ⟨Rect.unit ![2, 0, 0] ![1, 512, 128] inb_S8x512x128_S1x512x128_2_0_0, k0_pay6 (iblk m c 0 t) (iblk m c 1 t)⟩,
    ⟨Rect.unit ![1, 0, 0] ![1, 512, 128] inb_S8x512x128_S1x512x128_1_0_0, k0_pay5 (iblk m c 0 t) (iblk m c 1 t)⟩,
    ⟨Rect.unit ![0, 0, 0] ![1, 512, 128] inb_S8x512x128_S1x512x128_0_0_0, k0_pay4 (iblk m c 0 t) (iblk m c 1 t)⟩]

/-- Together they fill the scratch with the normed tile. -/
theorem stores_eq (c : Dev nD) (t : Fin cfg0.N) (z : S8x512x128.Idx) : View.canon (stores m c t) z = staged m c t z := by
  refine View.canon_apply_of_pieces (staged m c t) _ ?_ _ (View.cover_of_tiledL (stores m c t) S1x512x128.size (by sl_kernel_rfl) z)
  · intro p hp
    simp only [stores, List.mem_cons, List.not_mem_nil, or_false] at hp
    rcases hp with rfl | rfl | rfl | rfl | rfl | rfl | rfl | rfl <;> intro x <;> idx_vars x
    · exact (lane7 m c t x0 x1 x2).trans (rowAt_congr _ _ _ (by show x1.val = 0 + 1 * x1.val; omega) (by show 128 * 7 + x2.val = 128 * (7 + 1 * x0.val) + (0 + 1 * x2.val); have := x0.isLt; omega))
    · exact (lane6 m c t x0 x1 x2).trans (rowAt_congr _ _ _ (by show x1.val = 0 + 1 * x1.val; omega) (by show 128 * 6 + x2.val = 128 * (6 + 1 * x0.val) + (0 + 1 * x2.val); have := x0.isLt; omega))
    · exact (lane5 m c t x0 x1 x2).trans (rowAt_congr _ _ _ (by show x1.val = 0 + 1 * x1.val; omega) (by show 128 * 5 + x2.val = 128 * (5 + 1 * x0.val) + (0 + 1 * x2.val); have := x0.isLt; omega))
    · exact (lane4 m c t x0 x1 x2).trans (rowAt_congr _ _ _ (by show x1.val = 0 + 1 * x1.val; omega) (by show 128 * 4 + x2.val = 128 * (4 + 1 * x0.val) + (0 + 1 * x2.val); have := x0.isLt; omega))
    · exact (lane3 m c t x0 x1 x2).trans (rowAt_congr _ _ _ (by show x1.val = 0 + 1 * x1.val; omega) (by show 128 * 3 + x2.val = 128 * (3 + 1 * x0.val) + (0 + 1 * x2.val); have := x0.isLt; omega))
    · exact (lane2 m c t x0 x1 x2).trans (rowAt_congr _ _ _ (by show x1.val = 0 + 1 * x1.val; omega) (by show 128 * 2 + x2.val = 128 * (2 + 1 * x0.val) + (0 + 1 * x2.val); have := x0.isLt; omega))
    · exact (lane1 m c t x0 x1 x2).trans (rowAt_congr _ _ _ (by show x1.val = 0 + 1 * x1.val; omega) (by show 128 * 1 + x2.val = 128 * (1 + 1 * x0.val) + (0 + 1 * x2.val); have := x0.isLt; omega))
    · exact (lane0 m c t x0 x1 x2).trans (rowAt_congr _ _ _ (by show x1.val = 0 + 1 * x1.val; omega) (by show 128 * 0 + x2.val = 128 * (0 + 1 * x0.val) + (0 + 1 * x2.val); have := x0.isLt; omega))

/-- A read of the scratch, at any rectangle. -/
theorem read_eq (c : Dev nD) (t : Fin cfg0.N) (B : LoadRect S8x512x128) :
    (View.whole cc0_scratch0).readCov (stores m c t) B = fun j => staged m c t (B.idx j) := by
  rw [View.readCov_eq_canon']
  exact funext fun j => stores_eq m c t _

/-- An element of the scratch is the element of the result that it is copied to. -/
theorem out_eq (c : Dev nD) (t : Fin cfg0.N) (z : S8x512x128.Idx) (w : S8x2048x1024.Idx) (h0 : (z 1).val % 8 = (w 0).val)
    (h1 : t.val * 64 + (z 1).val / 8 = (w 1).val) (h2 : 128 * (z 0).val + (z 2).val = (w 2).val) :
    staged m c t z = normArr (X m c) (GAIN m c) w := by
  have e : w = ix3 ⟨(z 1).val % 8, by omega⟩ ⟨t.val * 64 + (z 1).val / 8, by rw [h1]; exact (w 1).isLt⟩
      ⟨128 * (z 0).val + (z 2).val, by rw [h2]; exact (w 2).isLt⟩ := by
    funext a
    match a with
    | ⟨0, _⟩ => exact Fin.ext h0.symm
    | ⟨1, _⟩ => exact Fin.ext h1.symm
    | ⟨2, _⟩ => exact Fin.ext h2.symm
  rw [e]
  rfl

set_option maxHeartbeats 4000000 in
/-- The result array holds the normed rows. -/
theorem arr_eq (c : Dev nD) : ((dats m 0 c).arrAt 2 cfg0.N : Vec Ideal S8x2048x1024 .f32) = normArr (X m c) (GAIN m c) := by
  refine (dats m 0 c).arrAt_eq_of_covers 2 _ (by decide +kernel) fun t hf y => ?_
  have := lt32 t
  rw [after0_2]
  unfold outsAt0
  dsimp only
  frame_out
  blk_simp
  refine (View.canon_apply_of_pieces (fun z : S8x64x1024.Idx => normArr (X m c) (GAIN m c) ((win0_2.blk t).view.emb z)) _ ?_ _
    (View.cover_of_tiledL (s := S8x64x1024) _ ![1, 64, 128] (by sl_kernel_rfl) _)).trans ?_
  swap
  · rfl
  simp only [List.forall_mem_cons]
  repeat' apply And.intro
  all_goals first
    | exact fun p hp => absurd hp List.not_mem_nil
    | (intro x
       idx_vars x
       rw [read_eq m c t]
       pointwise [k0_pay1, k0_pay2, k0_pay13, k0_pay14, k0_pay15, k0_pay16, k0_pay17, k0_pay18, k0_pay19, k0_pay20, k0_pay21,
        k0_pay22, k0_pay23, k0_pay24, k0_pay25, k0_pay26, k0_pay27, k0_pay28, k0_pay29, k0_pay30, k0_pay31, k0_pay32,
        k0_pay33, k0_pay34, k0_pay35, k0_pay36, k0_pay37, k0_pay38, k0_pay39, k0_pay40, k0_pay41, k0_pay42, k0_pay43,
        k0_pay44, k0_pay45, k0_pay46, k0_pay47, k0_pay48, k0_pay49, k0_pay50, k0_pay51, k0_pay52, k0_pay53, k0_pay54,
        k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76,
        k0_pay77, k0_pay78, k0_pay79, k0_pay80, k0_pay81, k0_pay82, k0_pay83, k0_pay84, k0_pay85, k0_pay86, k0_pay87]
       refine out_eq m c t _ _ ?_ ?_ ?_ <;> blk_simp [idx t] <;> first | omega | (dsimp only; omega) | rfl | exact Nat.zero_add _)

end Cert.NormIdeal.Block
-- ==== Proof.NormRef.lean ====
/- The prompt norm's reference returns the same array of normed rows as the kernel. -/
module

public import proofs.«01_k».proof.Proof.NormKernel
public import proofs.«01_k».proof.Proof.Gen.NormRefIdeal.Run
public import Idealize.ShloMosaic.Lib.Tactic.CleanTypes

@[expose] public section

set_option maxRecDepth 16384

noncomputable section

namespace Cert.NormRefIdeal.RefValue

open Cert.NormRefIdeal Cert.NormRefIdeal.Gen Cert.NormRefIdeal.Value Cert.NormIdeal.Block Cert.RowMath
  Idealize.ShloMosaic Idealize.ShloMosaic.TcCoe Idealize.SL.Sem

variable (m : (ℓ : Loc nD τ sig) → Buf (Elt Ideal) ℓ)

/-- The reference's run: its result is the array of normed rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v12)
        = normArr (m ((c.tc : Thread nD τ).loc main_arg0)) (m ((c.tc : Thread nD τ).loc main_arg1))
      ∧ (r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (run m ρ)
  funext i
  idx_vars i
  unfold normArr
  clean_types
  pointwise
  simp only [normed, ix2]

end Cert.NormRefIdeal.RefValue
-- ==== Proof.RowNormKernel.lean ====
/- What the sample rows' final norm leaves in its result array: row `128 t + b` is the normed row of batch `b` and time `t`. -/
module

public import proofs.«01_k».proof.Proof.RowMath
public import proofs.«01_k».proof.Proof.Gen.RowNormIdeal.Value
public import Idealize.ShloMosaic.Lib.Pipeline.ValueKit
public import Idealize.ShloMosaic.Lib.Pipeline.ReadBack

@[expose] public section

set_option maxRecDepth 16384

noncomputable section

namespace Cert.RowNormIdeal.Block

open Cert.RowNormIdeal Cert.RowNormIdeal.Gen Cert.RowMath Idealize.ShloMosaic Idealize.ShloMosaic.TcCoe Idealize.SL.Sem

/-- The normed rows, time-major, of the input `x` with the gain `g`. -/
def normArr (x : Vec Ideal S128x4x1024 .f32) (g : Vec Ideal S1024 .f32) : Vec Ideal S512x1024 .f32 := fun i =>
  normed (fun j => x (ix3 ⟨(i 0).val % 128, Nat.mod_lt _ (by decide)⟩
    ⟨(i 0).val / 128, Nat.div_lt_of_lt_mul (i 0).isLt⟩ j)) (fun j => g (ix1 j)) ⟨(i 1).val, (i 1).isLt⟩

variable (m : (ℓ : Loc nD τ sig) → Buf (Elt Ideal) ℓ)

/-- The two argument arrays. -/
abbrev X (c : Dev nD) : Vec Ideal S128x4x1024 .f32 := m ((c.tc : Thread nD τ).loc main_arg0)
abbrev GAIN (c : Dev nD) : Vec Ideal S1024 .f32 := m ((c.tc : Thread nD τ).loc main_arg1)

/-- The index maps of the grid's one point. -/
theorem idx : ∀ t : Fin cfg0.N, win0_0.index t = ![0, 0] ∧ win0_1.index t = ![0, 0] ∧ win0_2.index t = ![0, 0] := by
  decide +kernel

/-- The input rows. -/
theorem blk0 (c : Dev nD) (t : Fin cfg0.N) (r : Fin 512) (k : Fin 1024) :
    iblk m c 0 t (ix2 r k) = X m c (ix3 ⟨r.val % 128, by omega⟩ ⟨r.val / 128, by omega⟩ k) := by
  blk_simp [iblk, idx t]
  entry_read
  pointwise
  blk_ext [idx t]

/-- The gain. -/
theorem blk1 (c : Dev nD) (t : Fin cfg0.N) (k : Fin 1024) : iblk m c 1 t (ix2 0 k) = GAIN m c (ix1 k) := by
  blk_simp [iblk, idx t]
  entry_read
  pointwise
  blk_ext [idx t]

/-- What the point computes at row `r` and column `k`. -/
theorem tile (c : Dev nD) (t : Fin cfg0.N) (r : Fin 512) (k : Fin 1024) :
    k0_pay1 (iblk m c 0 t) (iblk m c 1 t) (ix2 r k) = normArr (X m c) (GAIN m c) (ix2 r k) := by
  pointwise [k0_pay1]
  simp only [blk0, blk1, normArr, normed, ix2]

/-- The result array holds the normed rows. -/
theorem arr_eq (c : Dev nD) : ((dats m 0 c).arrAt 2 cfg0.N : Vec Ideal S512x1024 .f32) = normArr (X m c) (GAIN m c) := by
  refine (dats m 0 c).arrAt_eq_of_covers 2 _ (by decide +kernel) fun t hf y => ?_
  rw [after0_2]
  frame_out
  idx_vars y
  blk_simp [idx t]
  refine (tile m c t y0 y1).trans (congrArg _ ?_)
  blk_ext [idx t]

end Cert.RowNormIdeal.Block
-- ==== Proof.RowNormRef.lean ====
/- The final norm's reference returns the same array of normed rows as the kernel. -/
module

public import proofs.«01_k».proof.Proof.RowNormKernel
public import proofs.«01_k».proof.Proof.Gen.RowNormRefIdeal.Run
public import Idealize.ShloMosaic.Lib.Tactic.CleanTypes

@[expose] public section

set_option maxRecDepth 16384

noncomputable section

namespace Cert.RowNormRefIdeal.RefValue

open Cert.RowNormRefIdeal Cert.RowNormRefIdeal.Gen Cert.RowNormRefIdeal.Value Cert.RowNormIdeal.Block Cert.RowMath
  Idealize.ShloMosaic Idealize.ShloMosaic.TcCoe Idealize.SL.Sem

variable (m : (ℓ : Loc nD τ sig) → Buf (Elt Ideal) ℓ)

/-- The reference's run: its result is the array of normed rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v14)
        = normArr (m ((c.tc : Thread nD τ).loc main_arg0)) (m ((c.tc : Thread nD τ).loc main_arg1))
      ∧ (r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨(h c).1.trans ?_, (h c).2⟩) (run m ρ)
  funext i
  idx_vars i
  unfold normArr
  clean_types
  pointwise
  simp only [normed, ix2]

end Cert.RowNormRefIdeal.RefValue
-- ==== Proof.SampleFfnMath.lean ====
/- The feed-forward layer as ordinary formulas over the extended reals, read off the eight argument arrays: the normed
   input, the gate projection, the gate rows with the two buffered rows in front, the three-tap convolution along time,
   and the layer's output. Both the kernel and the reference are shown to hold these numbers. -/
module

public import proofs.«01_k».proof.Proof.Gen.SampleFfnIdeal
public import Idealize.ShloMosaic.Lib.Pointwise

@[expose] public section

noncomputable section

namespace Cert.SampleFfnMath

open Cert.SampleFfnIdeal Idealize.ShloMosaic

/-- Element `k` of the root-mean-square normed input row at batch `b` and time `t`, with layer 1's gain. -/
def hid (x : Vec Ideal S128x4x1024 .f32) (g : Vec Ideal S4x1024 .f32) (b : Fin 128) (t : Fin 4) (k : Fin 1024) : EReal :=
  x (ix3 b t k) * Ideal.rsqrt (Ideal.div (∑ j : Fin 1024, x (ix3 b t j) * x (ix3 b t j)) (Ideal.ofBits .f32 0x44800000#32)
    + Ideal.ofBits .f32 0x358637BD#32) * g (ix2 1 k)

/-- Column `c` of the normed row's product with layer 1's matrix of `w` (the gate's or the up projection's). -/
def proj (x : Vec Ideal S128x4x1024 .f32) (g : Vec Ideal S4x1024 .f32) (w : Vec Ideal S4x1024x2816 .f32)
    (b : Fin 128) (t : Fin 4) (c : Fin 2816) : EReal :=
  ∑ k : Fin 1024, hid x g b t k * w (ix3 1 k c)

/-- Position `p` of the gate rows of batch `b` with the two buffered rows in front. -/
def padded (x : Vec Ideal S128x4x1024 .f32) (buf : Vec Ideal S4x128x2x2816 .f32) (g : Vec Ideal S4x1024 .f32)
    (wg : Vec Ideal S4x1024x2816 .f32) (b : Fin 128) (p : Fin 6) (c : Fin 2816) : EReal :=
  if h : (p : ℕ) < 2 then buf (ix4 1 b ⟨p, h⟩ c) else proj x g wg b ⟨(p : ℕ) - 2, by omega⟩ c

/-- The convolution of three taps along time, with its bias, at batch `b`, time `t`, column `c`. -/
def conv (x : Vec Ideal S128x4x1024 .f32) (buf : Vec Ideal S4x128x2x2816 .f32) (g : Vec Ideal S4x1024 .f32)
    (wg : Vec Ideal S4x1024x2816 .f32) (cw : Vec Ideal S4x3x2816 .f32) (cb : Vec Ideal S4x2816 .f32)
    (b : Fin 128) (t : Fin 4) (c : Fin 2816) : EReal :=
  cb (ix2 1 c) + cw (ix3 1 0 c) * padded x buf g wg b ⟨t, by omega⟩ c
    + cw (ix3 1 1 c) * padded x buf g wg b ⟨1 + t, by omega⟩ c
    + cw (ix3 1 2 c) * padded x buf g wg b ⟨2 + t, by omega⟩ c

/-- The layer's output at batch `b`, time `t`, column `k`: the input plus the gated product carried down. -/
def out (x : Vec Ideal S128x4x1024 .f32) (buf : Vec Ideal S4x128x2x2816 .f32) (g : Vec Ideal S4x1024 .f32)
    (wg wu : Vec Ideal S4x1024x2816 .f32) (cw : Vec Ideal S4x3x2816 .f32) (cb : Vec Ideal S4x2816 .f32)
    (wd : Vec Ideal S4x2816x1024 .f32) (b : Fin 128) (t : Fin 4) (k : Fin 1024) : EReal :=
  x (ix3 b t k) + ∑ c : Fin 2816, conv x buf g wg cw cb b t c * Ideal.logistic (conv x buf g wg cw cb b t c)
    * proj x g wu b t c * wd (ix3 1 c k)

/-- Two positions after time `t` in the padded rows stands the gate row of time `t` itself. -/
theorem padded_two (x : Vec Ideal S128x4x1024 .f32) (buf : Vec Ideal S4x128x2x2816 .f32) (g : Vec Ideal S4x1024 .f32)
    (wg : Vec Ideal S4x1024x2816 .f32) (b : Fin 128) (t : ℕ) (h : 2 + t < 6) (c : Fin 2816) :
    padded x buf g wg b ⟨2 + t, h⟩ c = proj x g wg b ⟨t, by omega⟩ c := by
  unfold padded
  rw [dif_neg (by simp only; omega)]
  congr 1
  apply Fin.ext
  simp only
  omega

/-- The arrays both programs return: the layer's output and the convolution's new buffered rows, time-major. -/
def outArr (x : Vec Ideal S128x4x1024 .f32) (buf : Vec Ideal S4x128x2x2816 .f32) (g : Vec Ideal S4x1024 .f32)
    (wg wu : Vec Ideal S4x1024x2816 .f32) (cw : Vec Ideal S4x3x2816 .f32) (cb : Vec Ideal S4x2816 .f32)
    (wd : Vec Ideal S4x2816x1024 .f32) : Vec Ideal S512x1024 .f32 :=
  fun i => out x buf g wg wu cw cb wd ⟨(i 0).val % 128, Nat.mod_lt _ (by decide)⟩
    ⟨(i 0).val / 128, by have h : (i 0).val < 512 := (i 0).isLt; omega⟩ (i 1)

def bufArr (x : Vec Ideal S128x4x1024 .f32) (buf : Vec Ideal S4x128x2x2816 .f32) (g : Vec Ideal S4x1024 .f32)
    (wg : Vec Ideal S4x1024x2816 .f32) : Vec Ideal S256x2816 .f32 :=
  fun i => padded x buf g wg ⟨(i 0).val % 128, Nat.mod_lt _ (by decide)⟩
    ⟨4 + (i 0).val / 128, by have h : (i 0).val < 256 := (i 0).isLt; omega⟩ (i 1)

end Cert.SampleFfnMath
-- ==== Proof.SampleFfnRef.lean ====
/- The reference's two results in the formulas of `SampleFfnMath`: the layer's output and the last two padded gate rows, both laid
   out time-major (row `8 t + b`). -/
module

public import proofs.«01_k».proof.Proof.SampleFfnMath
public import proofs.«01_k».proof.Proof.Gen.SampleFfnRefIdeal.Run
public import Idealize.ShloMosaic.Lib.Tactic.CleanTypes

@[expose] public section

set_option maxRecDepth 16384

noncomputable section

namespace Cert.SampleFfnRefIdeal.RefValue

open Cert.SampleFfnRefIdeal Cert.SampleFfnRefIdeal.Gen Cert.SampleFfnRefIdeal.Value Cert.SampleFfnMath Idealize.ShloMosaic Idealize.ShloMosaic.TcCoe Idealize.SL.Sem

variable (m : (ℓ : Loc nD τ sig) → Buf (Elt Ideal) ℓ)

/-- The reference's first result is the layer's output. -/
theorem out_eq (c : Dev nD) : (res_main_v58 m c : Vec Ideal S512x1024 .f32)
    = outArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := by
  funext i
  idx_vars i
  unfold res_main_v58 outArr
  clean_types
  pointwise
  simp only [out, conv, padded_two]
  simp only [padded, proj, hid, Ideal.logistic, add_assoc]

/-- The reference's run: its two results are the layer's output and the new buffered rows, its arguments unchanged. -/
theorem run_arrays (ρ : Dev nD → PrngReg) :
    θ_run defs (onTc (τ := τ) (main (F := Ideal))) ⟨m, fun _ => 0, ρ⟩ fun r => ∀ c : Dev nD,
      r.2.mem ((c.tc : Thread nD τ).loc main_v58)
        = outArr (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      ∧ r.2.mem ((c.tc : Thread nD τ).loc main_v61)
        = bufArr (m ((c.tc : Thread nD τ).loc main_arg0)) (m ((c.tc : Thread nD τ).loc main_arg1))
      (m ((c.tc : Thread nD τ).loc main_arg2)) (m ((c.tc : Thread nD τ).loc main_arg3))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨(h c).1.trans (out_eq m c), (h c).2.1.trans ?_, (h c).2.2⟩) (run m ρ)
  funext i
  idx_vars i
  unfold bufArr
  clean_types
  pointwise
  simp only [padded, proj, hid]

end Cert.SampleFfnRefIdeal.RefValue
-- ==== Proof.SampleFfnBlock.lean ====
/- What the one grid point of the feed-forward kernel computes for the sample batch, in the formulas of `SampleFfnMath`.
   Row `r` of the tile is time `r / 128` of batch `r % 128`. -/
module

public import proofs.«01_k».proof.Proof.SampleFfnMath
public import proofs.«01_k».proof.Proof.Gen.SampleFfnIdeal.Value
public import Idealize.ShloMosaic.Lib.Pipeline.ValueKit
public import Idealize.ShloMosaic.Lib.Pipeline.ReadBack

@[expose] public section

set_option maxRecDepth 16384

noncomputable section

namespace Cert.SampleFfnIdeal.Block

open Cert.SampleFfnIdeal Cert.SampleFfnIdeal.Gen Cert.SampleFfnMath Idealize.ShloMosaic Idealize.ShloMosaic.TcCoe Idealize.SL.Sem

variable (m : (ℓ : Loc nD τ sig) → Buf (Elt Ideal) ℓ)

/-- The eight argument arrays as the layer's formulas take them. -/
abbrev X (c : Dev nD) : Vec Ideal S128x4x1024 .f32 := m ((c.tc : Thread nD τ).loc main_arg0)
abbrev BUF (c : Dev nD) : Vec Ideal S4x128x2x2816 .f32 := m ((c.tc : Thread nD τ).loc main_arg1)
abbrev GAIN (c : Dev nD) : Vec Ideal S4x1024 .f32 := m ((c.tc : Thread nD τ).loc main_arg2)
abbrev WG (c : Dev nD) : Vec Ideal S4x1024x2816 .f32 := m ((c.tc : Thread nD τ).loc main_arg3)
abbrev WU (c : Dev nD) : Vec Ideal S4x1024x2816 .f32 := m ((c.tc : Thread nD τ).loc main_arg4)
abbrev CW (c : Dev nD) : Vec Ideal S4x3x2816 .f32 := m ((c.tc : Thread nD τ).loc main_arg5)
abbrev CB (c : Dev nD) : Vec Ideal S4x2816 .f32 := m ((c.tc : Thread nD τ).loc main_arg6)
abbrev WD (c : Dev nD) : Vec Ideal S4x2816x1024 .f32 := m ((c.tc : Thread nD τ).loc main_arg7)

/-- The grid has one point. -/
theorem lt1 (t : Fin cfg0.N) : t.val < 1 := lt_of_lt_of_eq t.isLt N_0

/-- The index maps of the windows: every weight's block is layer 1's. -/
theorem idx : ∀ t : Fin cfg0.N, win0_0.index t = ![0, 0] ∧ win0_1.index t = ![1, 0, 0] ∧ win0_2.index t = ![1, 0, 0]
    ∧ win0_3.index t = ![1, 0, 0] ∧ win0_4.index t = ![1, 0, 0] ∧ win0_5.index t = ![1, 0, 0]
    ∧ win0_6.index t = ![1, 0, 0] ∧ win0_7.index t = ![1, 0, 0]
    ∧ win0_8.index t = ![0, 0] ∧ win0_9.index t = ![0, 0] := by decide +kernel

/-- Batch and time of the time-major row `R`. -/
abbrev bat (R : ℕ) : Fin 128 := ⟨R % 128, Nat.mod_lt _ (by decide)⟩
abbrev tim (R : ℕ) (h : R < 512) : Fin 4 := ⟨R / 128, by omega⟩
abbrev pos (R : ℕ) (h : R < 768) : Fin 6 := ⟨R / 128, by omega⟩

/-- The input's tile at point `t`. -/
theorem blk0 (c : Dev nD) (t : Fin cfg0.N) (r : Fin 512) (k : Fin 1024) :
    iblk m c 0 t (ix2 r k) = X m c (ix3 (bat (r.val)) (tim (r.val) (by omega)) k) := by
  blk_simp [iblk, idx t]
  entry_read
  pointwise
  blk_ext [idx t]

/-- The buffered rows, time-major. -/
theorem blk1 (c : Dev nD) (t : Fin cfg0.N) (r : Fin 256) (k : Fin 2816) :
    iblk m c 1 t (ix3 0 r k) = BUF m c (ix4 1 (bat r.val) ⟨r.val / 128, by omega⟩ k) := by
  blk_simp [iblk, idx t]
  entry_read
  pointwise
  blk_ext [idx t]

/-- The gain of layer 1. -/
theorem blk2 (c : Dev nD) (t : Fin cfg0.N) (k : Fin 1024) : iblk m c 2 t (ix3 0 0 k) = GAIN m c (ix2 1 k) := by
  blk_simp [iblk, idx t]
  entry_read
  pointwise
  blk_ext [idx t]

/-- The gate matrix of layer 1. -/
theorem blk3 (c : Dev nD) (t : Fin cfg0.N) (k : Fin 1024) (j : Fin 2816) : iblk m c 3 t (ix3 0 k j) = WG m c (ix3 1 k j) := by
  blk_simp [iblk, idx t]
  entry_read
  pointwise
  blk_ext [idx t]

/-- The up matrix of layer 1. -/
theorem blk4 (c : Dev nD) (t : Fin cfg0.N) (k : Fin 1024) (j : Fin 2816) : iblk m c 4 t (ix3 0 k j) = WU m c (ix3 1 k j) := by
  blk_simp [iblk, idx t]
  entry_read
  pointwise
  blk_ext [idx t]

/-- The convolution's taps of layer 1. -/
theorem blk5 (c : Dev nD) (t : Fin cfg0.N) (i : Fin 3) (j : Fin 2816) : iblk m c 5 t (ix3 0 i j) = CW m c (ix3 1 i j) := by
  blk_simp [iblk, idx t]
  rw [V_main_arg5]
  blk_ext [idx t]

/-- The convolution's bias of layer 1. -/
theorem blk6 (c : Dev nD) (t : Fin cfg0.N) (j : Fin 2816) : iblk m c 6 t (ix3 0 0 j) = CB m c (ix2 1 j) := by
  blk_simp [iblk, idx t]
  entry_read
  pointwise
  blk_ext [idx t]

/-- The down matrix of layer 1. -/
theorem blk7 (c : Dev nD) (t : Fin cfg0.N) (j : Fin 2816) (k : Fin 1024) : iblk m c 7 t (ix3 0 j k) = WD m c (ix3 1 j k) := by
  blk_simp [iblk, idx t]
  entry_read
  pointwise
  blk_ext [idx t]

/-- The rows the kernel convolves: when the buffer `s` holds the first 256 padded rows, these rows and the tile's gate rows
    are all the padded gate rows. -/
theorem pad_block (c : Dev nD) (t : Fin cfg0.N) (s : Vec Ideal S256x2816 .f32)
    (hs : ∀ (r : Fin 256) (k : Fin 2816), s (ix2 r k) = padded (X m c) (BUF m c) (GAIN m c) (WG m c) (bat (r.val))
      (pos (r.val) (by omega)) k) (r : Fin 768) (k : Fin 2816) :
    k0_pay8 (iblk m c 0 t) (iblk m c 2 t) (iblk m c 3 t) s (ix2 r k)
      = padded (X m c) (BUF m c) (GAIN m c) (WG m c) (bat (r.val))
        (pos (r.val) (by omega)) k := by
  pointwise [k0_pay8, k0_pay6, k0_pay5]
  split
  · rename_i h
    exact hs ⟨r, h⟩ k
  · rename_i h
    unfold padded
    rw [dif_neg (by simp only; omega)]
    unfold proj hid
    simp only [blk0, blk2, blk3]
    have e1 : bat ((r.val - 256)) = bat (r.val) := by
      apply Fin.ext; simp only; omega
    have e2 : ∀ h, tim ((r.val - 256)) h = ⟨(r.val) / 128 - 2, by omega⟩ := by
      intro h; apply Fin.ext; simp only; omega
    simp only [e1, e2]

/-- The buffer the point fills first: the two buffered rows of each batch are the first 256 padded rows. -/
theorem first_carry (c : Dev nD) (t : Fin cfg0.N) (r : Fin 256) (k : Fin 2816) :
    k0_pay4 (iblk m c 1 t) (ix2 r k) = padded (X m c) (BUF m c) (GAIN m c) (WG m c) (bat (r.val))
      (pos (r.val) (by omega)) k := by
  pointwise [k0_pay4]
  rw [blk1]
  unfold padded
  rw [dif_pos (by simp only; omega)]
  blk_ext []

/-- Both buffers receive rows 512 to 767 of the convolved rows. -/
theorem pay1_at (v : FVec Ideal S768x2816 .f32) (r : Fin 256) (k : Fin 2816) : k0_pay1 v (ix2 r k) = v (ix2 ⟨512 + r.val, by omega⟩ k) := by
  pointwise [k0_pay1]

theorem pay2_at (v : FVec Ideal S768x2816 .f32) (r : Fin 256) (k : Fin 2816) : k0_pay2 v (ix2 r k) = v (ix2 ⟨512 + r.val, by omega⟩ k) := by
  pointwise [k0_pay2, k0_pay1]

/-- The output's tile when the buffer holds the first 256 padded rows: the layer's output rows. -/
theorem out_block (c : Dev nD) (t : Fin cfg0.N) (s : Vec Ideal S256x2816 .f32)
    (hs : ∀ (r : Fin 256) (k : Fin 2816), s (ix2 r k) = padded (X m c) (BUF m c) (GAIN m c) (WG m c) (bat (r.val))
      (pos (r.val) (by omega)) k) (r : Fin 512) (k : Fin 1024) :
    k0_pay3 (k0_pay5 (iblk m c 0 t)) (k0_pay7 (iblk m c 0 t) (iblk m c 2 t) (iblk m c 4 t))
      (k0_pay8 (iblk m c 0 t) (iblk m c 2 t) (iblk m c 3 t) s) (k0_pay9 (iblk m c 6 t))
      (k0_pay10 (View.ld (iblk m c 5 t) (Rect.unit ![0, 0, 0] ![1, 1, 2816] inb_S1x3x2816_S1x1x2816_0_0_0)))
      (View.ld (iblk m c 5 t) (Rect.unit ![0, 1, 0] ![1, 1, 2816] inb_S1x3x2816_S1x1x2816_0_1_0))
      (View.ld (iblk m c 5 t) (Rect.unit ![0, 2, 0] ![1, 1, 2816] inb_S1x3x2816_S1x1x2816_0_2_0)) (iblk m c 7 t) (ix2 r k)
      = out (X m c) (BUF m c) (GAIN m c) (WG m c) (WU m c) (CW m c) (CB m c) (WD m c) (bat (r.val))
        (tim (r.val) (by omega)) k := by
  have hp := pad_block m c t s hs
  generalize k0_pay8 (iblk m c 0 t) (iblk m c 2 t) (iblk m c 3 t) s = P at hp
  pointwise [k0_pay3, k0_pay5, k0_pay6, k0_pay7, k0_pay9, k0_pay10]
  unfold out conv proj hid
  simp only [hp, blk0, blk2, blk4, blk5, blk6, blk7]
  have b1 : bat ((128 + r.val)) = bat (r.val) := by apply Fin.ext; simp only; omega
  have b2 : bat ((256 + r.val)) = bat (r.val) := by apply Fin.ext; simp only; omega
  have p1 : ∀ h, pos ((128 + r.val)) h = ⟨1 + (r.val) / 128, by omega⟩ := by
    intro h; apply Fin.ext; simp only; omega
  have p2 : ∀ h, pos ((256 + r.val)) h = ⟨2 + (r.val) / 128, by omega⟩ := by
    intro h; apply Fin.ext; simp only; omega
  simp only [b1, b2, p1, p2]

/-- The output array is the layer's output, time-major. -/
theorem outArr_eq (c : Dev nD) : ((dats m 0 c).arrAt 8 cfg0.N : Vec Ideal S512x1024 .f32)
    = outArr (X m c) (BUF m c) (GAIN m c) (WG m c) (WU m c) (CW m c) (CB m c) (WD m c) := by
  refine (dats m 0 c).arrAt_eq_of_covers 8 _ (by decide +kernel) fun t hf y => ?_
  rw [after0_8]
  unfold outsAt0
  dsimp only
  frame_out
  idx_vars y
  blk_simp [idx t]
  refine (out_block m c t _ (first_carry m c t) y0 y1).trans
    (congrArg (outArr (X m c) (BUF m c) (GAIN m c) (WG m c) (WU m c) (CW m c) (CB m c) (WD m c)) (a₁ := ix2 y0 y1) ?_)
  blk_ext [idx t]

/-- The buffer array is the last two gate rows of each batch, time-major. -/
theorem bufArr_eq (c : Dev nD) : ((dats m 0 c).arrAt 9 cfg0.N : Vec Ideal S256x2816 .f32)
    = bufArr (X m c) (BUF m c) (GAIN m c) (WG m c) := by
  refine (dats m 0 c).arrAt_eq_of_covers 9 _ (by decide +kernel) fun t hf y => ?_
  rw [after0_9]
  unfold outsAt0
  dsimp only
  frame_out
  idx_vars y
  blk_simp [idx t]
  refine (pay1_at _ y0 y1).trans ?_
  refine (pad_block m c t _ (first_carry m c t) ⟨512 + y0.val, by omega⟩ y1).trans
    (Eq.trans ?_ (congrArg (bufArr (X m c) (BUF m c) (GAIN m c) (WG m c)) (a₁ := ix2 y0 y1) ?_))
  · unfold bufArr
    congr 1 <;> (apply Fin.ext; simp only [ix2]; omega)
  · blk_ext [idx t]

end Cert.SampleFfnIdeal.Block
-- ==== Proof.S5IdealRun.lean ====
/- The run of the idealised recurrence kernel's body at its one grid point: what each output's and each scratch buffer's stores leave. -/
module

public import proofs.«01_k».proof.Proof.Gen.S5Ideal.Frame.Runs

@[expose] public section

set_option maxRecDepth 16384

noncomputable section

namespace Cert.S5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) :
    Σ' (L18 : List (View.Piece (Elt F) S512x1024 .f32)), Σ' (L19 : List (View.Piece (Elt F) S128x2048 .f32)), Σ' (L20 : List (View.Piece (Elt F) S128x2048 .f32)), Σ' (LT0 : List (View.Piece (Elt F) S128x2048 .f32)), Σ' (LT1 : List (View.Piece (Elt F) S128x2048 .f32)), Σ' (LT2 : List (View.Piece (Elt F) S512x2048 .f32)), Σ' (LT3 : List (View.Piece (Elt F) S512x2048 .f32)), Σ' (LT4 : List (View.Piece (Elt F) S2x256x1024 .bf16)), { LT5 : List (View.Piece (Elt F) S2x256x1024 .bf16) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f LT0) ∗ (∃ f, arg23.view.loc (c : Thread nD τ) ↦[arg23.view.set]{fullShare} arg23.view.writes (Elt F) f LT1) ∗ (∃ f, arg24.view.loc (c : Thread nD τ) ↦[arg24.view.set]{fullShare} arg24.view.writes (Elt F) f LT2) ∗ (∃ f, arg25.view.loc (c : Thread nD τ) ↦[arg25.view.set]{fullShare} arg25.view.writes (Elt F) f LT3) ∗ (∃ f, arg26.view.loc (c : Thread nD τ) ↦[arg26.view.set]{fullShare} arg26.view.writes (Elt F) f LT4) ∗ (∃ f, arg27.view.loc (c : Thread nD τ) ↦[arg27.view.set]{fullShare} arg27.view.writes (Elt F) f LT5)) -∗ K ⟨⟩))
          ⊢ wp frame (wpE (defs₀ (F := F)) Variants.none c none) E (cc0_s5_mix i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_s5_mix_eq_skeleton]; unfold cc0_s5_mix_skel
    simp only [k0_part3_eq_skeleton, k0_part1_eq_skeleton, k0_part2_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5

end Cert.S5Ideal.Gen

end
-- ==== Proof.S5IdealFrame.lean ====
/- The frame of the idealised recurrence kernel: from the run of its body to the run of the program. -/
module

public import proofs.«01_k».proof.Proof.S5IdealRun
public import Idealize.ShloMosaic.Lib.Claim

@[expose] public section

set_option maxRecDepth 16384

noncomputable section

namespace Cert.S5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The run's pieces for output 18 tile its block: one store covers it. -/
theorem cover0_A_18 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1 S512x1024.size (by sl_kernel_rfl) y

/-- What the run leaves in output 18's staging buffer: its pieces read back over junk. -/
def out0_A_18 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) : Vec F S512x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).1)

/-- The run's pieces for output 19 tile its block: one store covers it. -/
theorem cover0_A_19 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1 S128x2048.size (by sl_kernel_rfl) y

/-- What the run leaves in output 19's staging buffer: its pieces read back over junk. -/
def out0_A_19 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) : Vec F S128x2048 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.1)

/-- The run's pieces for output 20 tile its block: one store covers it. -/
theorem cover0_A_20 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) (y : S128x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1 S128x2048.size (by sl_kernel_rfl) y

/-- What the run leaves in output 20's staging buffer: its pieces read back over junk. -/
def out0_A_20 (c : Dev nD) (i : grid0.Coords) (arg1 : Memref sig .tc .vmem S512x256 .f32) (harg1 : arg1.IsWhole) (arg2 : Memref sig .tc .vmem S512x256 .f32) (harg2 : arg2.IsWhole) (arg3 : Memref sig .tc .vmem S512x1024 .f32) (harg3 : arg3.IsWhole) (arg4 : Memref sig .tc .vmem S512x512 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x2x256x1024 .f32) (harg10 : arg10.IsWhole) (arg11 : Memref sig .tc .vmem S1x2x256x1024 .f32) (harg11 : arg11.IsWhole) (arg12 : Memref sig .tc .vmem S1x2x1024x256 .bf16) (harg12 : arg12.IsWhole) (arg13 : Memref sig .tc .vmem S1x2x1024x256 .bf16) (harg13 : arg13.IsWhole) (arg14 : Memref sig .tc .vmem S1x1x512 .f32) (harg14 : arg14.IsWhole) (arg15 : Memref sig .tc .vmem S1x512x512 .bf16) (harg15 : arg15.IsWhole) (arg16 : Memref sig .tc .vmem S1x1x512 .f32) (harg16 : arg16.IsWhole) (arg17 : Memref sig .tc .vmem S1x512x1024 .bf16) (harg17 : arg17.IsWhole) (arg18 : Memref sig .tc .vmem S1x512x1024 .bf16) (harg18 : arg18.IsWhole) (arg19 : Memref sig .tc .vmem S512x1024 .f32) (harg19 : arg19.IsWhole) (arg20 : Memref sig .tc .vmem S128x2048 .f32) (harg20 : arg20.IsWhole) (arg21 : Memref sig .tc .vmem S128x2048 .f32) (harg21 : arg21.IsWhole) (arg22 : Memref sig .tc .vmem S128x2048 .f32) (harg22 : arg22.IsWhole) (arg23 : Memref sig .tc .vmem S128x2048 .f32) (harg23 : arg23.IsWhole) (arg24 : Memref sig .tc .vmem S512x2048 .f32) (harg24 : arg24.IsWhole) (arg25 : Memref sig .tc .vmem S512x2048 .f32) (harg25 : arg25.IsWhole) (arg26 : Memref sig .tc .vmem S2x256x1024 .bf16) (harg26 : arg26.IsWhole) (arg27 : Memref sig .tc .vmem S2x256x1024 .bf16) (harg27 : arg27.IsWhole) (hc0 : cond0_0 i)
    (x0 : Vec F S512x256 .f32) (x1 : Vec F S512x256 .f32) (x2 : Vec F S512x1024 .f32) (x3 : Vec F S512x512 .f32) (x4 : Vec F S1x128x2048 .f32) (x5 : Vec F S1x128x2048 .f32) (x6 : Vec F S1x1x2048 .f32) (x7 : Vec F S1x1x2048 .f32) (x8 : Vec F S1x1x2048 .f32) (x9 : Vec F S1x2x256x1024 .f32) (x10 : Vec F S1x2x256x1024 .f32) (x11 : Vec F S1x2x1024x256 .bf16) (x12 : Vec F S1x2x1024x256 .bf16) (x13 : Vec F S1x1x512 .f32) (x14 : Vec F S1x512x512 .bf16) (x15 : Vec F S1x1x512 .f32) (x16 : Vec F S1x512x1024 .bf16) (x17 : Vec F S1x512x1024 .bf16) : Vec F S128x2048 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 x13 x14 x15 x16 x17).2.2.1)

/-! ## What the outputs hold after each point -/

/-- What the outputs' staging buffers hold after the body at point `t` (as a tuple, in window order): the run's contents at
    the point's memrefs and input blocks. -/
def outsAt0 (c : Dev nD) (t : Fin cfg0.N) : Vec F S512x1024 .f32 × Vec F S128x2048 .f32 × Vec F S128x2048 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2
    | ⟨_ + 21, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.castSucc = Pipeline.ΦA spec0 c from rfl, PhiA0_eq]
  unfold outsAt0
  unfold out0_A_18 out0_A_19 out0_A_20; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, ⟨%e18, H18⟩, ⟨%e19, H19⟩, ⟨%e20, H20⟩, ⟨%fT0, HS0⟩, ⟨%fT1, HS1⟩, ⟨%fT2, HS2⟩, ⟨%fT3, HS3⟩, ⟨%fT4, HS4⟩, ⟨%fT5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_S5Ideal`'s statement (Defs.lean) at any `F` — Proof.lean cites it at `Bits`:
    `theorem Cert.Proof.claim : Cert.Claim := ⟨Cert.S5Ideal.Gen.facts, fun m ρ _ => Cert.S5Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.S5Ideal.Gen

end
-- ==== Proof.S5IdealValue.lean ====
/- What the idealised recurrence kernel's run leaves in its three result arrays, and that it keeps its arguments. -/
module

public import proofs.«01_k».proof.Proof.S5IdealFrame
public import Idealize.ShloMosaic.Lib.Pipeline.Value

@[expose] public section

noncomputable section

namespace Cert.S5Ideal.Value

open Cert.S5Ideal Cert.S5Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the run's contents for that window after the body (`Gen.outsAt0`: its component 0), read through the window's block. -/
theorem flushed18 (c : Dev nD) (t : Fin cfg0.N) :
    (dats m 0 c).flushed 18 t = (cfg0.win 18).cut (grid0.coords t) ((outsAt0 m c t).1) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — the kernel's one case, `Gen.outsAt0` by definition. -/
theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed18, outsAt0]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S512x1024.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the run's contents for that window after the body (`Gen.outsAt0`: its component 1), read through the window's block. -/
theorem flushed19 (c : Dev nD) (t : Fin cfg0.N) :
    (dats m 0 c).flushed 19 t = (cfg0.win 19).cut (grid0.coords t) ((outsAt0 m c t).2.1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed19, outsAt0]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S128x2048.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 2), read through the window's block. -/
theorem flushed20 (c : Dev nD) (t : Fin cfg0.N) :
    (dats m 0 c).flushed 20 t = (cfg0.win 20).cut (grid0.coords t) ((outsAt0 m c t).2.2) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _) (hcond0_0 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  simp only [flushed20, outsAt0]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S128x2048.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v81_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v81_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v81_2) = (dats m 0 c).arrAt 20 cfg0.N :=
  (h c).1 20

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v81_0) = (dats m 0 c).arrAt 18 cfg0.N
      ∧ r.2.mem ((c : Thread nD τ).loc main_v81_1) = (dats m 0 c).arrAt 19 cfg0.N
      ∧ r.2.mem ((c : Thread nD τ).loc main_v81_2) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.S5Ideal.Value

end
-- ==== Proof.S5Math.lean ====
/- The S5 recurrence with the output projection as ordinary formulas over the extended reals, read off the sixteen argument
   arrays: the discretised decay and input matrices of a group, the state after each step, the output of a group with its
   gelu, the gated unit over all groups, and the projection added to the residual. -/
module

public import proofs.«01_k».proof.Proof.Gen.S5Ideal
public import Idealize.ShloMosaic.Lib.Pointwise

@[expose] public section

noncomputable section

namespace Cert.S5Math

open Cert.S5Ideal Idealize.ShloMosaic

/-- The sixteen argument arrays. -/
structure Args where
  proj : Vec Ideal S128x4x2304 .f32
  x : Vec Ideal S128x4x1024 .f32
  orw : Vec Ideal S128x4x512 .f32
  h0r : Vec Ideal S4x128x32x64 .f32
  h0i : Vec Ideal S4x128x32x64 .f32
  ar : Vec Ideal S4x32x64 .f32
  ai : Vec Ideal S4x32x64 .f32
  ldt : Vec Ideal S4x32 .f32
  br : Vec Ideal S4x32x64x16 .f32
  bi : Vec Ideal S4x32x64x16 .f32
  cr : Vec Ideal S4x32x16x64 .f32
  ci : Vec Ideal S4x32x16x64 .f32
  d : Vec Ideal S4x32x16 .f32
  wglu : Vec Ideal S4x512x512 .f32
  bglu : Vec Ideal S4x512 .f32
  wout : Vec Ideal S4x1024x1024 .f32

variable (A : Args)

/-- The number one as both programs write it. -/
abbrev one : EReal := Ideal.ofBits .f32 0x3F800000#32

/-- The decay of state `p` of group `g` over one step: real and imaginary part. -/
def abr (g : Fin 32) (p : Fin 64) : EReal :=
  Ideal.exp (A.ar (ix3 1 g p) * Ideal.exp (A.ldt (ix2 1 g))) * Ideal.cos (A.ai (ix3 1 g p) * Ideal.exp (A.ldt (ix2 1 g)))

def abi (g : Fin 32) (p : Fin 64) : EReal :=
  Ideal.exp (A.ar (ix3 1 g p) * Ideal.exp (A.ldt (ix2 1 g))) * Ideal.sin (A.ai (ix3 1 g p) * Ideal.exp (A.ldt (ix2 1 g)))

/-- The squared modulus of the continuous decay. -/
def den (g : Fin 32) (p : Fin 64) : EReal := A.ar (ix3 1 g p) * A.ar (ix3 1 g p) + A.ai (ix3 1 g p) * A.ai (ix3 1 g p)

/-- The factor that discretises the input matrix: `(decay - 1) / a`, real and imaginary part. -/
def cfr (g : Fin 32) (p : Fin 64) : EReal :=
  Ideal.div ((abr A g p - one) * A.ar (ix3 1 g p) + abi A g p * A.ai (ix3 1 g p)) (den A g p)

def cfi (g : Fin 32) (p : Fin 64) : EReal :=
  Ideal.div (abi A g p * A.ar (ix3 1 g p) - (abr A g p - one) * A.ai (ix3 1 g p)) (den A g p)

/-- The discretised input matrix of group `g`. -/
def bbr (g : Fin 32) (p : Fin 64) (h : Fin 16) : EReal :=
  cfr A g p * A.br (ix4 1 g p h) - cfi A g p * A.bi (ix4 1 g p h)

def bbi (g : Fin 32) (p : Fin 64) (h : Fin 16) : EReal :=
  cfr A g p * A.bi (ix4 1 g p h) + cfi A g p * A.br (ix4 1 g p h)

/-- The input of group `g` at batch `b` and time `t`: the last 512 columns of the input projection. -/
def inp (b : Fin 128) (t : Fin 4) (g : Fin 32) (h : Fin 16) : EReal := A.proj (ix3 b t ⟨1792 + 16 * g + h, by omega⟩)

/-- What the input adds to the state. -/
def bur (b : Fin 128) (t : Fin 4) (g : Fin 32) (p : Fin 64) : EReal := ∑ h : Fin 16, inp A b t g h * bbr A g p h

def bui (b : Fin 128) (t : Fin 4) (g : Fin 32) (p : Fin 64) : EReal := ∑ h : Fin 16, inp A b t g h * bbi A g p h

/-- The state after `n` steps, real and imaginary part. -/
def st (b : Fin 128) (g : Fin 32) (p : Fin 64) : ℕ → EReal × EReal
  | 0 => (A.h0r (ix4 1 b g p), A.h0i (ix4 1 b g p))
  | n + 1 =>
    (abr A g p * (st b g p n).1 - abi A g p * (st b g p n).2 + bur A b ⟨n % 4, Nat.mod_lt _ (by decide)⟩ g p,
      abr A g p * (st b g p n).2 + abi A g p * (st b g p n).1 + bui A b ⟨n % 4, Nat.mod_lt _ (by decide)⟩ g p)

/-- The state at time `t`, after its step. -/
def hr (b : Fin 128) (t : Fin 4) (g : Fin 32) (p : Fin 64) : EReal := (st A b g p (t.val + 1)).1

def hi (b : Fin 128) (t : Fin 4) (g : Fin 32) (p : Fin 64) : EReal := (st A b g p (t.val + 1)).2

/-- The output of group `g` before its activation. -/
def raw (b : Fin 128) (t : Fin 4) (g : Fin 32) (n : Fin 16) : EReal :=
  (∑ p : Fin 64, hr A b t g p * A.cr (ix4 1 g n p)) - (∑ p : Fin 64, hi A b t g p * A.ci (ix4 1 g n p))
    + A.d (ix3 1 g n) * inp A b t g n

/-- The gelu in its tanh form. -/
def gelu (y : EReal) : EReal :=
  y * (Ideal.ofBits .f32 0x3F000000#32 * (one + Ideal.tanh (Ideal.ofBits .f32 0x3F4C422A#32
    * (y + Ideal.ofBits .f32 0x3D372713#32 * (y * (y * y))))))

/-- Column `j` of the activated output. -/
def act (b : Fin 128) (t : Fin 4) (j : Fin 512) : EReal := gelu (raw A b t ⟨j.val / 16, by omega⟩ ⟨j.val % 16, by omega⟩)

/-- Column `j` of the gated unit. -/
def glu (b : Fin 128) (t : Fin 4) (j : Fin 512) : EReal :=
  act A b t j * Ideal.logistic ((∑ k : Fin 512, act A b t k * A.wglu (ix3 1 k j)) + A.bglu (ix2 1 j))

/-- The residual plus the projection of the two mixers' outputs. -/
def out (b : Fin 128) (t : Fin 4) (j : Fin 1024) : EReal :=
  A.x (ix3 b t j) + ((∑ k : Fin 512, A.orw (ix3 b t k) * A.wout (ix3 1 ⟨k.val, by omega⟩ j))
    + ∑ k : Fin 512, glu A b t k * A.wout (ix3 1 ⟨512 + k.val, by omega⟩ j))

/-- The arrays both programs return: the output, time-major, and the last state of each batch, group after group. -/
def outArr : Vec Ideal S512x1024 .f32 :=
  fun i => out A ⟨(i 0).val % 128, Nat.mod_lt _ (by decide)⟩
    ⟨(i 0).val / 128, by have h : (i 0).val < 512 := (i 0).isLt; omega⟩ (i 1)

def reArr : Vec Ideal S128x2048 .f32 :=
  fun i => hr A (i 0) 3 ⟨(i 1).val / 64, by have h : (i 1).val < 2048 := (i 1).isLt; omega⟩ ⟨(i 1).val % 64, Nat.mod_lt _ (by decide)⟩

def imArr : Vec Ideal S128x2048 .f32 :=
  fun i => hi A (i 0) 3 ⟨(i 1).val / 64, by have h : (i 1).val < 2048 := (i 1).isLt; omega⟩ ⟨(i 1).val % 64, Nat.mod_lt _ (by decide)⟩

/-- A sum over `a` groups of `n` terms, where only the terms of group `q` differ from zero. -/
theorem collapse {a n : ℕ} (f : Fin (a * n) → EReal) (q : Fin a) (h : ∀ k : Fin (a * n), k.val / n ≠ q.val → f k = 0) :
    ∑ k, f k = ∑ j : Fin n, f ⟨n * q.val + j.val, by
      calc n * q.val + j.val < n * q.val + n := by omega
        _ = n * (q.val + 1) := by ring
        _ ≤ n * a := Nat.mul_le_mul_left _ q.isLt
        _ = a * n := Nat.mul_comm _ _⟩ := by
  rw [← Equiv.sum_comp finProdFinEquiv f, Fintype.sum_prod_type, Finset.sum_eq_single q]
  · refine Finset.sum_congr rfl fun j _ => congrArg f (Fin.ext ?_)
    simp only [finProdFinEquiv_apply_val]
    omega
  · intro g _ hg
    refine Finset.sum_eq_zero fun j _ => h _ fun hk => hg (Fin.ext ?_)
    simp only [finProdFinEquiv_apply_val] at hk
    rw [Nat.add_mul_div_left _ _ (lt_of_le_of_lt (Nat.zero_le _) j.isLt), Nat.div_eq_of_lt j.isLt] at hk
    omega
  · intro hq
    exact absurd (Finset.mem_univ q) hq

end Cert.S5Math
-- ==== Proof.S5Block.lean ====
/- What the one grid point of the recurrence kernel reads: each window's block in the argument arrays. Row `r` of a tile is time
   `r / 128` of batch `r % 128`; lane `l` is state `l % 64` of group `l / 64`. -/
module

public import proofs.«01_k».proof.Proof.S5Math
public import proofs.«01_k».proof.Proof.S5IdealValue
public import Idealize.ShloMosaic.Lib.Pipeline.ValueKit
public import Idealize.ShloMosaic.Lib.Pipeline.ReadBack

@[expose] public section

set_option maxRecDepth 16384
set_option maxHeartbeats 4000000

noncomputable section

namespace Cert.S5Ideal.Block

open Cert.S5Ideal Cert.S5Ideal.Gen Cert.S5Math Idealize.ShloMosaic Idealize.ShloMosaic.TcCoe Idealize.SL.Sem

variable (m : (ℓ : Loc nD τ sig) → Buf (Elt Ideal) ℓ)

/-- The sixteen argument arrays of a device. -/
abbrev args (c : Dev nD) : Args where
  proj := m ((c.tc : Thread nD τ).loc main_arg0)
  x := m ((c.tc : Thread nD τ).loc main_arg1)
  orw := m ((c.tc : Thread nD τ).loc main_arg2)
  h0r := m ((c.tc : Thread nD τ).loc main_arg3)
  h0i := m ((c.tc : Thread nD τ).loc main_arg4)
  ar := m ((c.tc : Thread nD τ).loc main_arg5)
  ai := m ((c.tc : Thread nD τ).loc main_arg6)
  ldt := m ((c.tc : Thread nD τ).loc main_arg7)
  br := m ((c.tc : Thread nD τ).loc main_arg8)
  bi := m ((c.tc : Thread nD τ).loc main_arg9)
  cr := m ((c.tc : Thread nD τ).loc main_arg10)
  ci := m ((c.tc : Thread nD τ).loc main_arg11)
  d := m ((c.tc : Thread nD τ).loc main_arg12)
  wglu := m ((c.tc : Thread nD τ).loc main_arg13)
  bglu := m ((c.tc : Thread nD τ).loc main_arg14)
  wout := m ((c.tc : Thread nD τ).loc main_arg15)

/-- The index maps of the windows: every weight's block is layer 1's, the input's are the last two blocks of 256 columns. -/
theorem idx : ∀ t : Fin cfg0.N, win0_0.index t = ![0, 7] ∧ win0_1.index t = ![0, 8] ∧ win0_2.index t = ![0, 0]
    ∧ win0_3.index t = ![0, 0] ∧ win0_4.index t = ![1, 0, 0] ∧ win0_5.index t = ![1, 0, 0]
    ∧ win0_6.index t = ![1, 0, 0] ∧ win0_7.index t = ![1, 0, 0] ∧ win0_8.index t = ![1, 0, 0]
    ∧ win0_9.index t = ![1, 0, 0, 0] ∧ win0_10.index t = ![1, 0, 0, 0] ∧ win0_11.index t = ![1, 0, 0, 0]
    ∧ win0_12.index t = ![1, 0, 0, 0] ∧ win0_13.index t = ![1, 0, 0] ∧ win0_14.index t = ![1, 0, 0]
    ∧ win0_15.index t = ![1, 0, 0] ∧ win0_16.index t = ![1, 0, 0] ∧ win0_17.index t = ![1, 0, 0]
    ∧ win0_18.index t = ![0, 0] ∧ win0_19.index t = ![0, 0] ∧ win0_20.index t = ![0, 0] := by decide +kernel

/-- Batch and time of the time-major row `R`; group and state of the lane `L`. -/
abbrev bat (R : ℕ) : Fin 128 := ⟨R % 128, Nat.mod_lt _ (by decide)⟩
abbrev tim (R : ℕ) (h : R < 512) : Fin 4 := ⟨R / 128, by omega⟩
abbrev grp (L : ℕ) (h : L < 2048) : Fin 32 := ⟨L / 64, by omega⟩
abbrev sta (L : ℕ) : Fin 64 := ⟨L % 64, Nat.mod_lt _ (by decide)⟩

/-- The two halves of the input. -/
theorem blk0 (c : Dev nD) (t : Fin cfg0.N) (r : Fin 512) (k : Fin 256) :
    iblk m c 0 t (ix2 r k) = (args m c).proj (ix3 (bat r.val) (tim r.val (by omega)) ⟨1792 + k.val, by omega⟩) := by
  blk_simp [iblk, idx t]
  entry_read
  pointwise
  blk_ext [idx t]

theorem blk1 (c : Dev nD) (t : Fin cfg0.N) (r : Fin 512) (k : Fin 256) :
    iblk m c 1 t (ix2 r k) = (args m c).proj (ix3 (bat r.val) (tim r.val (by omega)) ⟨2048 + k.val, by omega⟩) := by
  blk_simp [iblk, idx t]
  entry_read
  pointwise
  blk_ext [idx t]

/-- The residual and the other mixer's output. -/
theorem blk2 (c : Dev nD) (t : Fin cfg0.N) (r : Fin 512) (k : Fin 1024) :
    iblk m c 2 t (ix2 r k) = (args m c).x (ix3 (bat r.val) (tim r.val (by omega)) k) := by
  blk_simp [iblk, idx t]
  entry_read
  pointwise
  blk_ext [idx t]

theorem blk3 (c : Dev nD) (t : Fin cfg0.N) (r : Fin 512) (k : Fin 512) :
    iblk m c 3 t (ix2 r k) = (args m c).orw (ix3 (bat r.val) (tim r.val (by omega)) k) := by
  blk_simp [iblk, idx t]
  entry_read
  pointwise
  blk_ext [idx t]

/-- The first states. -/
theorem blk4 (c : Dev nD) (t : Fin cfg0.N) (b : Fin 128) (l : Fin 2048) :
    iblk m c 4 t (ix3 0 b l) = (args m c).h0r (ix4 1 b (grp l.val l.isLt) (sta l.val)) := by
  blk_simp [iblk, idx t]
  entry_read
  pointwise
  blk_ext [idx t]

theorem blk5 (c : Dev nD) (t : Fin cfg0.N) (b : Fin 128) (l : Fin 2048) :
    iblk m c 5 t (ix3 0 b l) = (args m c).h0i (ix4 1 b (grp l.val l.isLt) (sta l.val)) := by
  blk_simp [iblk, idx t]
  entry_read
  pointwise
  blk_ext [idx t]

/-- The decays and the step sizes. -/
theorem blk6 (c : Dev nD) (t : Fin cfg0.N) (l : Fin 2048) :
    iblk m c 6 t (ix3 0 0 l) = (args m c).ar (ix3 1 (grp l.val l.isLt) (sta l.val)) := by
  blk_simp [iblk, idx t]
  entry_read
  pointwise
  blk_ext [idx t]

theorem blk7 (c : Dev nD) (t : Fin cfg0.N) (l : Fin 2048) :
    iblk m c 7 t (ix3 0 0 l) = (args m c).ai (ix3 1 (grp l.val l.isLt) (sta l.val)) := by
  blk_simp [iblk, idx t]
  entry_read
  pointwise
  blk_ext [idx t]

theorem blk8 (c : Dev nD) (t : Fin cfg0.N) (l : Fin 2048) :
    iblk m c 8 t (ix3 0 0 l) = (args m c).ldt (ix2 1 (grp l.val l.isLt)) := by
  blk_simp [iblk, idx t]
  entry_read
  pointwise
  blk_ext [idx t]

/-- The skip, the gate's matrix and bias, and the two halves of the projection. -/
theorem blk13 (c : Dev nD) (t : Fin cfg0.N) (j : Fin 512) :
    iblk m c 13 t (ix3 0 0 j) = (args m c).d (ix3 1 ⟨j.val / 16, by omega⟩ ⟨j.val % 16, by omega⟩) := by
  blk_simp [iblk, idx t]
  entry_read
  pointwise
  blk_ext [idx t]

theorem blk14 (c : Dev nD) (t : Fin cfg0.N) (k j : Fin 512) :
    iblk m c 14 t (ix3 0 k j) = (args m c).wglu (ix3 1 k j) := by
  blk_simp [iblk, idx t]
  entry_read
  pointwise
  blk_ext [idx t]

theorem blk15 (c : Dev nD) (t : Fin cfg0.N) (j : Fin 512) :
    iblk m c 15 t (ix3 0 0 j) = (args m c).bglu (ix2 1 j) := by
  blk_simp [iblk, idx t]
  entry_read
  pointwise
  blk_ext [idx t]

theorem blk16 (c : Dev nD) (t : Fin cfg0.N) (k : Fin 512) (j : Fin 1024) :
    iblk m c 16 t (ix3 0 k j) = (args m c).wout (ix3 1 ⟨k.val, by omega⟩ j) := by
  blk_simp [iblk, idx t]
  entry_read
  pointwise
  blk_ext [idx t]

theorem blk17 (c : Dev nD) (t : Fin cfg0.N) (k : Fin 512) (j : Fin 1024) :
    iblk m c 17 t (ix3 0 k j) = (args m c).wout (ix3 1 ⟨512 + k.val, by omega⟩ j) := by
  blk_simp [iblk, idx t]
  entry_read
  pointwise
  blk_ext [idx t]

/-- An entry of the identity matrix, as the host builds it from two index arrays. -/
theorem eye (a b : ℕ) (ha : a < 2 ^ 32) (hb : b < 2 ^ 32) :
    FloatOps.uitofp (F := Ideal) FTy.f32 (IntOp.cmpi CmpIPredicate.eq (IntOp.addi (BitVec.ofNat 32 a) 0#32) (BitVec.ofNat 32 b))
      = if a = b then (1 : EReal) else 0 := by
  show (((BitVec.ofBool ((BitVec.ofNat 32 a + 0#32) == BitVec.ofNat 32 b)).toNat : ℝ) : EReal) = _
  by_cases h : a = b
  · subst h
    simp
  · have hne : (BitVec.ofNat 32 a + 0#32 == BitVec.ofNat 32 b) = false := beq_eq_false_iff_ne.2 fun e => h (by
      have := congrArg BitVec.toNat e
      simp [BitVec.toNat_ofNat] at this
      omega)
    rw [hne, if_neg h]
    simp

/-- The input matrices of a half: the groups' matrices on the diagonal. -/
theorem blk9 (c : Dev nD) (t : Fin cfg0.N) (f : Fin 2) (k : Fin 256) (l : Fin 1024) :
    iblk m c 9 t (ix4 0 f k l) = (args m c).br (ix4 1 ⟨16 * f.val + k.val / 16, by omega⟩ (sta l.val) ⟨k.val % 16, by omega⟩)
      * (if k.val / 16 = l.val / 64 then 1 else 0) := by
  blk_simp [iblk, idx t]
  entry_read
  pointwise
  refine congrArg₂ (· * ·) ?_ ((eye _ _ (lt_of_le_of_lt (Nat.div_le_self _ _) (lt_trans (Fin.isLt _) (by decide)))
    (lt_of_le_of_lt (Nat.div_le_self _ _) (lt_trans (Fin.isLt _) (by decide)))).trans ?_)
  · blk_ext [idx t]
  · refine if_congr (Iff.of_eq (congrArg₂ (fun x y : ℕ => x / 16 = y / 64) ?_ ?_)) rfl rfl
    · blk_simp [idx t]
    · blk_simp [idx t]

theorem blk10 (c : Dev nD) (t : Fin cfg0.N) (f : Fin 2) (k : Fin 256) (l : Fin 1024) :
    iblk m c 10 t (ix4 0 f k l) = (args m c).bi (ix4 1 ⟨16 * f.val + k.val / 16, by omega⟩ (sta l.val) ⟨k.val % 16, by omega⟩)
      * (if k.val / 16 = l.val / 64 then 1 else 0) := by
  blk_simp [iblk, idx t]
  entry_read
  pointwise
  refine congrArg₂ (· * ·) ?_ ((eye _ _ (lt_of_le_of_lt (Nat.div_le_self _ _) (lt_trans (Fin.isLt _) (by decide)))
    (lt_of_le_of_lt (Nat.div_le_self _ _) (lt_trans (Fin.isLt _) (by decide)))).trans ?_)
  · blk_ext [idx t]
  · refine if_congr (Iff.of_eq (congrArg₂ (fun x y : ℕ => x / 16 = y / 64) ?_ ?_)) rfl rfl
    · blk_simp [idx t]
    · blk_simp [idx t]

/-- The output matrices of a half: the groups' matrices on the diagonal. -/
theorem blk11 (c : Dev nD) (t : Fin cfg0.N) (f : Fin 2) (k : Fin 1024) (l : Fin 256) :
    iblk m c 11 t (ix4 0 f k l) = (args m c).cr (ix4 1 ⟨16 * f.val + k.val / 64, by omega⟩ ⟨l.val % 16, by omega⟩ (sta k.val))
      * (if k.val / 64 = l.val / 16 then 1 else 0) := by
  blk_simp [iblk, idx t]
  entry_read
  pointwise
  refine congrArg₂ (· * ·) ?_ ((eye _ _ (lt_of_le_of_lt (Nat.div_le_self _ _) (lt_trans (Fin.isLt _) (by decide)))
    (lt_of_le_of_lt (Nat.div_le_self _ _) (lt_trans (Fin.isLt _) (by decide)))).trans ?_)
  · blk_ext [idx t]
  · refine if_congr (Iff.of_eq (congrArg₂ (fun x y : ℕ => x / 64 = y / 16) ?_ ?_)) rfl rfl
    · blk_simp [idx t]
    · blk_simp [idx t]

theorem blk12 (c : Dev nD) (t : Fin cfg0.N) (f : Fin 2) (k : Fin 1024) (l : Fin 256) :
    iblk m c 12 t (ix4 0 f k l) = (args m c).ci (ix4 1 ⟨16 * f.val + k.val / 64, by omega⟩ ⟨l.val % 16, by omega⟩ (sta k.val))
      * (if k.val / 64 = l.val / 16 then 1 else 0) := by
  blk_simp [iblk, idx t]
  entry_read
  pointwise
  refine congrArg₂ (· * ·) ?_ ((eye _ _ (lt_of_le_of_lt (Nat.div_le_self _ _) (lt_trans (Fin.isLt _) (by decide)))
    (lt_of_le_of_lt (Nat.div_le_self _ _) (lt_trans (Fin.isLt _) (by decide)))).trans ?_)
  · blk_ext [idx t]
  · refine if_congr (Iff.of_eq (congrArg₂ (fun x y : ℕ => x / 64 = y / 16) ?_ ?_)) rfl rfl
    · blk_simp [idx t]
    · blk_simp [idx t]

end Cert.S5Ideal.Block
-- ==== Proof.S5Stage.lean ====
/- The pure steps of the recurrence kernel's body, each as a formula over what it reads: the decays and the discretised input
   matrices, the products over a half, one step of the recurrence, the activated output of a half, the gated unit and the
   projection. -/
module

public import proofs.«01_k».proof.Proof.S5Math
public import proofs.«01_k».proof.Proof.Gen.S5Ideal.Skeleton

@[expose] public section

set_option maxRecDepth 16384
set_option maxHeartbeats 4000000

noncomputable section

namespace Cert.S5Ideal.Stage

open Cert.S5Ideal Cert.S5Ideal.Gen Cert.S5Math Idealize.ShloMosaic Idealize.ShloMosaic.TcCoe

/-- Batch and time of the time-major row `R`; group and state of the lane `L`. -/
abbrev bat (R : ℕ) : Fin 128 := ⟨R % 128, Nat.mod_lt _ (by decide)⟩
abbrev tim (R : ℕ) (h : R < 512) : Fin 4 := ⟨R / 128, by omega⟩
abbrev grp (L : ℕ) (h : L < 2048) : Fin 32 := ⟨L / 64, by omega⟩
abbrev sta (L : ℕ) : Fin 64 := ⟨L % 64, Nat.mod_lt _ (by decide)⟩

variable (A : Args)

/-- The rows of the decays and step sizes that the kernel loads. -/
structure Loaded (v0 v2 v4 : Vec Ideal S1x1x2048 .f32) : Prop where
  re : ∀ L : Fin 2048, v0 (ix3 0 0 L) = A.ar (ix3 1 (grp L.val L.isLt) (sta L.val))
  im : ∀ L : Fin 2048, v2 (ix3 0 0 L) = A.ai (ix3 1 (grp L.val L.isLt) (sta L.val))
  dt : ∀ L : Fin 2048, v4 (ix3 0 0 L) = A.ldt (ix2 1 (grp L.val L.isLt))

variable {A} {v0 v2 v4 : Vec Ideal S1x1x2048 .f32}

/-- The decay of a lane. -/
theorem decay_re (h : Loaded A v0 v2 v4) (L : Fin 2048) :
    k0_pay21 v0 v2 v4 (ix2 0 L) = abr A (grp L.val L.isLt) (sta L.val) := by
  unfold abr
  rw [← h.re, ← h.im, ← h.dt]
  pointwise [k0_pay21, k0_pay20, k0_pay19, k0_pay18, k0_pay17]

theorem decay_im (h : Loaded A v0 v2 v4) (L : Fin 2048) :
    k0_pay22 v0 v2 v4 (ix2 0 L) = abi A (grp L.val L.isLt) (sta L.val) := by
  unfold abi
  rw [← h.re, ← h.im, ← h.dt]
  pointwise [k0_pay22, k0_pay20, k0_pay19, k0_pay18, k0_pay17]

/-- The discretising factor of a lane. -/
theorem factor_re (h : Loaded A v0 v2 v4) (v11 v14 : FVec Ideal S1x2048 .f32)
    (h1 : ∀ L : Fin 2048, v11 (ix2 0 L) = abr A (grp L.val L.isLt) (sta L.val))
    (h2 : ∀ L : Fin 2048, v14 (ix2 0 L) = abi A (grp L.val L.isLt) (sta L.val)) (L : Fin 2048) :
    k0_pay6 (k0_pay17 v0) (k0_pay18 v2) v11 v14 (ix2 0 L) = cfr A (grp L.val L.isLt) (sta L.val) := by
  unfold cfr den
  rw [← h.re, ← h.im, ← h1, ← h2]
  pointwise [k0_pay6, k0_pay5, k0_pay4, k0_pay18, k0_pay17]

theorem factor_im (h : Loaded A v0 v2 v4) (v11 v14 : FVec Ideal S1x2048 .f32)
    (h1 : ∀ L : Fin 2048, v11 (ix2 0 L) = abr A (grp L.val L.isLt) (sta L.val))
    (h2 : ∀ L : Fin 2048, v14 (ix2 0 L) = abi A (grp L.val L.isLt) (sta L.val)) (L : Fin 2048) :
    k0_pay7 (k0_pay17 v0) (k0_pay18 v2) v11 v14 (ix2 0 L) = cfi A (grp L.val L.isLt) (sta L.val) := by
  unfold cfi den
  rw [← h.re, ← h.im, ← h1, ← h2]
  pointwise [k0_pay7, k0_pay5, k0_pay4, k0_pay18, k0_pay17]

/-- The discretised input matrices of a half, the groups on the diagonal. -/
def diagRe (A : Args) (f : Fin 2) (k : Fin 256) (l : Fin 1024) : EReal :=
  if k.val / 16 = l.val / 64 then bbr A ⟨16 * f.val + k.val / 16, by omega⟩ (sta l.val) ⟨k.val % 16, by omega⟩ else 0

def diagIm (A : Args) (f : Fin 2) (k : Fin 256) (l : Fin 1024) : EReal :=
  if k.val / 16 = l.val / 64 then bbi A ⟨16 * f.val + k.val / 16, by omega⟩ (sta l.val) ⟨k.val % 16, by omega⟩ else 0

/-- The loaded block matrices: the groups' matrices times an identity matrix's entry. -/
def Diag (b : Vec Ideal S4x32x64x16 .f32) (f : Fin 2) (v : Vec Ideal S1x1x256x1024 .f32) : Prop :=
  ∀ (k : Fin 256) (l : Fin 1024), v (ix4 0 0 k l)
    = b (ix4 1 ⟨16 * f.val + k.val / 16, by omega⟩ (sta l.val) ⟨k.val % 16, by omega⟩) * (if k.val / 16 = l.val / 64 then 1 else 0)

/-- Scaling the loaded block matrices lane by lane gives the discretised ones, off the diagonal zero. -/
theorem diag_re (f : Fin 2) (k : Fin 256) (l : Fin 1024) (x y : EReal)
    (hx : x = cfr A (grp (1024 * f.val + l.val) (by omega)) (sta (1024 * f.val + l.val)))
    (hy : y = cfi A (grp (1024 * f.val + l.val) (by omega)) (sta (1024 * f.val + l.val))) :
    x * (A.br (ix4 1 ⟨16 * f.val + k.val / 16, by omega⟩ (sta l.val) ⟨k.val % 16, by omega⟩) * (if k.val / 16 = l.val / 64 then 1 else 0))
      - y * (A.bi (ix4 1 ⟨16 * f.val + k.val / 16, by omega⟩ (sta l.val) ⟨k.val % 16, by omega⟩) * (if k.val / 16 = l.val / 64 then 1 else 0))
      = diagRe A f k l := by
  unfold diagRe bbr
  split_ifs with e
  · rw [hx, hy, show grp (1024 * f.val + l.val) (by omega) = ⟨16 * f.val + k.val / 16, by omega⟩ from Fin.ext (by simp only; omega),
      show sta (1024 * f.val + l.val) = sta l.val from Fin.ext (by simp only; omega), mul_one, mul_one]
  · simp only [mul_zero, sub_zero]

theorem diag_im (f : Fin 2) (k : Fin 256) (l : Fin 1024) (x y : EReal)
    (hx : x = cfr A (grp (1024 * f.val + l.val) (by omega)) (sta (1024 * f.val + l.val)))
    (hy : y = cfi A (grp (1024 * f.val + l.val) (by omega)) (sta (1024 * f.val + l.val))) :
    x * (A.bi (ix4 1 ⟨16 * f.val + k.val / 16, by omega⟩ (sta l.val) ⟨k.val % 16, by omega⟩) * (if k.val / 16 = l.val / 64 then 1 else 0))
      + y * (A.br (ix4 1 ⟨16 * f.val + k.val / 16, by omega⟩ (sta l.val) ⟨k.val % 16, by omega⟩) * (if k.val / 16 = l.val / 64 then 1 else 0))
      = diagIm A f k l := by
  unfold diagIm bbi
  split_ifs with e
  · rw [hx, hy, show grp (1024 * f.val + l.val) (by omega) = ⟨16 * f.val + k.val / 16, by omega⟩ from Fin.ext (by simp only; omega),
      show sta (1024 * f.val + l.val) = sta l.val from Fin.ext (by simp only; omega), mul_one, mul_one]
  · simp only [mul_zero, add_zero]

/-- The two halves' stored matrices. -/
theorem stored_re0 (v1 v3 v11 v14 : FVec Ideal S1x2048 .f32) (w z : Vec Ideal S1x1x256x1024 .f32) (hw : Diag A.br 0 w) (hz : Diag A.bi 0 z)
    (hx : ∀ L : Fin 2048, k0_pay6 v1 v3 v11 v14 (ix2 0 L) = cfr A (grp L.val L.isLt) (sta L.val))
    (hy : ∀ L : Fin 2048, k0_pay7 v1 v3 v11 v14 (ix2 0 L) = cfi A (grp L.val L.isLt) (sta L.val)) (k : Fin 256) (l : Fin 1024) :
    k0_pay11 (k0_pay10 v1 v3 v11 v14 w z) (ix3 0 k l) = diagRe A 0 k l := by
  refine Eq.trans ?_ (diag_re 0 k l _ _ (hx ⟨1024 * (0 : Fin 2).val + l.val, by simp only [Fin.val_zero]; omega⟩) (hy ⟨1024 * (0 : Fin 2).val + l.val, by simp only [Fin.val_zero]; omega⟩))
  rw [← hw, ← hz]
  unfold k0_pay10
  generalize k0_pay6 v1 v3 v11 v14 = P
  generalize k0_pay7 v1 v3 v11 v14 = Q
  pointwise [k0_pay11, k0_pay8, k0_pay9]

theorem stored_im0 (x y : FVec Ideal S1x2048 .f32) (w z : Vec Ideal S1x1x256x1024 .f32) (hw : Diag A.br 0 w) (hz : Diag A.bi 0 z)
    (hx : ∀ L : Fin 2048, x (ix2 0 L) = cfr A (grp L.val L.isLt) (sta L.val))
    (hy : ∀ L : Fin 2048, y (ix2 0 L) = cfi A (grp L.val L.isLt) (sta L.val)) (k : Fin 256) (l : Fin 1024) :
    k0_pay12 x y (k0_pay8 w) (k0_pay9 z) (ix3 0 k l) = diagIm A 0 k l := by
  refine Eq.trans ?_ (diag_im 0 k l _ _ (hx ⟨1024 * (0 : Fin 2).val + l.val, by simp only [Fin.val_zero]; omega⟩) (hy ⟨1024 * (0 : Fin 2).val + l.val, by simp only [Fin.val_zero]; omega⟩))
  rw [← hw, ← hz]
  pointwise [k0_pay12, k0_pay8, k0_pay9]

theorem stored_re1 (x y : FVec Ideal S1x2048 .f32) (w z : Vec Ideal S1x1x256x1024 .f32) (hw : Diag A.br 1 w) (hz : Diag A.bi 1 z)
    (hx : ∀ L : Fin 2048, x (ix2 0 L) = cfr A (grp L.val L.isLt) (sta L.val))
    (hy : ∀ L : Fin 2048, y (ix2 0 L) = cfi A (grp L.val L.isLt) (sta L.val)) (k : Fin 256) (l : Fin 1024) :
    k0_pay15 x y w z (ix3 0 k l) = diagRe A 1 k l := by
  refine Eq.trans ?_ (diag_re 1 k l _ _ (hx ⟨1024 * (1 : Fin 2).val + l.val, by simp only [Fin.val_one]; omega⟩) (hy ⟨1024 * (1 : Fin 2).val + l.val, by simp only [Fin.val_one]; omega⟩))
  rw [← hw, ← hz]
  pointwise [k0_pay15, k0_pay13, k0_pay14]

theorem stored_im1 (x y : FVec Ideal S1x2048 .f32) (w z : Vec Ideal S1x1x256x1024 .f32) (hw : Diag A.br 1 w) (hz : Diag A.bi 1 z)
    (hx : ∀ L : Fin 2048, x (ix2 0 L) = cfr A (grp L.val L.isLt) (sta L.val))
    (hy : ∀ L : Fin 2048, y (ix2 0 L) = cfi A (grp L.val L.isLt) (sta L.val)) (k : Fin 256) (l : Fin 1024) :
    k0_pay16 x y w z (ix3 0 k l) = diagIm A 1 k l := by
  refine Eq.trans ?_ (diag_im 1 k l _ _ (hx ⟨1024 * (1 : Fin 2).val + l.val, by simp only [Fin.val_one]; omega⟩) (hy ⟨1024 * (1 : Fin 2).val + l.val, by simp only [Fin.val_one]; omega⟩))
  rw [← hw, ← hz]
  pointwise [k0_pay16, k0_pay13, k0_pay14]

/-- A row of the input times a block matrix: only the lane's own group counts. -/
theorem dot_re (A : Args) (f : Fin 2) (b : Fin 128) (t : Fin 4) (l : Fin 1024) :
    ∑ k : Fin 256, A.proj (ix3 b t ⟨1792 + 256 * f.val + k.val, by omega⟩) * diagRe A f k l
      = bur A b t ⟨16 * f.val + l.val / 64, by omega⟩ (sta l.val) := by
  refine (collapse (a := 16) (n := 16) (fun k : Fin 256 => A.proj (ix3 b t ⟨1792 + 256 * f.val + k.val, by omega⟩) * diagRe A f k l)
    ⟨l.val / 64, by omega⟩ fun k hk => ?_).trans ?_
  · unfold diagRe
    rw [if_neg hk, mul_zero]
  · unfold bur inp
    refine Finset.sum_congr rfl fun j _ => congrArg₂ (· * ·) (congrArg A.proj (congrArg (ix3 b t) (Fin.ext ?_))) ?_
    · simp only
      omega
    · unfold diagRe
      have e : (16 * (l.val / 64) + j.val) / 16 = l.val / 64 := by omega
      have e' : (16 * (l.val / 64) + j.val) % 16 = j.val := by omega
      simp only [e, e', if_true]

theorem dot_im (A : Args) (f : Fin 2) (b : Fin 128) (t : Fin 4) (l : Fin 1024) :
    ∑ k : Fin 256, A.proj (ix3 b t ⟨1792 + 256 * f.val + k.val, by omega⟩) * diagIm A f k l
      = bui A b t ⟨16 * f.val + l.val / 64, by omega⟩ (sta l.val) := by
  refine (collapse (a := 16) (n := 16) (fun k : Fin 256 => A.proj (ix3 b t ⟨1792 + 256 * f.val + k.val, by omega⟩) * diagIm A f k l)
    ⟨l.val / 64, by omega⟩ fun k hk => ?_).trans ?_
  · unfold diagIm
    rw [if_neg hk, mul_zero]
  · unfold bui inp
    refine Finset.sum_congr rfl fun j _ => congrArg₂ (· * ·) (congrArg A.proj (congrArg (ix3 b t) (Fin.ext ?_))) ?_
    · simp only
      omega
    · unfold diagIm
      have e : (16 * (l.val / 64) + j.val) / 16 = l.val / 64 := by omega
      have e' : (16 * (l.val / 64) + j.val) % 16 = j.val := by omega
      simp only [e, e', if_true]

/-- The input of a half, and the two halves' products as the scratch arrays receive them. -/
def Input (A : Args) (f : Fin 2) (u : Vec Ideal S512x256 .f32) : Prop :=
  ∀ (r : Fin 512) (k : Fin 256), u (ix2 r k) = A.proj (ix3 (bat r.val) (tim r.val r.isLt) ⟨1792 + 256 * f.val + k.val, by omega⟩)

theorem in_re0 (u : Vec Ideal S512x256 .f32) (w : Vec Ideal S1x256x1024 .bf16) (hu : Input A 0 u) (hw : ∀ k l, w (ix3 0 k l) = diagRe A 0 k l)
    (r : Fin 512) (l : Fin 1024) : k0_pay26 u w (ix2 r l) = bur A (bat r.val) (tim r.val r.isLt) ⟨16 * (0 : Fin 2).val + l.val / 64, by simp only [Fin.val_zero]; omega⟩ (sta l.val) := by
  rw [← dot_re]
  simp only [← hw, ← hu r]
  pointwise [k0_pay26, k0_pay25, k0_pay23]

theorem in_im0 (u : Vec Ideal S512x256 .f32) (w : Vec Ideal S1x256x1024 .bf16) (hu : Input A 0 u) (hw : ∀ k l, w (ix3 0 k l) = diagIm A 0 k l)
    (r : Fin 512) (l : Fin 1024) : k0_pay28 (k0_pay27 u w) (ix2 r l) = bui A (bat r.val) (tim r.val r.isLt) ⟨16 * (0 : Fin 2).val + l.val / 64, by simp only [Fin.val_zero]; omega⟩ (sta l.val) := by
  rw [← dot_im]
  simp only [← hw, ← hu r]
  pointwise [k0_pay28, k0_pay27, k0_pay25, k0_pay23]

theorem in_re1 (u : Vec Ideal S512x256 .f32) (w : Vec Ideal S1x256x1024 .bf16) (hu : Input A 1 u) (hw : ∀ k l, w (ix3 0 k l) = diagRe A 1 k l)
    (r : Fin 512) (l : Fin 1024) : k0_pay30 (k0_pay24 u) w (ix2 r l) = bur A (bat r.val) (tim r.val r.isLt) ⟨16 * (1 : Fin 2).val + l.val / 64, by simp only [Fin.val_one]; omega⟩ (sta l.val) := by
  rw [← dot_re]
  simp only [← hw, ← hu r]
  pointwise [k0_pay30, k0_pay29, k0_pay24]

theorem in_im1 (u : Vec Ideal S512x256 .f32) (w : Vec Ideal S1x256x1024 .bf16) (hu : Input A 1 u) (hw : ∀ k l, w (ix3 0 k l) = diagIm A 1 k l)
    (r : Fin 512) (l : Fin 1024) : k0_pay31 (k0_pay24 u) w (ix2 r l) = bui A (bat r.val) (tim r.val r.isLt) ⟨16 * (1 : Fin 2).val + l.val / 64, by simp only [Fin.val_one]; omega⟩ (sta l.val) := by
  rw [← dot_im]
  simp only [← hw, ← hu r]
  pointwise [k0_pay31, k0_pay29, k0_pay24]

/-! The steps of the recurrence. -/

/-- The decays of all lanes. -/
def Decay (A : Args) (v11 v14 : FVec Ideal S1x2048 .f32) : Prop :=
  (∀ L : Fin 2048, v11 (ix2 0 L) = abr A (grp L.val L.isLt) (sta L.val)) ∧ ∀ L : Fin 2048, v14 (ix2 0 L) = abi A (grp L.val L.isLt) (sta L.val)

/-- The two arrays are the states after `n` steps. -/
def State (A : Args) (n : ℕ) (v w : Vec Ideal S128x2048 .f32) : Prop :=
  (∀ (b : Fin 128) (L : Fin 2048), v (ix2 b L) = (st A b (grp L.val L.isLt) (sta L.val) n).1)
    ∧ ∀ (b : Fin 128) (L : Fin 2048), w (ix2 b L) = (st A b (grp L.val L.isLt) (sta L.val) n).2

/-- The two arrays are what the input adds at step `n`. -/
def Drive (A : Args) (n : Fin 4) (v w : Vec Ideal S128x2048 .f32) : Prop :=
  (∀ (b : Fin 128) (L : Fin 2048), v (ix2 b L) = bur A b n (grp L.val L.isLt) (sta L.val))
    ∧ ∀ (b : Fin 128) (L : Fin 2048), w (ix2 b L) = bui A b n (grp L.val L.isLt) (sta L.val)

/-- One step, from its two formulas. -/
theorem step_of {n : Fin 4} {v11 v14 : FVec Ideal S1x2048 .f32} {a c u w v' w' : Vec Ideal S128x2048 .f32}
    (hd : Decay A v11 v14) (hs : State A n.val a c) (hu : Drive A n u w)
    (h1 : ∀ (b : Fin 128) (L : Fin 2048), v' (ix2 b L) = v11 (ix2 0 L) * a (ix2 b L) - v14 (ix2 0 L) * c (ix2 b L) + u (ix2 b L))
    (h2 : ∀ (b : Fin 128) (L : Fin 2048), w' (ix2 b L) = v11 (ix2 0 L) * c (ix2 b L) + v14 (ix2 0 L) * a (ix2 b L) + w (ix2 b L)) :
    State A (n.val + 1) v' w' := by
  have e : (⟨n.val % 4, Nat.mod_lt _ (by decide)⟩ : Fin 4) = n := Fin.ext (Nat.mod_eq_of_lt n.isLt)
  constructor
  · intro b L
    rw [h1, hd.1, hd.2, hs.1, hs.2, hu.1]
    show _ = _ + bur A b ⟨n.val % 4, Nat.mod_lt _ (by decide)⟩ _ _
    rw [e]
  · intro b L
    rw [h2, hd.1, hd.2, hs.1, hs.2, hu.2]
    show _ = _ + bui A b ⟨n.val % 4, Nat.mod_lt _ (by decide)⟩ _ _
    rw [e]

theorem first (v w : Vec Ideal S1x128x2048 .f32) (hv : ∀ (b : Fin 128) (L : Fin 2048), v (ix3 0 b L) = A.h0r (ix4 1 b (grp L.val L.isLt) (sta L.val)))
    (hw : ∀ (b : Fin 128) (L : Fin 2048), w (ix3 0 b L) = A.h0i (ix4 1 b (grp L.val L.isLt) (sta L.val))) :
    State A 0 (k0_pay2 v) (k0_pay3 w) := by
  constructor
  · intro b L
    refine Eq.trans ?_ (hv b L)
    pointwise [k0_pay2]
  · intro b L
    refine Eq.trans ?_ (hw b L)
    pointwise [k0_pay3]

theorem step1 {v11 v14 : FVec Ideal S1x2048 .f32} {a c u w : Vec Ideal S128x2048 .f32}
    (hd : Decay A v11 v14) (hs : State A 0 a c) (hu : Drive A 0 u w) :
    State A 1 (k0_pay32 v11 v14 a c u) (k0_pay33 v11 v14 a c w) := by
  refine step_of (n := 0) hd hs hu (fun b L => ?_) fun b L => ?_
  · pointwise [k0_pay32]
  · pointwise [k0_pay33]

theorem step2 {v11 v14 : FVec Ideal S1x2048 .f32} {a c u w : Vec Ideal S128x2048 .f32}
    (hd : Decay A v11 v14) (hs : State A 1 a c) (hu : Drive A 1 u w) :
    State A 2 (k0_pay36 v11 v14 a c u) (k0_pay37 v11 v14 a c w) := by
  refine step_of (n := 1) hd hs hu (fun b L => ?_) fun b L => ?_
  · pointwise [k0_pay36]
  · pointwise [k0_pay37]

theorem step3 {v11 v14 : FVec Ideal S1x2048 .f32} {a c p q u w : Vec Ideal S128x2048 .f32}
    (hd : Decay A v11 v14) (hs : State A 2 (k0_pay36 v11 v14 a c p) (k0_pay37 v11 v14 a c q)) (hu : Drive A 2 u w) :
    State A 3 (k0_pay40 v11 v14 a c p q u) (k0_pay41 v11 v14 a c p q w) := by
  refine step_of (n := 2) hd hs hu (fun b L => ?_) fun b L => ?_
  · unfold k0_pay40
    generalize k0_pay36 v11 v14 a c p = P
    generalize k0_pay37 v11 v14 a c q = Q
    pointwise
  · unfold k0_pay41
    generalize k0_pay36 v11 v14 a c p = P
    generalize k0_pay37 v11 v14 a c q = Q
    pointwise

theorem step4 {v11 v14 : FVec Ideal S1x2048 .f32} {a c u w : Vec Ideal S128x2048 .f32}
    (hd : Decay A v11 v14) (hs : State A 3 a c) (hu : Drive A 3 u w) :
    State A 4 (k0_pay44 v11 v14 a c u) (k0_pay45 v11 v14 a c w) := by
  refine step_of (n := 3) hd hs hu (fun b L => ?_) fun b L => ?_
  · pointwise [k0_pay44]
  · pointwise [k0_pay45]

/-! The output of a half. -/

/-- The loaded output matrices of a half: the groups' matrices times an identity matrix's entry. -/
def OutDiag (b : Vec Ideal S4x32x16x64 .f32) (f : Fin 2) (v : Vec Ideal S1x1x1024x256 .bf16) : Prop :=
  ∀ (k : Fin 1024) (l : Fin 256), v (ix4 0 0 k l)
    = b (ix4 1 ⟨16 * f.val + k.val / 64, by omega⟩ ⟨l.val % 16, by omega⟩ (sta k.val)) * (if k.val / 64 = l.val / 16 then 1 else 0)

/-- A row of the states times an output matrix: only the column's own group counts. -/
theorem dot_out (b : Vec Ideal S4x32x16x64 .f32) (f : Fin 2) (v : Vec Ideal S1x1x1024x256 .bf16) (hv : OutDiag b f v)
    (h : Fin 32 → Fin 64 → EReal) (w : Fin 1024 → EReal)
    (hw : ∀ p : Fin 1024, w p = h (grp (1024 * f.val + p.val) (by omega)) (sta p.val)) (l : Fin 256) :
    ∑ p : Fin 1024, w p * v (ix4 0 0 p l) = ∑ p : Fin 64, h ⟨16 * f.val + l.val / 16, by omega⟩ p
      * b (ix4 1 ⟨16 * f.val + l.val / 16, by omega⟩ ⟨l.val % 16, by omega⟩ p) := by
  unfold OutDiag at hv
  refine (collapse (a := 16) (n := 64) (fun p : Fin 1024 => w p * v (ix4 0 0 p l)) ⟨l.val / 16, by omega⟩ fun k hk => ?_).trans ?_
  · simp only [hv k l]
    rw [if_neg hk, mul_zero, mul_zero]
  · refine Finset.sum_congr rfl fun j _ => ?_
    have e : (64 * (l.val / 16) + j.val) / 64 = l.val / 16 := by omega
    have e' : (64 * (l.val / 16) + j.val) % 64 = j.val := by omega
    have e'' : (1024 * f.val + (64 * (l.val / 16) + j.val)) / 64 = 16 * f.val + l.val / 16 := by omega
    simp only [hv, hw, sta, grp, e, e', e'', if_true, mul_one]

/-- The states of a half at all rows. -/
def Half (h : Fin 128 → Fin 4 → Fin 32 → Fin 64 → EReal) (f : Fin 2) (v : Vec Ideal S512x1024 .f32) : Prop :=
  ∀ (r : Fin 512) (p : Fin 1024), v (ix2 r p) = h (bat r.val) (tim r.val r.isLt) (grp (1024 * f.val + p.val) (by omega)) (sta p.val)

/-- The skip of a half. -/
def Skip (A : Args) (f : Fin 2) (v : Vec Ideal S1x1x256 .f32) : Prop :=
  ∀ l : Fin 256, v (ix3 0 0 l) = A.d (ix3 1 ⟨16 * f.val + l.val / 16, by omega⟩ ⟨l.val % 16, by omega⟩)

/-- The sum that a column's activation is taken of. -/
theorem raw_half (f : Fin 2) (u : Vec Ideal S512x256 .f32) (a b : Vec Ideal S512x1024 .f32) (v w : Vec Ideal S1x1x1024x256 .bf16)
    (d : Vec Ideal S1x1x256 .f32) (hu : Input A f u) (ha : Half (hr A) f a) (hb : Half (hi A) f b) (hv : OutDiag A.cr f v)
    (hw : OutDiag A.ci f w) (hd : Skip A f d) (r : Fin 512) (l : Fin 256) :
    (∑ p : Fin 1024, a (ix2 r p) * v (ix4 0 0 p l)) - (∑ p : Fin 1024, b (ix2 r p) * w (ix4 0 0 p l)) + d (ix3 0 0 l) * u (ix2 r l)
      = raw A (bat r.val) (tim r.val r.isLt) ⟨(256 * f.val + l.val) / 16, by omega⟩ ⟨(256 * f.val + l.val) % 16, by omega⟩ := by
  rw [dot_out A.cr f v hv (hr A (bat r.val) (tim r.val r.isLt)) (fun p => a (ix2 r p)) (fun p => ha r p) l,
    dot_out A.ci f w hw (hi A (bat r.val) (tim r.val r.isLt)) (fun p => b (ix2 r p)) (fun p => hb r p) l, hd, hu]
  unfold raw inp
  have e : (256 * f.val + l.val) / 16 = 16 * f.val + l.val / 16 := by omega
  have e' : (256 * f.val + l.val) % 16 = l.val % 16 := by omega
  simp only [e, e']
  refine congrArg (_ + ·) (congrArg (_ * ·) (congrArg A.proj (congrArg (ix3 _ _) (Fin.ext ?_))))
  simp only
  omega

theorem act0 (u : Vec Ideal S512x256 .f32) (a b : Vec Ideal S512x1024 .f32) (v w : Vec Ideal S1x1x1024x256 .bf16)
    (d : Vec Ideal S1x1x256 .f32) (hu : Input A 0 u) (ha : Half (hr A) 0 a) (hb : Half (hi A) 0 b) (hv : OutDiag A.cr 0 v)
    (hw : OutDiag A.ci 0 w) (hd : Skip A 0 d) (r : Fin 512) (l : Fin 256) :
    k0_pay50 (k0_pay23 u) a v b w d (ix2 r l) = gelu (raw A (bat r.val) (tim r.val r.isLt) ⟨l.val / 16, by omega⟩ ⟨l.val % 16, by omega⟩) := by
  have h := raw_half 0 u a b v w d hu ha hb hv hw hd r l
  simp only [Fin.val_zero, Nat.mul_zero, Nat.zero_add] at h
  rw [← h]
  unfold gelu
  pointwise [k0_pay50, k0_pay23]

/-- The activated output of both halves. -/
theorem act_all (u : Vec Ideal S512x256 .f32) (a b : Vec Ideal S512x1024 .f32) (v w : Vec Ideal S1x1x1024x256 .bf16)
    (d : Vec Ideal S1x1x256 .f32) (y : FVec Ideal S512x256 .f32) (hu : Input A 1 u) (ha : Half (hr A) 1 a) (hb : Half (hi A) 1 b) (hv : OutDiag A.cr 1 v)
    (hw : OutDiag A.ci 1 w) (hd : Skip A 1 d)
    (hy : ∀ (r : Fin 512) (l : Fin 256), y (ix2 r l) = gelu (raw A (bat r.val) (tim r.val r.isLt) ⟨l.val / 16, by omega⟩ ⟨l.val % 16, by omega⟩))
    (r : Fin 512) (j : Fin 512) :
    k0_pay52 (k0_pay24 u) y (k0_pay51 a) v b w d (ix2 r j) = act A (bat r.val) (tim r.val r.isLt) j := by
  unfold act
  by_cases hj : j.val < 256
  · refine Eq.trans ?_ (hy r ⟨j.val, hj⟩)
    pointwise [k0_pay52, k0_pay51, k0_pay24]
    rw [dif_pos hj]
  · have h := raw_half 1 u a b v w d hu ha hb hv hw hd r ⟨j.val - 256, by omega⟩
    have e : 256 * (1 : Fin 2).val + (j.val - 256) = j.val := by simp only [Fin.val_one]; omega
    simp only [e] at h
    rw [← h]
    unfold gelu
    pointwise [k0_pay52, k0_pay51, k0_pay24]
    rw [dif_neg hj]

/-- The output's tile. -/
theorem out_tile (y z q : FVec Ideal S512x512 .f32) (x : Vec Ideal S512x1024 .f32) (o : Vec Ideal S512x512 .f32) (v w : Vec Ideal S1x512x1024 .bf16)
    (r : Fin 512) (j : Fin 1024) :
    k0_pay1 y z q x o v w (ix2 r j) = x (ix2 r j) + ((∑ k : Fin 512, o (ix2 r k) * v (ix3 0 k j))
      + ∑ k : Fin 512, y (ix2 r k) * Ideal.logistic (z (ix2 r k) + q (ix2 r k)) * w (ix3 0 k j)) := by
  rw [← add_assoc]
  pointwise [k0_pay1]

/-- The gate's product and bias. -/
theorem gate_dot (u : FVec Ideal S512x256 .f32) (y : FVec Ideal S512x256 .f32) (a : FVec Ideal S512x1024 .bf16) (b : Vec Ideal S512x1024 .f32)
    (v w : Vec Ideal S1x1x1024x256 .bf16) (d : Vec Ideal S1x1x256 .f32) (g : Vec Ideal S1x512x512 .bf16) (r : Fin 512) (j : Fin 512) :
    k0_pay53 u y a v b w d g (ix2 r j) = ∑ k : Fin 512, k0_pay52 u y a v b w d (ix2 r k) * g (ix3 0 k j) := by
  unfold k0_pay53
  generalize k0_pay52 u y a v b w d = P
  pointwise

theorem gate_bias (g : Vec Ideal S1x1x512 .f32) (r : Fin 512) (j : Fin 512) : k0_pay54 g (ix2 r j) = g (ix3 0 0 j) := by
  pointwise [k0_pay54]

end Cert.S5Ideal.Stage
-- ==== Proof.S5Scratch.lean ====
/- What the recurrence kernel reads back from its scratch arrays: a matrix of a half, the rows of one step, and the columns of
   one half after all steps. -/
module

public import proofs.«01_k».proof.Proof.Gen.S5Ideal
public import Idealize.ShloMosaic.Lib.Pointwise
public import Idealize.ShloMosaic.Lib.Ring
public import Idealize.ShloMosaic.Lib.Tactic
public import Idealize.ShloMosaic.Lib.Pipeline.ValueKit
public import Idealize.ShloMosaic.Lib.Pipeline.ReadBack

@[expose] public section

set_option maxRecDepth 16384
set_option maxHeartbeats 1000000

noncomputable section

namespace Cert.S5Ideal.Scratch

open Cert.S5Ideal Cert.S5Ideal.Gen Idealize.ShloMosaic Idealize.ShloMosaic.TcCoe Idealize.SL.Sem

variable {κ : Kind} {sp : Space}

/-- A load of the rectangle that was stored last reads what was stored. -/
theorem own {s : Shape} {e : EltTy} (v : View sig κ sp s e) (r : Rect s) (w : r.shape.Idx → Elt Ideal e) (L : List (View.Piece (Elt Ideal) s e))
    (x : r.shape.Idx) : v.readCov (⟨r, w⟩ :: L) r.toLoadRect x = w x := by
  rw [View.readCov_eq_canon']
  exact View.canon_cons_emb r w L x

/-- The two matrices of the halves, as stored. -/
abbrev mats (w0 w1 : Vec Ideal S1x256x1024 .bf16) : List (View.Piece (Elt Ideal) S2x256x1024 .bf16) :=
  [⟨Rect.unit (s := S2x256x1024) ![1, 0, 0] ![1, 256, 1024] inb_S2x256x1024_S1x256x1024_1_0_0, w1⟩,
    ⟨Rect.unit (s := S2x256x1024) ![0, 0, 0] ![1, 256, 1024] inb_S2x256x1024_S1x256x1024_0_0_0, w0⟩]

/-- Each is read back as it was stored. -/
theorem mat0 (v : View sig κ sp S2x256x1024 .bf16) (w0 w1 : Vec Ideal S1x256x1024 .bf16) (k : Fin 256) (l : Fin 1024) :
    v.readCov (mats w0 w1) (Rect.unit (s := S2x256x1024) ![0, 0, 0] ![1, 256, 1024] inb_S2x256x1024_S1x256x1024_0_0_0).toLoadRect (ix3 0 k l)
      = w0 (ix3 0 k l) := by
  rw [View.readCov_skip _ _ _ _ _ (by decide +kernel)]
  exact own v (Rect.unit (s := S2x256x1024) ![0, 0, 0] ![1, 256, 1024] inb_S2x256x1024_S1x256x1024_0_0_0) w0 [] (ix3 0 k l)

theorem mat1 (v : View sig κ sp S2x256x1024 .bf16) (w0 w1 : Vec Ideal S1x256x1024 .bf16) (k : Fin 256) (l : Fin 1024) :
    v.readCov (mats w0 w1) (Rect.unit (s := S2x256x1024) ![1, 0, 0] ![1, 256, 1024] inb_S2x256x1024_S1x256x1024_1_0_0).toLoadRect (ix3 0 k l)
      = w1 (ix3 0 k l) := by
  exact own v (Rect.unit (s := S2x256x1024) ![1, 0, 0] ![1, 256, 1024] inb_S2x256x1024_S1x256x1024_1_0_0) w1 _ (ix3 0 k l)

/-- The two half-columns, as stored. -/
abbrev halves (w0 w1 : Vec Ideal S512x1024 .f32) : List (View.Piece (Elt Ideal) S512x2048 .f32) :=
  [⟨Rect.unit (s := S512x2048) ![0, 1024] ![512, 1024] inb_S512x2048_S512x1024_0_1024, w1⟩,
    ⟨Rect.unit (s := S512x2048) ![0, 0] ![512, 1024] inb_S512x2048_S512x1024_0_0, w0⟩]

/-- The rows of a step, as a load and as a store. -/
abbrev rows0 : Rect S512x2048 := Rect.unit (s := S512x2048) ![0, 0] ![128, 2048] inb_S512x2048_S128x2048_0_0
abbrev rows1 : Rect S512x2048 := Rect.unit (s := S512x2048) ![128, 0] ![128, 2048] inb_S512x2048_S128x2048_128_0
abbrev rows2 : Rect S512x2048 := Rect.unit (s := S512x2048) ![256, 0] ![128, 2048] inb_S512x2048_S128x2048_256_0
abbrev rows3 : Rect S512x2048 := Rect.unit (s := S512x2048) ![384, 0] ![128, 2048] inb_S512x2048_S128x2048_384_0

/-- The arrays `w0`, `w1` are the two half-columns of `G`. -/
def Halves (G : Fin 512 → Fin 2048 → EReal) (w0 w1 : Vec Ideal S512x1024 .f32) : Prop :=
  (∀ (r : Fin 512) (l : Fin 1024), w0 (ix2 r l) = G r ⟨l.val, by omega⟩) ∧ ∀ (r : Fin 512) (l : Fin 1024), w1 (ix2 r l) = G r ⟨1024 + l.val, by omega⟩

/-- The two half-columns hold the whole array. -/
theorem halves_eq (G : Fin 512 → Fin 2048 → EReal) (w0 w1 : Vec Ideal S512x1024 .f32) (h : Halves G w0 w1) (z : S512x2048.Idx) :
    View.canon (halves w0 w1) z = G (z 0) (z 1) := by
  refine View.canon_apply_of_pieces (fun z : S512x2048.Idx => G (z 0) (z 1)) _ ?_ _ (View.cover_of_tiledL (halves w0 w1) S512x1024.size (by sl_kernel_rfl) z)
  intro p hp
  simp only [halves, List.mem_cons, List.not_mem_nil, or_false] at hp
  rcases hp with rfl | rfl <;> intro x <;> idx_vars x
  · refine (h.2 x0 x1).trans (congrArg₂ G (Fin.ext ?_) (Fin.ext ?_))
    · show x0.val = 0 + 1 * x0.val
      omega
    · show 1024 + x1.val = 1024 + 1 * x1.val
      omega
  · refine (h.1 x0 x1).trans (congrArg₂ G (Fin.ext ?_) (Fin.ext ?_))
    · show x0.val = 0 + 1 * x0.val
      omega
    · show x1.val = 0 + 1 * x1.val
      omega

/-- A load of 128 rows from the two half-columns. -/
theorem row_load (v : View sig κ sp S512x2048 .f32) (G : Fin 512 → Fin 2048 → EReal) (w0 w1 : Vec Ideal S512x1024 .f32) (h : Halves G w0 w1)
    (n : ℕ) (hn : n + 128 ≤ 512) (inb : ∀ a, (![n, 0] : Fin 2 → ℕ) a + (![128, 2048] : Fin 2 → ℕ) a ≤ S512x2048.size a) (b : Fin 128) (l : Fin 2048) :
    v.readCov (halves w0 w1) (Rect.unit (s := S512x2048) ![n, 0] ![128, 2048] inb).toLoadRect (ix2 b l) = G ⟨n + b.val, by omega⟩ l := by
  rw [View.readCov_eq_canon']
  refine (halves_eq G w0 w1 h _).trans (congrArg₂ G (Fin.ext ?_) (Fin.ext ?_))
  · show n + 1 * b.val = n + b.val
    omega
  · show 0 + 1 * l.val = l.val
    omega

/-- The rows of the steps so far, stored over the two half-columns. -/
abbrev after1 (w0 w1 : Vec Ideal S512x1024 .f32) (a : Vec Ideal S128x2048 .f32) : List (View.Piece (Elt Ideal) S512x2048 .f32) := ⟨rows0, a⟩ :: halves w0 w1
abbrev after2 (w0 w1 : Vec Ideal S512x1024 .f32) (a b : Vec Ideal S128x2048 .f32) : List (View.Piece (Elt Ideal) S512x2048 .f32) := ⟨rows1, b⟩ :: after1 w0 w1 a
abbrev after3 (w0 w1 : Vec Ideal S512x1024 .f32) (a b c : Vec Ideal S128x2048 .f32) : List (View.Piece (Elt Ideal) S512x2048 .f32) := ⟨rows2, c⟩ :: after2 w0 w1 a b
abbrev after4 (w0 w1 : Vec Ideal S512x1024 .f32) (a b c d : Vec Ideal S128x2048 .f32) : List (View.Piece (Elt Ideal) S512x2048 .f32) := ⟨rows3, d⟩ :: after3 w0 w1 a b c

/-- The rows of a step are still what the half-columns hold. -/
theorem load0 (v : View sig κ sp S512x2048 .f32) (G : Fin 512 → Fin 2048 → EReal) (w0 w1 : Vec Ideal S512x1024 .f32) (h : Halves G w0 w1)
    (b : Fin 128) (l : Fin 2048) : v.readCov (halves w0 w1) rows0.toLoadRect (ix2 b l) = G ⟨0 + b.val, by omega⟩ l :=
  row_load v G w0 w1 h 0 (by decide) _ b l

theorem load1 (v : View sig κ sp S512x2048 .f32) (G : Fin 512 → Fin 2048 → EReal) (w0 w1 : Vec Ideal S512x1024 .f32) (h : Halves G w0 w1)
    (a : Vec Ideal S128x2048 .f32) (b : Fin 128) (l : Fin 2048) :
    v.readCov (after1 w0 w1 a) rows1.toLoadRect (ix2 b l) = G ⟨128 + b.val, by omega⟩ l := by
  rw [View.readCov_skip _ _ _ _ _ (by decide +kernel)]
  exact row_load v G w0 w1 h 128 (by decide) _ b l

theorem load2 (v : View sig κ sp S512x2048 .f32) (G : Fin 512 → Fin 2048 → EReal) (w0 w1 : Vec Ideal S512x1024 .f32) (h : Halves G w0 w1)
    (a a' : Vec Ideal S128x2048 .f32) (b : Fin 128) (l : Fin 2048) :
    v.readCov (after2 w0 w1 a a') rows2.toLoadRect (ix2 b l) = G ⟨256 + b.val, by omega⟩ l := by
  rw [View.readCov_skip _ _ _ _ _ (by decide +kernel), View.readCov_skip _ _ _ _ _ (by decide +kernel)]
  exact row_load v G w0 w1 h 256 (by decide) _ b l

theorem load3 (v : View sig κ sp S512x2048 .f32) (G : Fin 512 → Fin 2048 → EReal) (w0 w1 : Vec Ideal S512x1024 .f32) (h : Halves G w0 w1)
    (a a' a'' : Vec Ideal S128x2048 .f32) (b : Fin 128) (l : Fin 2048) :
    v.readCov (after3 w0 w1 a a' a'') rows3.toLoadRect (ix2 b l) = G ⟨384 + b.val, by omega⟩ l := by
  rw [View.readCov_skip _ _ _ _ _ (by decide +kernel), View.readCov_skip _ _ _ _ _ (by decide +kernel), View.readCov_skip _ _ _ _ _ (by decide +kernel)]
  exact row_load v G w0 w1 h 384 (by decide) _ b l

/-- The four arrays are the row blocks of `G`. -/
structure Rows (G : Fin 512 → Fin 2048 → EReal) (a b c d : Vec Ideal S128x2048 .f32) : Prop where
  r0 : ∀ (r : Fin 128) (l : Fin 2048), a (ix2 r l) = G ⟨0 + r.val, by omega⟩ l
  r1 : ∀ (r : Fin 128) (l : Fin 2048), b (ix2 r l) = G ⟨128 + r.val, by omega⟩ l
  r2 : ∀ (r : Fin 128) (l : Fin 2048), c (ix2 r l) = G ⟨256 + r.val, by omega⟩ l
  r3 : ∀ (r : Fin 128) (l : Fin 2048), d (ix2 r l) = G ⟨384 + r.val, by omega⟩ l

/-- After all four steps the array holds the row blocks. -/
theorem after4_eq (G : Fin 512 → Fin 2048 → EReal) (w0 w1 : Vec Ideal S512x1024 .f32) (a b c d : Vec Ideal S128x2048 .f32) (h : Rows G a b c d)
    (z : S512x2048.Idx) : View.canon (after4 w0 w1 a b c d) z = G (z 0) (z 1) := by
  refine View.canon_append_of_pieces (fun z : S512x2048.Idx => G (z 0) (z 1)) (halves w0 w1) [⟨rows3, d⟩, ⟨rows2, c⟩, ⟨rows1, b⟩, ⟨rows0, a⟩] ?_ z
    (View.cover_of_tiledL [⟨rows3, d⟩, ⟨rows2, c⟩, ⟨rows1, b⟩, ⟨rows0, a⟩] S128x2048.size (by sl_kernel_rfl) z)
  intro p hp
  simp only [List.mem_cons, List.not_mem_nil, or_false] at hp
  rcases hp with rfl | rfl | rfl | rfl <;> intro x <;> idx_vars x
  · refine (h.r3 x0 x1).trans (congrArg₂ G (Fin.ext ?_) (Fin.ext ?_))
    · show 384 + x0.val = 384 + 1 * x0.val
      omega
    · show x1.val = 0 + 1 * x1.val
      omega
  · refine (h.r2 x0 x1).trans (congrArg₂ G (Fin.ext ?_) (Fin.ext ?_))
    · show 256 + x0.val = 256 + 1 * x0.val
      omega
    · show x1.val = 0 + 1 * x1.val
      omega
  · refine (h.r1 x0 x1).trans (congrArg₂ G (Fin.ext ?_) (Fin.ext ?_))
    · show 128 + x0.val = 128 + 1 * x0.val
      omega
    · show x1.val = 0 + 1 * x1.val
      omega
  · refine (h.r0 x0 x1).trans (congrArg₂ G (Fin.ext ?_) (Fin.ext ?_))
    · show 0 + x0.val = 0 + 1 * x0.val
      omega
    · show x1.val = 0 + 1 * x1.val
      omega

/-- A load of the columns of a half after all steps. -/
theorem half0 (v : View sig κ sp S512x2048 .f32) (G : Fin 512 → Fin 2048 → EReal) (w0 w1 : Vec Ideal S512x1024 .f32)
    (a b c d : Vec Ideal S128x2048 .f32) (h : Rows G a b c d) (r : Fin 512) (l : Fin 1024) :
    v.readCov (after4 w0 w1 a b c d) (Rect.unit (s := S512x2048) ![0, 0] ![512, 1024] inb_S512x2048_S512x1024_0_0).toLoadRect (ix2 r l)
      = G r ⟨l.val, by omega⟩ := by
  rw [View.readCov_eq_canon']
  refine (after4_eq G w0 w1 a b c d h _).trans (congrArg₂ G (Fin.ext ?_) (Fin.ext ?_))
  · show 0 + 1 * r.val = r.val
    omega
  · show 0 + 1 * l.val = l.val
    omega

theorem half1 (v : View sig κ sp S512x2048 .f32) (G : Fin 512 → Fin 2048 → EReal) (w0 w1 : Vec Ideal S512x1024 .f32)
    (a b c d : Vec Ideal S128x2048 .f32) (h : Rows G a b c d) (r : Fin 512) (l : Fin 1024) :
    v.readCov (after4 w0 w1 a b c d) (Rect.unit (s := S512x2048) ![0, 1024] ![512, 1024] inb_S512x2048_S512x1024_0_1024).toLoadRect (ix2 r l)
      = G r ⟨1024 + l.val, by omega⟩ := by
  rw [View.readCov_eq_canon']
  refine (after4_eq G w0 w1 a b c d h _).trans (congrArg₂ G (Fin.ext ?_) (Fin.ext ?_))
  · show 0 + 1 * r.val = r.val
    omega
  · show 1024 + 1 * l.val = 1024 + l.val
    omega

end Cert.S5Ideal.Scratch
-- ==== Proof.S5Kernel.lean ====
/- What the one grid point of the recurrence kernel leaves in its three results, in the formulas of `S5Math`. The values of the
   body are named in the order in which the body makes them. -/
module

public import proofs.«01_k».proof.Proof.S5Block
public import proofs.«01_k».proof.Proof.S5Stage
public import proofs.«01_k».proof.Proof.S5Scratch

@[expose] public section

set_option maxRecDepth 16384
set_option maxHeartbeats 4000000

noncomputable section

namespace Cert.S5Ideal.Block

open Cert.S5Ideal Cert.S5Ideal.Gen Cert.S5Math Cert.S5Ideal.Scratch Idealize.ShloMosaic Idealize.ShloMosaic.TcCoe Idealize.SL.Sem

variable (m : (ℓ : Loc nD τ sig) → Buf (Elt Ideal) ℓ) (c : Dev nD) (t : Fin cfg0.N)

/-! The parts of the windows that the body loads. -/

abbrev brH0 : Vec Ideal S1x1x256x1024 .f32 := View.ld (iblk m c 9 t) (Rect.unit (s := S1x2x256x1024) ![0, 0, 0, 0] ![1, 1, 256, 1024] inb_S1x2x256x1024_S1x1x256x1024_0_0_0_0)
abbrev biH0 : Vec Ideal S1x1x256x1024 .f32 := View.ld (iblk m c 10 t) (Rect.unit (s := S1x2x256x1024) ![0, 0, 0, 0] ![1, 1, 256, 1024] inb_S1x2x256x1024_S1x1x256x1024_0_0_0_0)
abbrev brH1 : Vec Ideal S1x1x256x1024 .f32 := View.ld (iblk m c 9 t) (Rect.unit (s := S1x2x256x1024) ![0, 1, 0, 0] ![1, 1, 256, 1024] inb_S1x2x256x1024_S1x1x256x1024_0_1_0_0)
abbrev biH1 : Vec Ideal S1x1x256x1024 .f32 := View.ld (iblk m c 10 t) (Rect.unit (s := S1x2x256x1024) ![0, 1, 0, 0] ![1, 1, 256, 1024] inb_S1x2x256x1024_S1x1x256x1024_0_1_0_0)
abbrev crH0 : Vec Ideal S1x1x1024x256 .bf16 := View.ld (iblk m c 11 t) (Rect.unit (s := S1x2x1024x256) ![0, 0, 0, 0] ![1, 1, 1024, 256] inb_S1x2x1024x256_S1x1x1024x256_0_0_0_0)
abbrev ciH0 : Vec Ideal S1x1x1024x256 .bf16 := View.ld (iblk m c 12 t) (Rect.unit (s := S1x2x1024x256) ![0, 0, 0, 0] ![1, 1, 1024, 256] inb_S1x2x1024x256_S1x1x1024x256_0_0_0_0)
abbrev crH1 : Vec Ideal S1x1x1024x256 .bf16 := View.ld (iblk m c 11 t) (Rect.unit (s := S1x2x1024x256) ![0, 1, 0, 0] ![1, 1, 1024, 256] inb_S1x2x1024x256_S1x1x1024x256_0_1_0_0)
abbrev ciH1 : Vec Ideal S1x1x1024x256 .bf16 := View.ld (iblk m c 12 t) (Rect.unit (s := S1x2x1024x256) ![0, 1, 0, 0] ![1, 1, 1024, 256] inb_S1x2x1024x256_S1x1x1024x256_0_1_0_0)
abbrev dH0 : Vec Ideal S1x1x256 .f32 := View.ld (iblk m c 13 t) (Rect.unit (s := S1x1x512) ![0, 0, 0] ![1, 1, 256] inb_S1x1x512_S1x1x256_0_0_0)
abbrev dH1 : Vec Ideal S1x1x256 .f32 := View.ld (iblk m c 13 t) (Rect.unit (s := S1x1x512) ![0, 0, 256] ![1, 1, 256] inb_S1x1x512_S1x1x256_0_0_256)

theorem brH0_at : Stage.Diag (args m c).br 0 (brH0 m c t) := fun k l => by
  refine Eq.trans (congrArg (iblk m c 9 t) (a₂ := ix4 0 0 k l) ?_) (blk9 m c t 0 k l)
  blk_ext []
  · rfl
  · show 0 + 1 * k.val = k.val
    omega
  · show 0 + 1 * l.val = l.val
    omega

theorem biH0_at : Stage.Diag (args m c).bi 0 (biH0 m c t) := fun k l => by
  refine Eq.trans (congrArg (iblk m c 10 t) (a₂ := ix4 0 0 k l) ?_) (blk10 m c t 0 k l)
  blk_ext []
  · rfl
  · show 0 + 1 * k.val = k.val
    omega
  · show 0 + 1 * l.val = l.val
    omega

theorem brH1_at : Stage.Diag (args m c).br 1 (brH1 m c t) := fun k l => by
  refine Eq.trans (congrArg (iblk m c 9 t) (a₂ := ix4 0 1 k l) ?_) (blk9 m c t 1 k l)
  blk_ext []
  · rfl
  · show 0 + 1 * k.val = k.val
    omega
  · show 0 + 1 * l.val = l.val
    omega

theorem biH1_at : Stage.Diag (args m c).bi 1 (biH1 m c t) := fun k l => by
  refine Eq.trans (congrArg (iblk m c 10 t) (a₂ := ix4 0 1 k l) ?_) (blk10 m c t 1 k l)
  blk_ext []
  · rfl
  · show 0 + 1 * k.val = k.val
    omega
  · show 0 + 1 * l.val = l.val
    omega

theorem crH0_at : Stage.OutDiag (args m c).cr 0 (crH0 m c t) := fun k l => by
  refine Eq.trans (congrArg (iblk m c 11 t) (a₂ := ix4 0 0 k l) ?_) (blk11 m c t 0 k l)
  blk_ext []
  · rfl
  · show 0 + 1 * k.val = k.val
    omega
  · show 0 + 1 * l.val = l.val
    omega

theorem ciH0_at : Stage.OutDiag (args m c).ci 0 (ciH0 m c t) := fun k l => by
  refine Eq.trans (congrArg (iblk m c 12 t) (a₂ := ix4 0 0 k l) ?_) (blk12 m c t 0 k l)
  blk_ext []
  · rfl
  · show 0 + 1 * k.val = k.val
    omega
  · show 0 + 1 * l.val = l.val
    omega

theorem crH1_at : Stage.OutDiag (args m c).cr 1 (crH1 m c t) := fun k l => by
  refine Eq.trans (congrArg (iblk m c 11 t) (a₂ := ix4 0 1 k l) ?_) (blk11 m c t 1 k l)
  blk_ext []
  · rfl
  · show 0 + 1 * k.val = k.val
    omega
  · show 0 + 1 * l.val = l.val
    omega

theorem ciH1_at : Stage.OutDiag (args m c).ci 1 (ciH1 m c t) := fun k l => by
  refine Eq.trans (congrArg (iblk m c 12 t) (a₂ := ix4 0 1 k l) ?_) (blk12 m c t 1 k l)
  blk_ext []
  · rfl
  · show 0 + 1 * k.val = k.val
    omega
  · show 0 + 1 * l.val = l.val
    omega

theorem dH0_at : Stage.Skip (args m c) 0 (dH0 m c t) := fun l => by
  refine Eq.trans (congrArg (iblk m c 13 t) (a₂ := ix3 0 0 ⟨l.val, by omega⟩) ?_) ((blk13 m c t ⟨l.val, by omega⟩).trans
    (congrArg (args m c).d (congrArg₂ (ix3 1) (Fin.ext ?_) (Fin.ext ?_))))
  · blk_ext []
    show 0 + 1 * l.val = l.val
    omega
  · show l.val / 16 = 16 * 0 + l.val / 16
    omega
  · rfl

theorem dH1_at : Stage.Skip (args m c) 1 (dH1 m c t) := fun l => by
  refine Eq.trans (congrArg (iblk m c 13 t) (a₂ := ix3 0 0 ⟨256 + l.val, by omega⟩) ?_) ((blk13 m c t ⟨256 + l.val, by omega⟩).trans
    (congrArg (args m c).d (congrArg₂ (ix3 1) (Fin.ext ?_) (Fin.ext ?_))))
  · blk_ext []
    show 256 + 1 * l.val = 256 + l.val
    omega
  · show (256 + l.val) / 16 = 16 * 1 + l.val / 16
    omega
  · show (256 + l.val) % 16 = l.val % 16
    omega

/-- The two halves of the input. -/
theorem u0_at : Stage.Input (args m c) 0 (iblk m c 0 t) := fun r k =>
  (blk0 m c t r k).trans (congrArg (args m c).proj (congrArg (ix3 _ _) (Fin.ext (by show 1792 + k.val = 1792 + 256 * 0 + k.val; omega))))

theorem u1_at : Stage.Input (args m c) 1 (iblk m c 1 t) := fun r k =>
  (blk1 m c t r k).trans (congrArg (args m c).proj (congrArg (ix3 _ _) (Fin.ext (by show 2048 + k.val = 1792 + 256 * 1 + k.val; omega))))

/-! The decays and the discretised matrices. -/

abbrev dRe : FVec Ideal S1x2048 .f32 := k0_pay21 (iblk m c 6 t) (iblk m c 7 t) (iblk m c 8 t)
abbrev dIm : FVec Ideal S1x2048 .f32 := k0_pay22 (iblk m c 6 t) (iblk m c 7 t) (iblk m c 8 t)
abbrev fRe : FVec Ideal S1x2048 .f32 := k0_pay6 (k0_pay17 (iblk m c 6 t)) (k0_pay18 (iblk m c 7 t)) (dRe m c t) (dIm m c t)
abbrev fIm : FVec Ideal S1x2048 .f32 := k0_pay7 (k0_pay17 (iblk m c 6 t)) (k0_pay18 (iblk m c 7 t)) (dRe m c t) (dIm m c t)

theorem loaded : Stage.Loaded (args m c) (iblk m c 6 t) (iblk m c 7 t) (iblk m c 8 t) := ⟨blk6 m c t, blk7 m c t, blk8 m c t⟩

theorem decay : Stage.Decay (args m c) (dRe m c t) (dIm m c t) := ⟨Stage.decay_re (loaded m c t), Stage.decay_im (loaded m c t)⟩

theorem fRe_at (L : Fin 2048) : fRe m c t (ix2 0 L) = cfr (args m c) (Stage.grp L.val L.isLt) (Stage.sta L.val) :=
  Stage.factor_re (loaded m c t) _ _ (decay m c t).1 (decay m c t).2 L

theorem fIm_at (L : Fin 2048) : fIm m c t (ix2 0 L) = cfi (args m c) (Stage.grp L.val L.isLt) (Stage.sta L.val) :=
  Stage.factor_im (loaded m c t) _ _ (decay m c t).1 (decay m c t).2 L

abbrev mRe0 : FVec Ideal S1x256x1024 .bf16 := k0_pay11 (k0_pay10 (k0_pay17 (iblk m c 6 t)) (k0_pay18 (iblk m c 7 t)) (dRe m c t) (dIm m c t) (brH0 m c t) (biH0 m c t))
abbrev mIm0 : FVec Ideal S1x256x1024 .bf16 := k0_pay12 (fRe m c t) (fIm m c t) (k0_pay8 (brH0 m c t)) (k0_pay9 (biH0 m c t))
abbrev mRe1 : FVec Ideal S1x256x1024 .bf16 := k0_pay15 (fRe m c t) (fIm m c t) (brH1 m c t) (biH1 m c t)
abbrev mIm1 : FVec Ideal S1x256x1024 .bf16 := k0_pay16 (fRe m c t) (fIm m c t) (brH1 m c t) (biH1 m c t)

abbrev ldRe0 : Vec Ideal S1x256x1024 .bf16 := (View.whole cc0_scratch4).readCov (mats (mRe0 m c t) (mRe1 m c t)) (Rect.unit (s := S2x256x1024) ![0, 0, 0] ![1, 256, 1024] inb_S2x256x1024_S1x256x1024_0_0_0).toLoadRect
abbrev ldRe1 : Vec Ideal S1x256x1024 .bf16 := (View.whole cc0_scratch4).readCov (mats (mRe0 m c t) (mRe1 m c t)) (Rect.unit (s := S2x256x1024) ![1, 0, 0] ![1, 256, 1024] inb_S2x256x1024_S1x256x1024_1_0_0).toLoadRect
abbrev ldIm0 : Vec Ideal S1x256x1024 .bf16 := (View.whole cc0_scratch5).readCov (mats (mIm0 m c t) (mIm1 m c t)) (Rect.unit (s := S2x256x1024) ![0, 0, 0] ![1, 256, 1024] inb_S2x256x1024_S1x256x1024_0_0_0).toLoadRect
abbrev ldIm1 : Vec Ideal S1x256x1024 .bf16 := (View.whole cc0_scratch5).readCov (mats (mIm0 m c t) (mIm1 m c t)) (Rect.unit (s := S2x256x1024) ![1, 0, 0] ![1, 256, 1024] inb_S2x256x1024_S1x256x1024_1_0_0).toLoadRect

/-! The input's part of the states, in two half-columns each. -/

abbrev hRe0 : Vec Ideal S512x1024 .f32 := k0_pay26 (iblk m c 0 t) (ldRe0 m c t)
abbrev hRe1 : Vec Ideal S512x1024 .f32 := k0_pay30 (k0_pay24 (iblk m c 1 t)) (ldRe1 m c t)
abbrev hIm0 : Vec Ideal S512x1024 .f32 := k0_pay28 (k0_pay27 (iblk m c 0 t) (ldIm0 m c t))
abbrev hIm1 : Vec Ideal S512x1024 .f32 := k0_pay31 (k0_pay24 (iblk m c 1 t)) (ldIm1 m c t)

/-- The whole arrays of the input's part. -/
def inRe (r : Fin 512) (L : Fin 2048) : EReal := bur (args m c) (Stage.bat r.val) (Stage.tim r.val r.isLt) (Stage.grp L.val L.isLt) (Stage.sta L.val)
def inIm (r : Fin 512) (L : Fin 2048) : EReal := bui (args m c) (Stage.bat r.val) (Stage.tim r.val r.isLt) (Stage.grp L.val L.isLt) (Stage.sta L.val)

theorem inRe_at : Halves (inRe m c) (hRe0 m c t) (hRe1 m c t) := by
  constructor
  · intro r l
    refine (Stage.in_re0 _ _ (u0_at m c t) (fun k l => (mat0 _ _ _ k l).trans
      (Stage.stored_re0 _ _ _ _ _ _ (brH0_at m c t) (biH0_at m c t) (fRe_at m c t) (fIm_at m c t) k l)) r l).trans
      (congrArg₂ (bur (args m c) _ _) (Fin.ext ?_) (Fin.ext ?_))
    · show 16 * 0 + l.val / 64 = l.val / 64
      omega
    · rfl
  · intro r l
    refine (Stage.in_re1 _ _ (u1_at m c t) (fun k l => (mat1 _ _ _ k l).trans
      (Stage.stored_re1 _ _ _ _ (brH1_at m c t) (biH1_at m c t) (fRe_at m c t) (fIm_at m c t) k l)) r l).trans
      (congrArg₂ (bur (args m c) _ _) (Fin.ext ?_) (Fin.ext ?_))
    · show 16 * 1 + l.val / 64 = (1024 + l.val) / 64
      omega
    · show l.val % 64 = (1024 + l.val) % 64
      omega

theorem inIm_at : Halves (inIm m c) (hIm0 m c t) (hIm1 m c t) := by
  constructor
  · intro r l
    refine (Stage.in_im0 _ _ (u0_at m c t) (fun k l => (mat0 _ _ _ k l).trans
      (Stage.stored_im0 _ _ _ _ (brH0_at m c t) (biH0_at m c t) (fRe_at m c t) (fIm_at m c t) k l)) r l).trans
      (congrArg₂ (bui (args m c) _ _) (Fin.ext ?_) (Fin.ext ?_))
    · show 16 * 0 + l.val / 64 = l.val / 64
      omega
    · rfl
  · intro r l
    refine (Stage.in_im1 _ _ (u1_at m c t) (fun k l => (mat1 _ _ _ k l).trans
      (Stage.stored_im1 _ _ _ _ (brH1_at m c t) (biH1_at m c t) (fRe_at m c t) (fIm_at m c t) k l)) r l).trans
      (congrArg₂ (bui (args m c) _ _) (Fin.ext ?_) (Fin.ext ?_))
    · show 16 * 1 + l.val / 64 = (1024 + l.val) / 64
      omega
    · show l.val % 64 = (1024 + l.val) % 64
      omega

/-- The rows of step `n` are the drive of that step. -/
theorem drive_of (n : Fin 4) (v w : Vec Ideal S128x2048 .f32) (hv : ∀ (b : Fin 128) (L : Fin 2048), v (ix2 b L) = inRe m c ⟨128 * n.val + b.val, by omega⟩ L)
    (hw : ∀ (b : Fin 128) (L : Fin 2048), w (ix2 b L) = inIm m c ⟨128 * n.val + b.val, by omega⟩ L) : Stage.Drive (args m c) n v w := by
  have e (b : Fin 128) : Stage.bat (128 * n.val + b.val) = b := Fin.ext (by simp only; omega)
  have e' (b : Fin 128) (h) : Stage.tim (128 * n.val + b.val) h = n := Fin.ext (by simp only; omega)
  constructor
  · intro b L
    rw [hv]
    unfold inRe
    simp only [e, e']
  · intro b L
    rw [hw]
    unfold inIm
    simp only [e, e']

/-! The four steps. -/

abbrev x0r : Vec Ideal S128x2048 .f32 := k0_pay2 (iblk m c 4 t)
abbrev x0i : Vec Ideal S128x2048 .f32 := k0_pay3 (iblk m c 5 t)
abbrev d1r : Vec Ideal S128x2048 .f32 := (View.whole cc0_scratch2).readCov (halves (hRe0 m c t) (hRe1 m c t)) rows0.toLoadRect
abbrev d1i : Vec Ideal S128x2048 .f32 := (View.whole cc0_scratch3).readCov (halves (hIm0 m c t) (hIm1 m c t)) rows0.toLoadRect
abbrev x1r : FVec Ideal S128x2048 .f32 := k0_pay32 (dRe m c t) (dIm m c t) (x0r m c t) (x0i m c t) (d1r m c t)
abbrev x1i : FVec Ideal S128x2048 .f32 := k0_pay33 (dRe m c t) (dIm m c t) (x0r m c t) (x0i m c t) (d1i m c t)
abbrev s1r : FVec Ideal S128x2048 .f32 := k0_pay34 (x1r m c t)
abbrev s1i : FVec Ideal S128x2048 .f32 := k0_pay35 (x1i m c t)
abbrev d2r : Vec Ideal S128x2048 .f32 := (View.whole cc0_scratch2).readCov (after1 (hRe0 m c t) (hRe1 m c t) (s1r m c t)) rows1.toLoadRect
abbrev d2i : Vec Ideal S128x2048 .f32 := (View.whole cc0_scratch3).readCov (after1 (hIm0 m c t) (hIm1 m c t) (s1i m c t)) rows1.toLoadRect
abbrev x2r : FVec Ideal S128x2048 .f32 := k0_pay36 (dRe m c t) (dIm m c t) (x1r m c t) (x1i m c t) (d2r m c t)
abbrev x2i : FVec Ideal S128x2048 .f32 := k0_pay37 (dRe m c t) (dIm m c t) (x1r m c t) (x1i m c t) (d2i m c t)
abbrev s2r : FVec Ideal S128x2048 .f32 := k0_pay38 (dRe m c t) (dIm m c t) (x1r m c t) (x1i m c t) (d2r m c t)
abbrev s2i : FVec Ideal S128x2048 .f32 := k0_pay39 (dRe m c t) (dIm m c t) (x1r m c t) (x1i m c t) (d2i m c t)
abbrev d3r : Vec Ideal S128x2048 .f32 := (View.whole cc0_scratch2).readCov (after2 (hRe0 m c t) (hRe1 m c t) (s1r m c t) (s2r m c t)) rows2.toLoadRect
abbrev d3i : Vec Ideal S128x2048 .f32 := (View.whole cc0_scratch3).readCov (after2 (hIm0 m c t) (hIm1 m c t) (s1i m c t) (s2i m c t)) rows2.toLoadRect
abbrev x3r : FVec Ideal S128x2048 .f32 := k0_pay40 (dRe m c t) (dIm m c t) (x1r m c t) (x1i m c t) (d2r m c t) (d2i m c t) (d3r m c t)
abbrev x3i : FVec Ideal S128x2048 .f32 := k0_pay41 (dRe m c t) (dIm m c t) (x1r m c t) (x1i m c t) (d2r m c t) (d2i m c t) (d3i m c t)
abbrev s3r : FVec Ideal S128x2048 .f32 := k0_pay42 (x3r m c t)
abbrev s3i : FVec Ideal S128x2048 .f32 := k0_pay43 (x3i m c t)
abbrev d4r : Vec Ideal S128x2048 .f32 := (View.whole cc0_scratch2).readCov (after3 (hRe0 m c t) (hRe1 m c t) (s1r m c t) (s2r m c t) (s3r m c t)) rows3.toLoadRect
abbrev d4i : Vec Ideal S128x2048 .f32 := (View.whole cc0_scratch3).readCov (after3 (hIm0 m c t) (hIm1 m c t) (s1i m c t) (s2i m c t) (s3i m c t)) rows3.toLoadRect
abbrev s4r : FVec Ideal S128x2048 .f32 := k0_pay46 (dRe m c t) (dIm m c t) (x3r m c t) (x3i m c t) (d4r m c t)
abbrev s4i : FVec Ideal S128x2048 .f32 := k0_pay47 (dRe m c t) (dIm m c t) (x3r m c t) (x3i m c t) (d4i m c t)

theorem state0 : Stage.State (args m c) 0 (x0r m c t) (x0i m c t) := Stage.first _ _ (blk4 m c t) (blk5 m c t)

theorem drive0 : Stage.Drive (args m c) 0 (d1r m c t) (d1i m c t) :=
  drive_of m c 0 _ _ (load0 _ _ _ _ (inRe_at m c t)) (load0 _ _ _ _ (inIm_at m c t))

theorem state1 : Stage.State (args m c) 1 (x1r m c t) (x1i m c t) := Stage.step1 (decay m c t) (state0 m c t) (drive0 m c t)

theorem drive1 : Stage.Drive (args m c) 1 (d2r m c t) (d2i m c t) :=
  drive_of m c 1 _ _ (load1 _ _ _ _ (inRe_at m c t) _) (load1 _ _ _ _ (inIm_at m c t) _)

theorem state2 : Stage.State (args m c) 2 (x2r m c t) (x2i m c t) := Stage.step2 (decay m c t) (state1 m c t) (drive1 m c t)

theorem drive2 : Stage.Drive (args m c) 2 (d3r m c t) (d3i m c t) :=
  drive_of m c 2 _ _ (load2 _ _ _ _ (inRe_at m c t) _ _) (load2 _ _ _ _ (inIm_at m c t) _ _)

theorem state3 : Stage.State (args m c) 3 (x3r m c t) (x3i m c t) := Stage.step3 (decay m c t) (state2 m c t) (drive2 m c t)

theorem drive3 : Stage.Drive (args m c) 3 (d4r m c t) (d4i m c t) :=
  drive_of m c 3 _ _ (load3 _ _ _ _ (inRe_at m c t) _ _ _) (load3 _ _ _ _ (inIm_at m c t) _ _ _)

theorem state4 : Stage.State (args m c) 4 (k0_pay44 (dRe m c t) (dIm m c t) (x3r m c t) (x3i m c t) (d4r m c t))
    (k0_pay45 (dRe m c t) (dIm m c t) (x3r m c t) (x3i m c t) (d4i m c t)) := Stage.step4 (decay m c t) (state3 m c t) (drive3 m c t)

/-! The states of all rows, as the scratch arrays hold them after the steps. -/

def allRe (r : Fin 512) (L : Fin 2048) : EReal := hr (args m c) (Stage.bat r.val) (Stage.tim r.val r.isLt) (Stage.grp L.val L.isLt) (Stage.sta L.val)
def allIm (r : Fin 512) (L : Fin 2048) : EReal := hi (args m c) (Stage.bat r.val) (Stage.tim r.val r.isLt) (Stage.grp L.val L.isLt) (Stage.sta L.val)

theorem allRe_at (n : Fin 4) (b : Fin 128) (L : Fin 2048) (x : EReal)
    (h : x = (st (args m c) b (Stage.grp L.val L.isLt) (Stage.sta L.val) (n.val + 1)).1) : x = allRe m c ⟨128 * n.val + b.val, by omega⟩ L := by
  have e : Stage.bat (128 * n.val + b.val) = b := Fin.ext (by simp only; omega)
  have e' : (128 * n.val + b.val) / 128 = n.val := by omega
  unfold allRe hr
  simp only [e, e', h]

theorem allIm_at (n : Fin 4) (b : Fin 128) (L : Fin 2048) (x : EReal)
    (h : x = (st (args m c) b (Stage.grp L.val L.isLt) (Stage.sta L.val) (n.val + 1)).2) : x = allIm m c ⟨128 * n.val + b.val, by omega⟩ L := by
  have e : Stage.bat (128 * n.val + b.val) = b := Fin.ext (by simp only; omega)
  have e' : (128 * n.val + b.val) / 128 = n.val := by omega
  unfold allIm hi
  simp only [e, e', h]

/-- The stored rows are the states themselves. -/
theorem pay34_at (v : FVec Ideal S128x2048 .f32) (b : Fin 128) (L : Fin 2048) : k0_pay34 v (ix2 b L) = v (ix2 b L) := by pointwise [k0_pay34]
theorem pay35_at (v : FVec Ideal S128x2048 .f32) (b : Fin 128) (L : Fin 2048) : k0_pay35 v (ix2 b L) = v (ix2 b L) := by pointwise [k0_pay35]
theorem pay42_at (v : FVec Ideal S128x2048 .f32) (b : Fin 128) (L : Fin 2048) : k0_pay42 v (ix2 b L) = v (ix2 b L) := by pointwise [k0_pay42]
theorem pay43_at (v : FVec Ideal S128x2048 .f32) (b : Fin 128) (L : Fin 2048) : k0_pay43 v (ix2 b L) = v (ix2 b L) := by pointwise [k0_pay43]

theorem pay38_at (p q : FVec Ideal S1x2048 .f32) (x y z : Vec Ideal S128x2048 .f32) (b : Fin 128) (L : Fin 2048) :
    k0_pay38 p q x y z (ix2 b L) = k0_pay36 p q x y z (ix2 b L) := by
  unfold k0_pay38
  generalize k0_pay36 p q x y z = P
  pointwise

theorem pay39_at (p q : FVec Ideal S1x2048 .f32) (x y z : Vec Ideal S128x2048 .f32) (b : Fin 128) (L : Fin 2048) :
    k0_pay39 p q x y z (ix2 b L) = k0_pay37 p q x y z (ix2 b L) := by
  unfold k0_pay39
  generalize k0_pay37 p q x y z = P
  pointwise

theorem pay46_at (p q : FVec Ideal S1x2048 .f32) (x y z : Vec Ideal S128x2048 .f32) (b : Fin 128) (L : Fin 2048) :
    k0_pay46 p q x y z (ix2 b L) = k0_pay44 p q x y z (ix2 b L) := by
  unfold k0_pay46
  generalize k0_pay44 p q x y z = P
  pointwise

theorem pay47_at (p q : FVec Ideal S1x2048 .f32) (x y z : Vec Ideal S128x2048 .f32) (b : Fin 128) (L : Fin 2048) :
    k0_pay47 p q x y z (ix2 b L) = k0_pay45 p q x y z (ix2 b L) := by
  unfold k0_pay47
  generalize k0_pay45 p q x y z = P
  pointwise

theorem pay48_at (p q : FVec Ideal S1x2048 .f32) (x y z : Vec Ideal S128x2048 .f32) (b : Fin 128) (L : Fin 2048) :
    k0_pay48 p q x y z (ix2 b L) = k0_pay44 p q x y z (ix2 b L) := by
  unfold k0_pay48
  generalize k0_pay44 p q x y z = P
  pointwise

theorem pay49_at (p q : FVec Ideal S1x2048 .f32) (x y z : Vec Ideal S128x2048 .f32) (b : Fin 128) (L : Fin 2048) :
    k0_pay49 p q x y z (ix2 b L) = k0_pay45 p q x y z (ix2 b L) := by
  unfold k0_pay49
  generalize k0_pay45 p q x y z = P
  pointwise

theorem rowsRe : Rows (allRe m c) (s1r m c t) (s2r m c t) (s3r m c t) (s4r m c t) where
  r0 b L := allRe_at m c 0 b L _ ((pay34_at _ b L).trans ((state1 m c t).1 b L))
  r1 b L := allRe_at m c 1 b L _ ((pay38_at _ _ _ _ _ b L).trans ((state2 m c t).1 b L))
  r2 b L := allRe_at m c 2 b L _ ((pay42_at _ b L).trans ((state3 m c t).1 b L))
  r3 b L := allRe_at m c 3 b L _ ((pay46_at _ _ _ _ _ b L).trans ((state4 m c t).1 b L))

theorem rowsIm : Rows (allIm m c) (s1i m c t) (s2i m c t) (s3i m c t) (s4i m c t) where
  r0 b L := allIm_at m c 0 b L _ ((pay35_at _ b L).trans ((state1 m c t).2 b L))
  r1 b L := allIm_at m c 1 b L _ ((pay39_at _ _ _ _ _ b L).trans ((state2 m c t).2 b L))
  r2 b L := allIm_at m c 2 b L _ ((pay43_at _ b L).trans ((state3 m c t).2 b L))
  r3 b L := allIm_at m c 3 b L _ ((pay47_at _ _ _ _ _ b L).trans ((state4 m c t).2 b L))

abbrev cRe0 : Vec Ideal S512x1024 .f32 := (View.whole cc0_scratch2).readCov (after4 (hRe0 m c t) (hRe1 m c t) (s1r m c t) (s2r m c t) (s3r m c t) (s4r m c t)) (Rect.unit (s := S512x2048) ![0, 0] ![512, 1024] inb_S512x2048_S512x1024_0_0).toLoadRect
abbrev cRe1 : Vec Ideal S512x1024 .f32 := (View.whole cc0_scratch2).readCov (after4 (hRe0 m c t) (hRe1 m c t) (s1r m c t) (s2r m c t) (s3r m c t) (s4r m c t)) (Rect.unit (s := S512x2048) ![0, 1024] ![512, 1024] inb_S512x2048_S512x1024_0_1024).toLoadRect
abbrev cIm0 : Vec Ideal S512x1024 .f32 := (View.whole cc0_scratch3).readCov (after4 (hIm0 m c t) (hIm1 m c t) (s1i m c t) (s2i m c t) (s3i m c t) (s4i m c t)) (Rect.unit (s := S512x2048) ![0, 0] ![512, 1024] inb_S512x2048_S512x1024_0_0).toLoadRect
abbrev cIm1 : Vec Ideal S512x1024 .f32 := (View.whole cc0_scratch3).readCov (after4 (hIm0 m c t) (hIm1 m c t) (s1i m c t) (s2i m c t) (s3i m c t) (s4i m c t)) (Rect.unit (s := S512x2048) ![0, 1024] ![512, 1024] inb_S512x2048_S512x1024_0_1024).toLoadRect

theorem cRe0_at : Stage.Half (hr (args m c)) 0 (cRe0 m c t) := fun r p =>
  (half0 _ _ _ _ _ _ _ _ (rowsRe m c t) r p).trans (congrArg₂ (hr (args m c) _ _) (Fin.ext (by show p.val / 64 = (1024 * 0 + p.val) / 64; omega))
    (Fin.ext (by show p.val % 64 = p.val % 64; rfl)))

theorem cIm0_at : Stage.Half (hi (args m c)) 0 (cIm0 m c t) := fun r p =>
  (half0 _ _ _ _ _ _ _ _ (rowsIm m c t) r p).trans (congrArg₂ (hi (args m c) _ _) (Fin.ext (by show p.val / 64 = (1024 * 0 + p.val) / 64; omega))
    (Fin.ext (by show p.val % 64 = p.val % 64; rfl)))

theorem cRe1_at : Stage.Half (hr (args m c)) 1 (cRe1 m c t) := fun r p =>
  (half1 _ _ _ _ _ _ _ _ (rowsRe m c t) r p).trans (congrArg₂ (hr (args m c) _ _) (Fin.ext (by show (1024 + p.val) / 64 = (1024 * 1 + p.val) / 64; omega))
    (Fin.ext (by show (1024 + p.val) % 64 = p.val % 64; omega)))

theorem cIm1_at : Stage.Half (hi (args m c)) 1 (cIm1 m c t) := fun r p =>
  (half1 _ _ _ _ _ _ _ _ (rowsIm m c t) r p).trans (congrArg₂ (hi (args m c) _ _) (Fin.ext (by show (1024 + p.val) / 64 = (1024 * 1 + p.val) / 64; omega))
    (Fin.ext (by show (1024 + p.val) % 64 = p.val % 64; omega)))

/-! The output. -/

abbrev y0 : FVec Ideal S512x256 .f32 := k0_pay50 (k0_pay23 (iblk m c 0 t)) (cRe0 m c t) (crH0 m c t) (cIm0 m c t) (ciH0 m c t) (dH0 m c t)
abbrev yAll : FVec Ideal S512x512 .f32 := k0_pay52 (k0_pay24 (iblk m c 1 t)) (y0 m c t) (k0_pay51 (cRe1 m c t)) (crH1 m c t) (cIm1 m c t) (ciH1 m c t) (dH1 m c t)
abbrev zAll : FVec Ideal S512x512 .f32 := k0_pay53 (k0_pay24 (iblk m c 1 t)) (y0 m c t) (k0_pay51 (cRe1 m c t)) (crH1 m c t) (cIm1 m c t) (ciH1 m c t) (dH1 m c t) (iblk m c 14 t)

theorem yAll_at (r j : Fin 512) : yAll m c t (ix2 r j) = act (args m c) (Stage.bat r.val) (Stage.tim r.val r.isLt) j :=
  Stage.act_all _ _ _ _ _ _ _ (u1_at m c t) (cRe1_at m c t) (cIm1_at m c t) (crH1_at m c t) (ciH1_at m c t) (dH1_at m c t)
    (Stage.act0 _ _ _ _ _ _ (u0_at m c t) (cRe0_at m c t) (cIm0_at m c t) (crH0_at m c t) (ciH0_at m c t) (dH0_at m c t)) r j

theorem out_block (r : Fin 512) (j : Fin 1024) :
    k0_pay1 (yAll m c t) (zAll m c t) (k0_pay54 (iblk m c 15 t)) (iblk m c 2 t) (iblk m c 3 t) (iblk m c 16 t) (iblk m c 17 t) (ix2 r j)
      = out (args m c) (Stage.bat r.val) (Stage.tim r.val r.isLt) j := by
  have hz (k : Fin 512) : zAll m c t (ix2 r k) = ∑ i : Fin 512, act (args m c) (Stage.bat r.val) (Stage.tim r.val r.isLt) i * (args m c).wglu (ix3 1 i k) :=
    (Stage.gate_dot _ _ _ _ _ _ _ _ r k).trans (Finset.sum_congr rfl fun i _ => congrArg₂ (· * ·) (yAll_at m c t r i) (blk14 m c t i k))
  have hy := yAll_at m c t r
  generalize yAll m c t = Y at hy
  generalize zAll m c t = Z at hz
  rw [Stage.out_tile]
  unfold out glu
  simp only [hy, hz, Stage.gate_bias, blk2, blk3, blk15, blk16, blk17]

/-- The output array, time-major. -/
theorem outArr_eq (c : Dev nD) : ((dats m 0 c).arrAt 18 cfg0.N : Vec Ideal S512x1024 .f32) = outArr (args m c) := by
  refine (dats m 0 c).arrAt_eq_of_covers 18 _ (by decide +kernel) fun t hf y => ?_
  rw [after0_18]
  unfold outsAt0
  dsimp only
  frame_out
  idx_vars y
  blk_simp [idx t]
  refine (out_block m c t y0 y1).trans (congrArg (outArr (args m c)) (a₁ := ix2 y0 y1) ?_)
  blk_ext [idx t]

/-- The last states, real and imaginary part. -/
theorem reArr_eq (c : Dev nD) : ((dats m 0 c).arrAt 19 cfg0.N : Vec Ideal S128x2048 .f32) = reArr (args m c) := by
  refine (dats m 0 c).arrAt_eq_of_covers 19 _ (by decide +kernel) fun t hf y => ?_
  rw [after0_19]
  unfold outsAt0
  dsimp only
  frame_out
  idx_vars y
  blk_simp [idx t]
  refine ((pay48_at (dRe m c t) (dIm m c t) (x3r m c t) (x3i m c t) (d4r m c t) y0 y1).trans ((state4 m c t).1 y0 y1)).trans
    (congrArg (reArr (args m c)) (a₁ := ix2 y0 y1) ?_)
  blk_ext [idx t]

theorem imArr_eq (c : Dev nD) : ((dats m 0 c).arrAt 20 cfg0.N : Vec Ideal S128x2048 .f32) = imArr (args m c) := by
  refine (dats m 0 c).arrAt_eq_of_covers 20 _ (by decide +kernel) fun t hf y => ?_
  rw [after0_20]
  unfold outsAt0
  dsimp only
  frame_out
  idx_vars y
  blk_simp [idx t]
  refine ((pay49_at (dRe m c t) (dIm m c t) (x3r m c t) (x3i m c t) (d4i m c t) y0 y1).trans ((state4 m c t).2 y0 y1)).trans
    (congrArg (imArr (args m c)) (a₁ := ix2 y0 y1) ?_)
  blk_ext [idx t]

end Cert.S5Ideal.Block
-- ==== Proof.S5Ref.lean ====
/- The reference of the recurrence holds the numbers of `S5Math`: each of its stages element by element, and its three results. -/
module

public import proofs.«01_k».proof.Proof.S5Math
public import proofs.«01_k».proof.Proof.Gen.S5RefIdeal.Run
public import Idealize.ShloMosaic.Lib.Tactic.CleanTypes

@[expose] public section

set_option maxRecDepth 16384

noncomputable section

namespace Cert.S5RefIdeal.RefValue

open Cert.S5RefIdeal Cert.S5RefIdeal.Gen Cert.S5RefIdeal.Value Cert.S5Math Idealize.ShloMosaic Idealize.ShloMosaic.TcCoe Idealize.SL.Sem

/-- The sixteen argument arrays of a valuation. -/
abbrev argsOf (V : Valuation τ sig (Elt Ideal)) : Args where
  proj := V (Proc.devRef .tc main_arg0)
  x := V (Proc.devRef .tc main_arg1)
  orw := V (Proc.devRef .tc main_arg2)
  h0r := V (Proc.devRef .tc main_arg3)
  h0i := V (Proc.devRef .tc main_arg4)
  ar := V (Proc.devRef .tc main_arg5)
  ai := V (Proc.devRef .tc main_arg6)
  ldt := V (Proc.devRef .tc main_arg7)
  br := V (Proc.devRef .tc main_arg8)
  bi := V (Proc.devRef .tc main_arg9)
  cr := V (Proc.devRef .tc main_arg10)
  ci := V (Proc.devRef .tc main_arg11)
  d := V (Proc.devRef .tc main_arg12)
  wglu := V (Proc.devRef .tc main_arg13)
  bglu := V (Proc.devRef .tc main_arg14)
  wout := V (Proc.devRef .tc main_arg15)

variable (V : Valuation τ sig (Elt Ideal))

/-! The stages as arrays of extended reals. -/

abbrev r1 : Vec Ideal S128x4x32x16 .f32 := res_main_v1 V
abbrev r3 : Vec Ideal S32x64 .f32 := res_main_v3 V
abbrev r5 : Vec Ideal S32x64 .f32 := res_main_v5 V
abbrev r9 : Vec Ideal S32x1 .f32 := res_main_v9 V
abbrev r12 : Vec Ideal S32x64 .f32 := res_main_v12 V
abbrev r16 : Vec Ideal S32x64 .f32 := res_main_v16 V
abbrev r20 : Vec Ideal S32x64 .f32 := res_main_v20 V
abbrev r23 : Vec Ideal S32x64 .f32 := res_main_v23 V
abbrev r25 : Vec Ideal S32x64 .f32 := res_main_v25 V
abbrev r29 : Vec Ideal S32x64 .f32 := res_main_v29 V
abbrev r33 : Vec Ideal S32x64 .f32 := res_main_v33 V
abbrev r57 : Vec Ideal S128x4x32x64 .f32 := res_main_v57 V
abbrev r59 : Vec Ideal S128x4x32x64 .f32 := res_main_v59 V
abbrev r169 : Vec Ideal S128x4x512 .f32 := res_main_v169 V
abbrev r182 : Vec Ideal S128x4x512 .f32 := res_main_v182 V

theorem r1_at (b : Fin 128) (t : Fin 4) (g : Fin 32) (h : Fin 16) : r1 V (ix4 b t g h) = inp (argsOf V) b t g h := by
  unfold r1 res_main_v1 inp
  clean_types
  pointwise
  congr 1
  exact congrArg (ix3 b t) (Fin.ext (by show 1792 + (g.val * 16 + h.val) = 1792 + 16 * g.val + h.val; omega))

theorem r3_at (g : Fin 32) (p : Fin 64) : r3 V (ix2 g p) = (argsOf V).ar (ix3 1 g p) := by
  unfold r3 res_main_v3
  clean_types
  pointwise

theorem r5_at (g : Fin 32) (p : Fin 64) : r5 V (ix2 g p) = (argsOf V).ai (ix3 1 g p) := by
  unfold r5 res_main_v5
  clean_types
  pointwise

theorem r9_at (g : Fin 32) : r9 V (ix2 g 0) = Ideal.exp ((argsOf V).ldt (ix2 1 g)) := by
  unfold r9 res_main_v9
  clean_types
  pointwise

theorem r12_at (g : Fin 32) (p : Fin 64) :
    r12 V (ix2 g p) = Ideal.exp ((argsOf V).ar (ix3 1 g p) * Ideal.exp ((argsOf V).ldt (ix2 1 g))) := by
  rw [← r3_at, ← r9_at]
  unfold r12 res_main_v12
  clean_types
  pointwise

theorem r16_at (g : Fin 32) (p : Fin 64) : r16 V (ix2 g p) = abr (argsOf V) g p := by
  unfold abr
  rw [← r12_at, ← r5_at, ← r9_at]
  unfold r16 res_main_v16
  clean_types
  pointwise

theorem r20_at (g : Fin 32) (p : Fin 64) : r20 V (ix2 g p) = abi (argsOf V) g p := by
  unfold abi
  rw [← r12_at, ← r5_at, ← r9_at]
  unfold r20 res_main_v20
  clean_types
  pointwise

theorem r23_at (g : Fin 32) (p : Fin 64) : r23 V (ix2 g p) = den (argsOf V) g p := by
  unfold den
  rw [← r3_at, ← r5_at]
  unfold r23 res_main_v23
  clean_types
  pointwise

theorem r25_at (g : Fin 32) (p : Fin 64) : r25 V (ix2 g p) = abr (argsOf V) g p - one := by
  rw [← r16_at]
  unfold r25 res_main_v25
  clean_types
  pointwise

theorem r29_at (g : Fin 32) (p : Fin 64) : r29 V (ix2 g p) = cfr (argsOf V) g p := by
  unfold cfr
  rw [← r23_at, ← r25_at, ← r20_at, ← r3_at, ← r5_at]
  unfold r29 res_main_v29
  clean_types
  pointwise

theorem r33_at (g : Fin 32) (p : Fin 64) : r33 V (ix2 g p) = cfi (argsOf V) g p := by
  unfold cfi
  rw [← r23_at, ← r25_at, ← r20_at, ← r3_at, ← r5_at]
  unfold r33 res_main_v33
  clean_types
  pointwise

theorem r57_at (b : Fin 128) (t : Fin 4) (g : Fin 32) (p : Fin 64) : r57 V (ix4 b t g p) = bur (argsOf V) b t g p := by
  unfold bur bbr
  simp only [← r1_at, ← r29_at, ← r33_at]
  unfold r57 res_main_v57
  clean_types
  pointwise

theorem r59_at (b : Fin 128) (t : Fin 4) (g : Fin 32) (p : Fin 64) : r59 V (ix4 b t g p) = bui (argsOf V) b t g p := by
  unfold bui bbi
  simp only [← r1_at, ← r29_at, ← r33_at]
  unfold r59 res_main_v59
  clean_types
  pointwise

/-! The states after each step. -/

abbrev s0r : Vec Ideal S128x32x64 .f32 := res_main_v61 V
abbrev s0i : Vec Ideal S128x32x64 .f32 := res_main_v63 V
abbrev s1r : Vec Ideal S128x32x64 .f32 := res_main_v73 V
abbrev s1i : Vec Ideal S128x32x64 .f32 := res_main_v83 V
abbrev s2r : Vec Ideal S128x32x64 .f32 := res_main_v93 V
abbrev s2i : Vec Ideal S128x32x64 .f32 := res_main_v103 V
abbrev s3r : Vec Ideal S128x32x64 .f32 := res_main_v113 V
abbrev s3i : Vec Ideal S128x32x64 .f32 := res_main_v123 V
abbrev s4r : Vec Ideal S128x32x64 .f32 := res_main_v133 V
abbrev s4i : Vec Ideal S128x32x64 .f32 := res_main_v143 V

theorem s0r_at (b : Fin 128) (g : Fin 32) (p : Fin 64) : s0r V (ix3 b g p) = (st (argsOf V) b g p 0).1 := by
  unfold s0r res_main_v61 st
  clean_types
  pointwise

theorem s0i_at (b : Fin 128) (g : Fin 32) (p : Fin 64) : s0i V (ix3 b g p) = (st (argsOf V) b g p 0).2 := by
  unfold s0i res_main_v63 st
  clean_types
  pointwise

theorem s1r_at (b : Fin 128) (g : Fin 32) (p : Fin 64) : s1r V (ix3 b g p) = (st (argsOf V) b g p 1).1 := by
  unfold st
  dsimp only
  rw [← s0r_at, ← s0i_at, ← r16_at, ← r20_at, ← r57_at]
  unfold s1r res_main_v73
  clean_types
  pointwise

theorem s1i_at (b : Fin 128) (g : Fin 32) (p : Fin 64) : s1i V (ix3 b g p) = (st (argsOf V) b g p 1).2 := by
  unfold st
  dsimp only
  rw [← s0r_at, ← s0i_at, ← r16_at, ← r20_at, ← r59_at]
  unfold s1i res_main_v83
  clean_types
  pointwise

theorem s2r_at (b : Fin 128) (g : Fin 32) (p : Fin 64) : s2r V (ix3 b g p) = (st (argsOf V) b g p 2).1 := by
  unfold st
  dsimp only
  rw [← s1r_at, ← s1i_at, ← r16_at, ← r20_at, ← r57_at]
  unfold s2r res_main_v93
  clean_types
  pointwise

theorem s2i_at (b : Fin 128) (g : Fin 32) (p : Fin 64) : s2i V (ix3 b g p) = (st (argsOf V) b g p 2).2 := by
  unfold st
  dsimp only
  rw [← s1r_at, ← s1i_at, ← r16_at, ← r20_at, ← r59_at]
  unfold s2i res_main_v103
  clean_types
  pointwise

theorem s3r_at (b : Fin 128) (g : Fin 32) (p : Fin 64) : s3r V (ix3 b g p) = (st (argsOf V) b g p 3).1 := by
  unfold st
  dsimp only
  rw [← s2r_at, ← s2i_at, ← r16_at, ← r20_at, ← r57_at]
  unfold s3r res_main_v113
  clean_types
  pointwise

theorem s3i_at (b : Fin 128) (g : Fin 32) (p : Fin 64) : s3i V (ix3 b g p) = (st (argsOf V) b g p 3).2 := by
  unfold st
  dsimp only
  rw [← s2r_at, ← s2i_at, ← r16_at, ← r20_at, ← r59_at]
  unfold s3i res_main_v123
  clean_types
  pointwise

theorem s4r_at (b : Fin 128) (g : Fin 32) (p : Fin 64) : s4r V (ix3 b g p) = (st (argsOf V) b g p 4).1 := by
  unfold st
  dsimp only
  rw [← s3r_at, ← s3i_at, ← r16_at, ← r20_at, ← r57_at]
  unfold s4r res_main_v133
  clean_types
  pointwise

theorem s4i_at (b : Fin 128) (g : Fin 32) (p : Fin 64) : s4i V (ix3 b g p) = (st (argsOf V) b g p 4).2 := by
  unfold st
  dsimp only
  rw [← s3r_at, ← s3i_at, ← r16_at, ← r20_at, ← r59_at]
  unfold s4i res_main_v143
  clean_types
  pointwise

/-- The states of all steps, one beside the other along the time axis. -/
def hist (a b c d : Vec Ideal S128x32x64 .f32) : Vec Ideal S128x4x32x64 .f32 :=
  concatenate S128x4x32x64 1 [⟨S128x1x32x64, broadcastInDim S128x1x32x64 ![0, 2, 3] bcast_S128x32x64_S128x1x32x64_0_2_3 a⟩, ⟨S128x1x32x64, broadcastInDim S128x1x32x64 ![0, 2, 3] bcast_S128x32x64_S128x1x32x64_0_2_3 b⟩, ⟨S128x1x32x64, broadcastInDim S128x1x32x64 ![0, 2, 3] bcast_S128x32x64_S128x1x32x64_0_2_3 c⟩, ⟨S128x1x32x64, broadcastInDim S128x1x32x64 ![0, 2, 3] bcast_S128x32x64_S128x1x32x64_0_2_3 d⟩] concatenates_S128x1x32x64_S128x1x32x64_S128x1x32x64_S128x1x32x64_S128x4x32x64_d1

/-- What holds of the four states holds of the whole history. -/
theorem hist_at (a b c d : Vec Ideal S128x32x64 .f32) (f : Fin 4 → EReal) (n : Fin 128) (g : Fin 32) (p : Fin 64)
    (ha : a (ix3 n g p) = f 0) (hb : b (ix3 n g p) = f 1) (hc : c (ix3 n g p) = f 2) (hd : d (ix3 n g p) = f 3) (t : Fin 4) :
    hist a b c d (ix4 n t g p) = f t := by
  unfold hist
  match t with
  | 0 => pointwise; exact ha
  | 1 => pointwise; exact hb
  | 2 => pointwise; exact hc
  | 3 => pointwise; exact hd

theorem histr_at (b : Fin 128) (t : Fin 4) (g : Fin 32) (p : Fin 64) :
    hist (s1r V) (s2r V) (s3r V) (s4r V) (ix4 b t g p) = hr (argsOf V) b t g p :=
  hist_at _ _ _ _ (fun t => hr (argsOf V) b t g p) b g p (s1r_at V b g p) (s2r_at V b g p) (s3r_at V b g p) (s4r_at V b g p) t

theorem histi_at (b : Fin 128) (t : Fin 4) (g : Fin 32) (p : Fin 64) :
    hist (s1i V) (s2i V) (s3i V) (s4i V) (ix4 b t g p) = hi (argsOf V) b t g p :=
  hist_at _ _ _ _ (fun t => hi (argsOf V) b t g p) b g p (s1i_at V b g p) (s2i_at V b g p) (s3i_at V b g p) (s4i_at V b g p) t

/-- The output before the activation, from the two histories. -/
def rawRef (u : Vec Ideal S128x4x32x16 .f32) (hre him : Vec Ideal S128x4x32x64 .f32) (cr ci : Vec Ideal S4x32x16x64 .f32)
    (d : Vec Ideal S4x32x16 .f32) : Vec Ideal S128x4x512 .f32 :=
  shapeCast _ (addf (F := Ideal) (subf (F := Ideal) (transpose S128x4x32x16 [1, 2, 0, 3] (Host.dotGeneral (F := Ideal) (φ₁ := .f32) (φ₂ := .f32) dot_S128x4x32x64_S32x16x64_S32x128x4x16_3_2_01_1_2_0 none hre (shapeCast _ (extractStridedSlice S1x32x16x64 ![1, 0, 0, 0] cr slices_S4x32x16x64_S1x32x16x64_1_0_0_0) shapeCasts_S1x32x16x64_S32x16x64)) transposes_S32x128x4x16_S128x4x32x16_1_2_0_3) (transpose S128x4x32x16 [1, 2, 0, 3] (Host.dotGeneral (F := Ideal) (φ₁ := .f32) (φ₂ := .f32) dot_S128x4x32x64_S32x16x64_S32x128x4x16_3_2_01_1_2_0 none him (shapeCast _ (extractStridedSlice S1x32x16x64 ![1, 0, 0, 0] ci slices_S4x32x16x64_S1x32x16x64_1_0_0_0) shapeCasts_S1x32x16x64_S32x16x64)) transposes_S32x128x4x16_S128x4x32x16_1_2_0_3)) (mulf (F := Ideal) (broadcastInDim S128x4x32x16 ![0, 1, 2, 3] bcast_S1x1x32x16_S128x4x32x16_0_1_2_3 (broadcastInDim S1x1x32x16 ![2, 3] bcast_S32x16_S1x1x32x16_2_3 (shapeCast _ (extractStridedSlice S1x32x16 ![1, 0, 0] d slices_S4x32x16_S1x32x16_1_0_0) shapeCasts_S1x32x16_S32x16))) u)) shapeCasts_S128x4x32x16_S128x4x512

theorem rawRef_at (u : Vec Ideal S128x4x32x16 .f32) (hre him : Vec Ideal S128x4x32x64 .f32) (cr ci : Vec Ideal S4x32x16x64 .f32)
    (d : Vec Ideal S4x32x16 .f32) (b : Fin 128) (t : Fin 4) (j : Fin 512) :
    rawRef u hre him cr ci d (ix3 b t j)
      = (∑ p : Fin 64, hre (ix4 b t ⟨j.val / 16, by omega⟩ p) * cr (ix4 1 ⟨j.val / 16, by omega⟩ ⟨j.val % 16, by omega⟩ p))
        - (∑ p : Fin 64, him (ix4 b t ⟨j.val / 16, by omega⟩ p) * ci (ix4 1 ⟨j.val / 16, by omega⟩ ⟨j.val % 16, by omega⟩ p))
        + d (ix3 1 ⟨j.val / 16, by omega⟩ ⟨j.val % 16, by omega⟩) * u (ix4 b t ⟨j.val / 16, by omega⟩ ⟨j.val % 16, by omega⟩) := by
  unfold rawRef
  pointwise

theorem r169_eq : r169 V = rawRef (r1 V) (hist (s1r V) (s2r V) (s3r V) (s4r V)) (hist (s1i V) (s2i V) (s3i V) (s4i V))
    (argsOf V).cr (argsOf V).ci (argsOf V).d := by
  unfold r169 res_main_v169 rawRef hist
  rfl

theorem r169_at (b : Fin 128) (t : Fin 4) (j : Fin 512) :
    r169 V (ix3 b t j) = raw (argsOf V) b t ⟨j.val / 16, by omega⟩ ⟨j.val % 16, by omega⟩ := by
  rw [r169_eq, rawRef_at]
  unfold raw
  simp only [histr_at, histi_at, r1_at]

theorem r182_at (b : Fin 128) (t : Fin 4) (j : Fin 512) : r182 V (ix3 b t j) = act (argsOf V) b t j := by
  unfold act gelu
  rw [← r169_at]
  unfold r182 res_main_v182
  clean_types
  pointwise
  simp only [mul_comm, mul_left_comm, mul_assoc]

/-- The gated unit. -/
def gluRef (y : Vec Ideal S128x4x512 .f32) (w : Vec Ideal S4x512x512 .f32) (b : Vec Ideal S4x512 .f32) : Vec Ideal S128x4x512 .f32 :=
  mulf (F := Ideal) y (Host.divf (F := Ideal) (broadcastInDim S128x4x512 ![] bcast_S_S128x4x512 (constant S_ .f32 0x3F800000#32)) (addf (F := Ideal) (broadcastInDim S128x4x512 ![] bcast_S_S128x4x512 (constant S_ .f32 0x3F800000#32)) (Host.exp (F := Ideal) (Host.negf (F := Ideal) (addf (F := Ideal) (Host.dotGeneral (F := Ideal) (φ₁ := .f32) (φ₂ := .f32) dot_S128x4x512_S512x512_S128x4x512_2_0_01_1_n_n none y (shapeCast _ (extractStridedSlice S1x512x512 ![1, 0, 0] w slices_S4x512x512_S1x512x512_1_0_0) shapeCasts_S1x512x512_S512x512)) (broadcastInDim S128x4x512 ![0, 1, 2] bcast_S1x1x512_S128x4x512_0_1_2 (broadcastInDim S1x1x512 ![2] bcast_S512_S1x1x512_2 (shapeCast _ (extractStridedSlice S1x512 ![1, 0] b slices_S4x512_S1x512_1_0) shapeCasts_S1x512_S512))))))))

theorem gluRef_at (y : Vec Ideal S128x4x512 .f32) (w : Vec Ideal S4x512x512 .f32) (d : Vec Ideal S4x512 .f32) (b : Fin 128) (t : Fin 4) (j : Fin 512) :
    gluRef y w d (ix3 b t j) = y (ix3 b t j) * Ideal.logistic ((∑ k : Fin 512, y (ix3 b t k) * w (ix3 1 k j)) + d (ix2 1 j)) := by
  unfold gluRef
  pointwise
  simp only [Ideal.logistic]

/-- The residual plus the projection of the two outputs side by side, time first. -/
def outRef (x : Vec Ideal S128x4x1024 .f32) (o y : Vec Ideal S128x4x512 .f32) (w : Vec Ideal S4x1024x1024 .f32) : Vec Ideal S512x1024 .f32 :=
  shapeCast _ (transpose S4x128x1024 [1, 0, 2] (addf (F := Ideal) x (Host.dotGeneral (F := Ideal) (φ₁ := .f32) (φ₂ := .f32) dot_S128x4x1024_S1024x1024_S128x4x1024_2_0_01_1_n_n none (concatenate S128x4x1024 2 [⟨S128x4x512, o⟩, ⟨S128x4x512, y⟩] concatenates_S128x4x512_S128x4x512_S128x4x1024_d2) (shapeCast _ (extractStridedSlice S1x1024x1024 ![1, 0, 0] w slices_S4x1024x1024_S1x1024x1024_1_0_0) shapeCasts_S1x1024x1024_S1024x1024))) transposes_S128x4x1024_S4x128x1024_1_0_2) shapeCasts_S4x128x1024_S512x1024

theorem outRef_at (x : Vec Ideal S128x4x1024 .f32) (o y : Vec Ideal S128x4x512 .f32) (w : Vec Ideal S4x1024x1024 .f32)
    (r : Fin 512) (j : Fin 1024) : outRef x o y w (ix2 r j)
      = x (ix3 ⟨r.val % 128, by omega⟩ ⟨r.val / 128, by omega⟩ j)
        + ((∑ k : Fin 512, o (ix3 ⟨r.val % 128, by omega⟩ ⟨r.val / 128, by omega⟩ k) * w (ix3 1 ⟨k.val, by omega⟩ j))
          + ∑ k : Fin 512, y (ix3 ⟨r.val % 128, by omega⟩ ⟨r.val / 128, by omega⟩ k) * w (ix3 1 ⟨512 + k.val, by omega⟩ j)) := by
  unfold outRef
  pointwise

theorem stages : outRef (argsOf V).x (argsOf V).orw (gluRef (r182 V) (argsOf V).wglu (argsOf V).bglu) (argsOf V).wout
    = outArr (argsOf V) := by
  funext i
  idx_vars i
  rw [outRef_at]
  unfold outArr out glu
  simp only [gluRef_at, r182_at]
  rfl

theorem re_eq : (shapeCast _ (s4r V) shapeCasts_S128x32x64_S128x2048 : Vec Ideal S128x2048 .f32) = reArr (argsOf V) := by
  funext i
  idx_vars i
  refine Eq.trans ?_ (s4r_at V i0 ⟨i1.val / 64, by omega⟩ ⟨i1.val % 64, by omega⟩)
  pointwise

theorem im_eq : (shapeCast _ (s4i V) shapeCasts_S128x32x64_S128x2048 : Vec Ideal S128x2048 .f32) = imArr (argsOf V) := by
  funext i
  idx_vars i
  refine Eq.trans ?_ (s4i_at V i0 ⟨i1.val / 64, by omega⟩ ⟨i1.val % 64, by omega⟩)
  pointwise

/-- The sixteen argument arrays of a memory. -/
abbrev args (m : (ℓ : Loc nD τ sig) → Buf (Elt Ideal) ℓ) (c : Dev nD) : Args where
  proj := m ((c.tc : Thread nD τ).loc main_arg0)
  x := m ((c.tc : Thread nD τ).loc main_arg1)
  orw := m ((c.tc : Thread nD τ).loc main_arg2)
  h0r := m ((c.tc : Thread nD τ).loc main_arg3)
  h0i := m ((c.tc : Thread nD τ).loc main_arg4)
  ar := m ((c.tc : Thread nD τ).loc main_arg5)
  ai := m ((c.tc : Thread nD τ).loc main_arg6)
  ldt := m ((c.tc : Thread nD τ).loc main_arg7)
  br := m ((c.tc : Thread nD τ).loc main_arg8)
  bi := m ((c.tc : Thread nD τ).loc main_arg9)
  cr := m ((c.tc : Thread nD τ).loc main_arg10)
  ci := m ((c.tc : Thread nD τ).loc main_arg11)
  d := m ((c.tc : Thread nD τ).loc main_arg12)
  wglu := m ((c.tc : Thread nD τ).loc main_arg13)
  bglu := m ((c.tc : Thread nD τ).loc main_arg14)
  wout := m ((c.tc : Thread nD τ).loc main_arg15)

/-- The reference's run: its three results are the output and the last states, its arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v204) = outArr (args m c)
      ∧ r.2.mem ((c.tc : Thread nD τ).loc main_v205) = reArr (args m c)
      ∧ r.2.mem ((c.tc : Thread nD τ).loc main_v206) = imArr (args m c)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (stages (StableHlo.launchContents m c)), (h c).2.1.trans (re_eq (StableHlo.launchContents m c)),
    (h c).2.2.1.trans (im_eq (StableHlo.launchContents m c)), (h c).2.2.2⟩) (run m ρ)

end Cert.S5RefIdeal.RefValue
-- ==== Proof.lean ====
/- The certificate: the frames of every program, and that each kernel and its reference return the same arrays over the
   extended reals. The values are proved in the modules beside this one. -/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnRef
public import proofs.«01_k».proof.Proof.FfnArray
public import proofs.«01_k».proof.Proof.Gen.Cross.Frame
public import proofs.«01_k».proof.Proof.Gen.CrossIdeal.Value
public import proofs.«01_k».proof.Proof.Gen.CrossRefIdeal.Run
public import proofs.«01_k».proof.Proof.CrossRef
public import proofs.«01_k».proof.Proof.Gen.MemKv.Frame
public import proofs.«01_k».proof.Proof.Gen.MemKvIdeal.Value
public import proofs.«01_k».proof.Proof.Gen.MemKvRefIdeal.Run
public import proofs.«01_k».proof.Proof.MemRef
public import proofs.«01_k».proof.Proof.Gen.Proj.Frame
public import proofs.«01_k».proof.Proof.Gen.ProjIdeal.Value
public import proofs.«01_k».proof.Proof.Gen.ProjRefIdeal.Run
public import proofs.«01_k».proof.Proof.ProjRef
public import proofs.«01_k».proof.Proof.Gen.Norm.Frame
public import proofs.«01_k».proof.Proof.Gen.NormIdeal.Value
public import proofs.«01_k».proof.Proof.Gen.NormRefIdeal.Run
public import proofs.«01_k».proof.Proof.NormRef
public import proofs.«01_k».proof.Proof.Gen.RowNorm.Frame
public import proofs.«01_k».proof.Proof.Gen.RowNormIdeal.Value
public import proofs.«01_k».proof.Proof.Gen.RowNormRefIdeal.Run
public import proofs.«01_k».proof.Proof.RowNormRef
public import proofs.«01_k».proof.Proof.Gen.SampleFfn.Frame
public import proofs.«01_k».proof.Proof.Gen.SampleFfnIdeal.Value
public import proofs.«01_k».proof.Proof.Gen.SampleFfnRefIdeal.Run
public import proofs.«01_k».proof.Proof.SampleFfnRef
public import proofs.«01_k».proof.Proof.SampleFfnBlock
public import proofs.«01_k».proof.Proof.S5Frame
public import proofs.«01_k».proof.Proof.S5IdealFrame
public import proofs.«01_k».proof.Proof.S5IdealValue
public import proofs.«01_k».proof.Proof.S5Kernel
public import proofs.«01_k».proof.Proof.Gen.S5RefIdeal.Run
public import proofs.«01_k».proof.Proof.S5Ref
public import Idealize.ShloMosaic.Adequacy
public import Idealize.ShloMosaic.Init

@[expose] public section

noncomputable section

namespace Cert.Proof

open Idealize.ShloMosaic Idealize.SL.Sem

/-- The feed-forward reference runs to its end and leaves its arguments as they were. -/
theorem ffn_ref_frame : Cert.quiescent_FfnRefIdeal (hFfnRefIdeal := Cert.FfnRefIdeal.Gen.facts) := by
  intro m g _
  refine (θ_run Cert.FfnRefIdeal.defs _ _).mono (fun r h => ⟨fun c => (h c).2.2,
      sem_eq_zero_of_no_sems (by decide) r.2⟩) (Cert.FfnRefIdeal.Value.run m g)

/-- The feed-forward kernel and its reference return the same arrays. -/
theorem ffn_algebraic : Cert.algebraic_FfnIdeal_FfnRefIdeal (hFfnIdeal := Cert.FfnIdeal.Gen.facts)
    (hFfnRefIdeal := Cert.FfnRefIdeal.Gen.facts) := by
  intro m g m' g' _ hagree
  refine ⟨_, _, (θ_run Cert.FfnIdeal.defs _ _).mono (fun r h c => ⟨(h c).1.trans (Cert.FfnIdeal.Block.G8_eq m c), (h c).2.1.trans (Cert.FfnIdeal.Block.G9_eq m c),
    (h c).2.2⟩) (Cert.FfnIdeal.Value.run m g), ?_⟩
  refine (θ_run Cert.FfnRefIdeal.defs _ _).mono (fun r h c => ⟨(h c).1.trans ?_, (h c).2.1.trans ?_,
    (h c).2.2⟩) (Cert.FfnRefIdeal.RefValue.run_arrays m' g')
  all_goals simp only [hagree c]

/-- The cross-attention reference runs to its end and leaves its arguments as they were. -/
theorem cross_ref_frame : Cert.quiescent_CrossRefIdeal (hCrossRefIdeal := Cert.CrossRefIdeal.Gen.facts) := by
  intro m g _
  refine (θ_run Cert.CrossRefIdeal.defs _ _).mono (fun r h => ⟨fun c => (h c).2,
      sem_eq_zero_of_no_sems (by decide) r.2⟩) (Cert.CrossRefIdeal.Value.run m g)

/-- The cross-attention kernel and its reference return the same array. -/
theorem cross_algebraic : Cert.algebraic_CrossIdeal_CrossRefIdeal (hCrossIdeal := Cert.CrossIdeal.Gen.facts)
    (hCrossRefIdeal := Cert.CrossRefIdeal.Gen.facts) := by
  intro m g m' g' _ hagree
  refine ⟨_, (θ_run Cert.CrossIdeal.defs _ _).mono (fun r h c => ⟨(h c).1.trans (Cert.CrossIdeal.Block.arr_eq m c),
    (h c).2⟩) (Cert.CrossIdeal.Value.run_blocks m g), ?_⟩
  refine (θ_run Cert.CrossRefIdeal.defs _ _).mono (fun r h c => ⟨(h c).1.trans ?_,
    (h c).2⟩) (Cert.CrossRefIdeal.RefValue.run_arrays m' g')
  simp only [hagree c]

/-- The memory projection reference runs to its end and leaves its arguments as they were. -/
theorem memKv_ref_frame : Cert.quiescent_MemKvRefIdeal (hMemKvRefIdeal := Cert.MemKvRefIdeal.Gen.facts) := by
  intro m g _
  refine (θ_run Cert.MemKvRefIdeal.defs _ _).mono (fun r h => ⟨fun c => (h c).2.2,
      sem_eq_zero_of_no_sems (by decide) r.2⟩) (Cert.MemKvRefIdeal.Value.run m g)

/-- The memory projection kernel and its reference return the same arrays. -/
theorem memKv_algebraic : Cert.algebraic_MemKvIdeal_MemKvRefIdeal (hMemKvIdeal := Cert.MemKvIdeal.Gen.facts)
    (hMemKvRefIdeal := Cert.MemKvRefIdeal.Gen.facts) := by
  intro m g m' g' _ hagree
  refine ⟨_, _, (θ_run Cert.MemKvIdeal.defs _ _).mono (fun r h c => ⟨(h c).1.trans (Cert.MemKvIdeal.Block.arr2_eq m c), (h c).2.1.trans (Cert.MemKvIdeal.Block.arr3_eq m c),
    (h c).2.2⟩) (Cert.MemKvIdeal.Value.run_blocks m g), ?_⟩
  refine (θ_run Cert.MemKvRefIdeal.defs _ _).mono (fun r h c => ⟨(h c).1.trans ?_, (h c).2.1.trans ?_,
    (h c).2.2⟩) (Cert.MemKvRefIdeal.RefValue.run_arrays m' g')
  all_goals simp only [hagree c]

/-- The input projection reference runs to its end and leaves its arguments as they were. -/
theorem proj_ref_frame : Cert.quiescent_ProjRefIdeal (hProjRefIdeal := Cert.ProjRefIdeal.Gen.facts) := by
  intro m g _
  refine (θ_run Cert.ProjRefIdeal.defs _ _).mono (fun r h => ⟨fun c => (h c).2,
      sem_eq_zero_of_no_sems (by decide) r.2⟩) (Cert.ProjRefIdeal.Value.run m g)

/-- The input projection kernel and its reference return the same array. -/
theorem proj_algebraic : Cert.algebraic_ProjIdeal_ProjRefIdeal (hProjIdeal := Cert.ProjIdeal.Gen.facts)
    (hProjRefIdeal := Cert.ProjRefIdeal.Gen.facts) := by
  intro m g m' g' _ hagree
  refine ⟨_, (θ_run Cert.ProjIdeal.defs _ _).mono (fun r h c => ⟨(h c).1.trans (Cert.ProjIdeal.Block.arr_eq m c),
    (h c).2⟩) (Cert.ProjIdeal.Value.run_blocks m g), ?_⟩
  refine (θ_run Cert.ProjRefIdeal.defs _ _).mono (fun r h c => ⟨(h c).1.trans ?_,
    (h c).2⟩) (Cert.ProjRefIdeal.RefValue.run_arrays m' g')
  simp only [hagree c]

/-- The prompt norm reference runs to its end and leaves its arguments as they were. -/
theorem norm_ref_frame : Cert.quiescent_NormRefIdeal (hNormRefIdeal := Cert.NormRefIdeal.Gen.facts) := by
  intro m g _
  refine (θ_run Cert.NormRefIdeal.defs _ _).mono (fun r h => ⟨fun c => (h c).2,
      sem_eq_zero_of_no_sems (by decide) r.2⟩) (Cert.NormRefIdeal.Value.run m g)

/-- The prompt norm kernel and its reference return the same array. -/
theorem norm_algebraic : Cert.algebraic_NormIdeal_NormRefIdeal (hNormIdeal := Cert.NormIdeal.Gen.facts)
    (hNormRefIdeal := Cert.NormRefIdeal.Gen.facts) := by
  intro m g m' g' _ hagree
  refine ⟨_, (θ_run Cert.NormIdeal.defs _ _).mono (fun r h c => ⟨(h c).1.trans (Cert.NormIdeal.Block.arr_eq m c),
    (h c).2⟩) (Cert.NormIdeal.Value.run_blocks m g), ?_⟩
  refine (θ_run Cert.NormRefIdeal.defs _ _).mono (fun r h c => ⟨(h c).1.trans ?_,
    (h c).2⟩) (Cert.NormRefIdeal.RefValue.run_arrays m' g')
  simp only [hagree c]

/-- The sample norm reference runs to its end and leaves its arguments as they were. -/
theorem rowNorm_ref_frame : Cert.quiescent_RowNormRefIdeal (hRowNormRefIdeal := Cert.RowNormRefIdeal.Gen.facts) := by
  intro m g _
  refine (θ_run Cert.RowNormRefIdeal.defs _ _).mono (fun r h => ⟨fun c => (h c).2,
      sem_eq_zero_of_no_sems (by decide) r.2⟩) (Cert.RowNormRefIdeal.Value.run m g)

/-- The sample norm kernel and its reference return the same array. -/
theorem rowNorm_algebraic : Cert.algebraic_RowNormIdeal_RowNormRefIdeal (hRowNormIdeal := Cert.RowNormIdeal.Gen.facts)
    (hRowNormRefIdeal := Cert.RowNormRefIdeal.Gen.facts) := by
  intro m g m' g' _ hagree
  refine ⟨_, (θ_run Cert.RowNormIdeal.defs _ _).mono (fun r h c => ⟨(h c).1.trans (Cert.RowNormIdeal.Block.arr_eq m c),
    (h c).2⟩) (Cert.RowNormIdeal.Value.run_blocks m g), ?_⟩
  refine (θ_run Cert.RowNormRefIdeal.defs _ _).mono (fun r h c => ⟨(h c).1.trans ?_,
    (h c).2⟩) (Cert.RowNormRefIdeal.RefValue.run_arrays m' g')
  simp only [hagree c]

/-- The sample feed-forward reference runs to its end and leaves its arguments as they were. -/
theorem sampleFfn_ref_frame : Cert.quiescent_SampleFfnRefIdeal (hSampleFfnRefIdeal := Cert.SampleFfnRefIdeal.Gen.facts) := by
  intro m g _
  refine (θ_run Cert.SampleFfnRefIdeal.defs _ _).mono (fun r h => ⟨fun c => (h c).2.2,
      sem_eq_zero_of_no_sems (by decide) r.2⟩) (Cert.SampleFfnRefIdeal.Value.run m g)

/-- The sample feed-forward kernel and its reference return the same arrays. -/
theorem sampleFfn_algebraic : Cert.algebraic_SampleFfnIdeal_SampleFfnRefIdeal (hSampleFfnIdeal := Cert.SampleFfnIdeal.Gen.facts)
    (hSampleFfnRefIdeal := Cert.SampleFfnRefIdeal.Gen.facts) := by
  intro m g m' g' _ hagree
  refine ⟨_, _, (θ_run Cert.SampleFfnIdeal.defs _ _).mono (fun r h c => ⟨(h c).1.trans (Cert.SampleFfnIdeal.Block.outArr_eq m c), (h c).2.1.trans (Cert.SampleFfnIdeal.Block.bufArr_eq m c),
    (h c).2.2⟩) (Cert.SampleFfnIdeal.Value.run_blocks m g), ?_⟩
  refine (θ_run Cert.SampleFfnRefIdeal.defs _ _).mono (fun r h c => ⟨(h c).1.trans ?_, (h c).2.1.trans ?_,
    (h c).2.2⟩) (Cert.SampleFfnRefIdeal.RefValue.run_arrays m' g')
  all_goals simp only [hagree c]

/-- The recurrence reference runs to its end and leaves its arguments as they were. -/
theorem s5_ref_frame : Cert.quiescent_S5RefIdeal (hS5RefIdeal := Cert.S5RefIdeal.Gen.facts) := by
  intro m g _
  refine (θ_run Cert.S5RefIdeal.defs _ _).mono (fun r h => ⟨fun c => (h c).2.2.2,
      sem_eq_zero_of_no_sems (by decide) r.2⟩) (Cert.S5RefIdeal.Value.run m g)

/-- The recurrence kernel and its reference return the same arrays. -/
theorem s5_algebraic : Cert.algebraic_S5Ideal_S5RefIdeal (hS5Ideal := Cert.S5Ideal.Gen.facts)
    (hS5RefIdeal := Cert.S5RefIdeal.Gen.facts) := by
  intro m g m' g' _ hagree
  refine ⟨_, _, _, (θ_run Cert.S5Ideal.defs _ _).mono (fun r h c => ⟨(h c).1.trans (Cert.S5Ideal.Block.outArr_eq m c), (h c).2.1.trans (Cert.S5Ideal.Block.reArr_eq m c), (h c).2.2.1.trans (Cert.S5Ideal.Block.imArr_eq m c),
    (h c).2.2.2⟩) (Cert.S5Ideal.Value.run_blocks m g), ?_⟩
  refine (θ_run Cert.S5RefIdeal.defs _ _).mono (fun r h c => ⟨(h c).1.trans ?_, (h c).2.1.trans ?_, (h c).2.2.1.trans ?_,
    (h c).2.2.2⟩) (Cert.S5RefIdeal.RefValue.run_arrays m' g')
  all_goals simp only [Cert.S5RefIdeal.RefValue.args, Cert.S5Ideal.Block.args, hagree c]

/-- All claims. -/
theorem claim : Cert.Claim := ⟨
  Cert.Ffn.Gen.facts, Cert.FfnIdeal.Gen.facts, Cert.FfnRefIdeal.Gen.facts,
  Cert.Cross.Gen.facts, Cert.CrossIdeal.Gen.facts, Cert.CrossRefIdeal.Gen.facts,
  Cert.MemKv.Gen.facts, Cert.MemKvIdeal.Gen.facts, Cert.MemKvRefIdeal.Gen.facts,
  Cert.Proj.Gen.facts, Cert.ProjIdeal.Gen.facts, Cert.ProjRefIdeal.Gen.facts,
  Cert.Norm.Gen.facts, Cert.NormIdeal.Gen.facts, Cert.NormRefIdeal.Gen.facts,
  Cert.RowNorm.Gen.facts, Cert.RowNormIdeal.Gen.facts, Cert.RowNormRefIdeal.Gen.facts,
  Cert.SampleFfn.Gen.facts, Cert.SampleFfnIdeal.Gen.facts, Cert.SampleFfnRefIdeal.Gen.facts,
  Cert.S5.Gen.facts, Cert.S5Ideal.Gen.facts, Cert.S5RefIdeal.Gen.facts,
  fun m ρ _ => Cert.Ffn.Gen.frame m ρ, fun m ρ _ => Cert.FfnIdeal.Gen.frame m ρ, ffn_ref_frame,
  fun m ρ _ => Cert.Cross.Gen.frame m ρ, fun m ρ _ => Cert.CrossIdeal.Gen.frame m ρ, cross_ref_frame,
  fun m ρ _ => Cert.MemKv.Gen.frame m ρ, fun m ρ _ => Cert.MemKvIdeal.Gen.frame m ρ, memKv_ref_frame,
  fun m ρ _ => Cert.Proj.Gen.frame m ρ, fun m ρ _ => Cert.ProjIdeal.Gen.frame m ρ, proj_ref_frame,
  fun m ρ _ => Cert.Norm.Gen.frame m ρ, fun m ρ _ => Cert.NormIdeal.Gen.frame m ρ, norm_ref_frame,
  fun m ρ _ => Cert.RowNorm.Gen.frame m ρ, fun m ρ _ => Cert.RowNormIdeal.Gen.frame m ρ, rowNorm_ref_frame,
  fun m ρ _ => Cert.SampleFfn.Gen.frame m ρ, fun m ρ _ => Cert.SampleFfnIdeal.Gen.frame m ρ, sampleFfn_ref_frame,
  fun m ρ _ => Cert.S5.Gen.frame m ρ, fun m ρ _ => Cert.S5Ideal.Gen.frame m ρ, s5_ref_frame,
  trivial, ffn_algebraic,
  trivial, cross_algebraic,
  trivial, memKv_algebraic,
  trivial, proj_algebraic,
  trivial, norm_algebraic,
  trivial, rowNorm_algebraic,
  trivial, sampleFfn_algebraic,
  trivial, s5_algebraic⟩

end Cert.Proof

end
